-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x256x64 : Shape := ⟨4, ![2, 128, 256, 64]⟩
abbrev S_ : Shape := ⟨0, ![]⟩
abbrev S2x128x8x64 : Shape := ⟨4, ![2, 128, 8, 64]⟩
abbrev S256x512 : Shape := ⟨2, ![256, 512]⟩
abbrev S32x8x512 : Shape := ⟨3, ![32, 8, 512]⟩
abbrev S8x512 : Shape := ⟨2, ![8, 512]⟩
abbrev S32 : Shape := ⟨1, ![32]⟩
abbrev S2 : Shape := ⟨1, ![2]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x8x512 : Shape := ⟨3, ![1, 8, 512]⟩

abbrev nBuf : Space → Nat
  | .hbm => 34
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x256x64, .bf16⟩
  | .hbm, ⟨3, _⟩ => ⟨S2x128x256x64, .bf16⟩
  | .hbm, ⟨4, _⟩ => ⟨S512x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x8x64, .bf16⟩
  | .hbm, ⟨33, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S2x128x512, .f32⟩
  | .local _ .vmem, ⟨6, _⟩ => ⟨S256x512, .f32⟩
  | .local _ .vmem, ⟨7, _⟩ => ⟨S32x8x512, .f32⟩
  | .local _ .vmem, ⟨8, _⟩ => ⟨S8x512, .f32⟩
  | .local _ .vmem, ⟨9, _⟩ => ⟨S256x512, .bf16⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1011 : BitVec 32 := 0#32
  let c0_i32_1009 : BitVec 32 := 0#32
  let c1_i32_1010 : BitVec 32 := 1#32
  let v1127 : BitVec 32 := Scalar.muli c0_i32_1009 c1_i32_1010
  let v1128 : BitVec 32 := Scalar.addi c0_i32_1011 v1127
  v1128.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1011 : BitVec 32 := 0#32
  let c1_i32_1009 : BitVec 32 := 1#32
  let c1_i32_1010 : BitVec 32 := 1#32
  let v1127 : BitVec 32 := Scalar.muli c1_i32_1009 c1_i32_1010
  let v1128 : BitVec 32 := Scalar.addi c0_i32_1011 v1127
  v1128.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1011 : BitVec 32 := 0#32
  let c2_i32_1009 : BitVec 32 := 2#32
  let c1_i32_1010 : BitVec 32 := 1#32
  let v1127 : BitVec 32 := Scalar.muli c2_i32_1009 c1_i32_1010
  let v1128 : BitVec 32 := Scalar.addi c0_i32_1011 v1127
  v1128.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1011 : BitVec 32 := 0#32
  let c3_i32_1009 : BitVec 32 := 3#32
  let c1_i32_1010 : BitVec 32 := 1#32
  let v1127 : BitVec 32 := Scalar.muli c3_i32_1009 c1_i32_1010
  let v1128 : BitVec 32 := Scalar.addi c0_i32_1011 v1127
  v1128.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1011 : BitVec 32 := 0#32
  let c4_i32_1009 : BitVec 32 := 4#32
  let c1_i32_1010 : BitVec 32 := 1#32
  let v1127 : BitVec 32 := Scalar.muli c4_i32_1009 c1_i32_1010
  let v1128 : BitVec 32 := Scalar.addi c0_i32_1011 v1127
  v1128.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1011 : BitVec 32 := 0#32
  let c5_i32_1009 : BitVec 32 := 5#32
  let c1_i32_1010 : BitVec 32 := 1#32
  let v1127 : BitVec 32 := Scalar.muli c5_i32_1009 c1_i32_1010
  let v1128 : BitVec 32 := Scalar.addi c0_i32_1011 v1127
  v1128.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1011 : BitVec 32 := 0#32
  let c6_i32_1009 : BitVec 32 := 6#32
  let c1_i32_1010 : BitVec 32 := 1#32
  let v1127 : BitVec 32 := Scalar.muli c6_i32_1009 c1_i32_1010
  let v1128 : BitVec 32 := Scalar.addi c0_i32_1011 v1127
  v1128.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1011 : BitVec 32 := 0#32
  let c7_i32_1009 : BitVec 32 := 7#32
  let c1_i32_1010 : BitVec 32 := 1#32
  let v1127 : BitVec 32 := Scalar.muli c7_i32_1009 c1_i32_1010
  let v1128 : BitVec 32 := Scalar.addi c0_i32_1011 v1127
  v1128.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1011 : BitVec 32 := 0#32
  let c8_i32_1009 : BitVec 32 := 8#32
  let c1_i32_1010 : BitVec 32 := 1#32
  let v1127 : BitVec 32 := Scalar.muli c8_i32_1009 c1_i32_1010
  let v1128 : BitVec 32 := Scalar.addi c0_i32_1011 v1127
  v1128.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1011 : BitVec 32 := 0#32
  let c9_i32_1009 : BitVec 32 := 9#32
  let c1_i32_1010 : BitVec 32 := 1#32
  let v1127 : BitVec 32 := Scalar.muli c9_i32_1009 c1_i32_1010
  let v1128 : BitVec 32 := Scalar.addi c0_i32_1011 v1127
  v1128.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1011 : BitVec 32 := 0#32
  let c10_i32_1009 : BitVec 32 := 10#32
  let c1_i32_1010 : BitVec 32 := 1#32
  let v1127 : BitVec 32 := Scalar.muli c10_i32_1009 c1_i32_1010
  let v1128 : BitVec 32 := Scalar.addi c0_i32_1011 v1127
  v1128.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1011 : BitVec 32 := 0#32
  let c11_i32_1009 : BitVec 32 := 11#32
  let c1_i32_1010 : BitVec 32 := 1#32
  let v1127 : BitVec 32 := Scalar.muli c11_i32_1009 c1_i32_1010
  let v1128 : BitVec 32 := Scalar.addi c0_i32_1011 v1127
  v1128.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1011 : BitVec 32 := 0#32
  let c12_i32_1009 : BitVec 32 := 12#32
  let c1_i32_1010 : BitVec 32 := 1#32
  let v1127 : BitVec 32 := Scalar.muli c12_i32_1009 c1_i32_1010
  let v1128 : BitVec 32 := Scalar.addi c0_i32_1011 v1127
  v1128.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1011 : BitVec 32 := 0#32
  let c13_i32_1009 : BitVec 32 := 13#32
  let c1_i32_1010 : BitVec 32 := 1#32
  let v1127 : BitVec 32 := Scalar.muli c13_i32_1009 c1_i32_1010
  let v1128 : BitVec 32 := Scalar.addi c0_i32_1011 v1127
  v1128.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1011 : BitVec 32 := 0#32
  let c14_i32_1009 : BitVec 32 := 14#32
  let c1_i32_1010 : BitVec 32 := 1#32
  let v1127 : BitVec 32 := Scalar.muli c14_i32_1009 c1_i32_1010
  let v1128 : BitVec 32 := Scalar.addi c0_i32_1011 v1127
  v1128.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1011 : BitVec 32 := 0#32
  let c15_i32_1009 : BitVec 32 := 15#32
  let c1_i32_1010 : BitVec 32 := 1#32
  let v1127 : BitVec 32 := Scalar.muli c15_i32_1009 c1_i32_1010
  let v1128 : BitVec 32 := Scalar.addi c0_i32_1011 v1127
  v1128.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_1011 : BitVec 32 := 0#32
  let c16_i32_1009 : BitVec 32 := 16#32
  let c1_i32_1010 : BitVec 32 := 1#32
  let v1127 : BitVec 32 := Scalar.muli c16_i32_1009 c1_i32_1010
  let v1128 : BitVec 32 := Scalar.addi c0_i32_1011 v1127
  v1128.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_1011 : BitVec 32 := 0#32
  let c17_i32_1009 : BitVec 32 := 17#32
  let c1_i32_1010 : BitVec 32 := 1#32
  let v1127 : BitVec 32 := Scalar.muli c17_i32_1009 c1_i32_1010
  let v1128 : BitVec 32 := Scalar.addi c0_i32_1011 v1127
  v1128.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_1011 : BitVec 32 := 0#32
  let c18_i32_1009 : BitVec 32 := 18#32
  let c1_i32_1010 : BitVec 32 := 1#32
  let v1127 : BitVec 32 := Scalar.muli c18_i32_1009 c1_i32_1010
  let v1128 : BitVec 32 := Scalar.addi c0_i32_1011 v1127
  v1128.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_1011 : BitVec 32 := 0#32
  let c19_i32_1009 : BitVec 32 := 19#32
  let c1_i32_1010 : BitVec 32 := 1#32
  let v1127 : BitVec 32 := Scalar.muli c19_i32_1009 c1_i32_1010
  let v1128 : BitVec 32 := Scalar.addi c0_i32_1011 v1127
  v1128.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_1011 : BitVec 32 := 0#32
  let c20_i32_1009 : BitVec 32 := 20#32
  let c1_i32_1010 : BitVec 32 := 1#32
  let v1127 : BitVec 32 := Scalar.muli c20_i32_1009 c1_i32_1010
  let v1128 : BitVec 32 := Scalar.addi c0_i32_1011 v1127
  v1128.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_1011 : BitVec 32 := 0#32
  let c21_i32_1009 : BitVec 32 := 21#32
  let c1_i32_1010 : BitVec 32 := 1#32
  let v1127 : BitVec 32 := Scalar.muli c21_i32_1009 c1_i32_1010
  let v1128 : BitVec 32 := Scalar.addi c0_i32_1011 v1127
  v1128.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_1011 : BitVec 32 := 0#32
  let c22_i32_1009 : BitVec 32 := 22#32
  let c1_i32_1010 : BitVec 32 := 1#32
  let v1127 : BitVec 32 := Scalar.muli c22_i32_1009 c1_i32_1010
  let v1128 : BitVec 32 := Scalar.addi c0_i32_1011 v1127
  v1128.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_1011 : BitVec 32 := 0#32
  let c23_i32_1009 : BitVec 32 := 23#32
  let c1_i32_1010 : BitVec 32 := 1#32
  let v1127 : BitVec 32 := Scalar.muli c23_i32_1009 c1_i32_1010
  let v1128 : BitVec 32 := Scalar.addi c0_i32_1011 v1127
  v1128.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_1011 : BitVec 32 := 0#32
  let c24_i32_1009 : BitVec 32 := 24#32
  let c1_i32_1010 : BitVec 32 := 1#32
  let v1127 : BitVec 32 := Scalar.muli c24_i32_1009 c1_i32_1010
  let v1128 : BitVec 32 := Scalar.addi c0_i32_1011 v1127
  v1128.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_1011 : BitVec 32 := 0#32
  let c25_i32_1009 : BitVec 32 := 25#32
  let c1_i32_1010 : BitVec 32 := 1#32
  let v1127 : BitVec 32 := Scalar.muli c25_i32_1009 c1_i32_1010
  let v1128 : BitVec 32 := Scalar.addi c0_i32_1011 v1127
  v1128.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_1011 : BitVec 32 := 0#32
  let c26_i32_1009 : BitVec 32 := 26#32
  let c1_i32_1010 : BitVec 32 := 1#32
  let v1127 : BitVec 32 := Scalar.muli c26_i32_1009 c1_i32_1010
  let v1128 : BitVec 32 := Scalar.addi c0_i32_1011 v1127
  v1128.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_1011 : BitVec 32 := 0#32
  let c27_i32_1009 : BitVec 32 := 27#32
  let c1_i32_1010 : BitVec 32 := 1#32
  let v1127 : BitVec 32 := Scalar.muli c27_i32_1009 c1_i32_1010
  let v1128 : BitVec 32 := Scalar.addi c0_i32_1011 v1127
  v1128.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_1011 : BitVec 32 := 0#32
  let c28_i32_1009 : BitVec 32 := 28#32
  let c1_i32_1010 : BitVec 32 := 1#32
  let v1127 : BitVec 32 := Scalar.muli c28_i32_1009 c1_i32_1010
  let v1128 : BitVec 32 := Scalar.addi c0_i32_1011 v1127
  v1128.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_1011 : BitVec 32 := 0#32
  let c29_i32_1009 : BitVec 32 := 29#32
  let c1_i32_1010 : BitVec 32 := 1#32
  let v1127 : BitVec 32 := Scalar.muli c29_i32_1009 c1_i32_1010
  let v1128 : BitVec 32 := Scalar.addi c0_i32_1011 v1127
  v1128.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_1011 : BitVec 32 := 0#32
  let c30_i32_1009 : BitVec 32 := 30#32
  let c1_i32_1010 : BitVec 32 := 1#32
  let v1127 : BitVec 32 := Scalar.muli c30_i32_1009 c1_i32_1010
  let v1128 : BitVec 32 := Scalar.addi c0_i32_1011 v1127
  v1128.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_1011 : BitVec 32 := 0#32
  let c31_i32_1009 : BitVec 32 := 31#32
  let c1_i32_1010 : BitVec 32 := 1#32
  let v1127 : BitVec 32 := Scalar.muli c31_i32_1009 c1_i32_1010
  let v1128 : BitVec 32 := Scalar.addi c0_i32_1011 v1127
  v1128.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v497 : BitVec 1 := Scalar.cmpi .ne v2 c0_i32_271
  let v498 : BitVec 32 := Scalar.extui v497
  let c0_i32_273 : BitVec 32 := 0#32
  let v499 : BitVec 1 := Scalar.cmpi .ne v498 c0_i32_273
  v499

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev33 : Nat :=
  let c0_i32_1010 : BitVec 32 := 0#32
  let c0_i32_1008 : BitVec 32 := 0#32
  let c1_i32_1009 : BitVec 32 := 1#32
  let v1127 : BitVec 32 := Scalar.muli c0_i32_1008 c1_i32_1009
  let v1128 : BitVec 32 := Scalar.addi c0_i32_1010 v1127
  v1128.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v500 : BitVec 1 := Scalar.cmpi .ne v2 c1_i32_274
  let v501 : BitVec 32 := Scalar.extui v500
  let c0_i32_276 : BitVec 32 := 0#32
  let v502 : BitVec 1 := Scalar.cmpi .ne v501 c0_i32_276
  v502

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev34 : Nat :=
  let c0_i32_1010 : BitVec 32 := 0#32
  let c1_i32_1008 : BitVec 32 := 1#32
  let c1_i32_1009 : BitVec 32 := 1#32
  let v1127 : BitVec 32 := Scalar.muli c1_i32_1008 c1_i32_1009
  let v1128 : BitVec 32 := Scalar.addi c0_i32_1010 v1127
  v1128.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_277 : BitVec 32 := 2#32
  let v503 : BitVec 1 := Scalar.cmpi .ne v2 c2_i32_277
  let v504 : BitVec 32 := Scalar.extui v503
  let c0_i32_279 : BitVec 32 := 0#32
  let v505 : BitVec 1 := Scalar.cmpi .ne v504 c0_i32_279
  v505

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev35 : Nat :=
  let c0_i32_1010 : BitVec 32 := 0#32
  let c2_i32_1008 : BitVec 32 := 2#32
  let c1_i32_1009 : BitVec 32 := 1#32
  let v1127 : BitVec 32 := Scalar.muli c2_i32_1008 c1_i32_1009
  let v1128 : BitVec 32 := Scalar.addi c0_i32_1010 v1127
  v1128.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_280 : BitVec 32 := 3#32
  let v506 : BitVec 1 := Scalar.cmpi .ne v2 c3_i32_280
  let v507 : BitVec 32 := Scalar.extui v506
  let c0_i32_282 : BitVec 32 := 0#32
  let v508 : BitVec 1 := Scalar.cmpi .ne v507 c0_i32_282
  v508

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev36 : Nat :=
  let c0_i32_1010 : BitVec 32 := 0#32
  let c3_i32_1008 : BitVec 32 := 3#32
  let c1_i32_1009 : BitVec 32 := 1#32
  let v1127 : BitVec 32 := Scalar.muli c3_i32_1008 c1_i32_1009
  let v1128 : BitVec 32 := Scalar.addi c0_i32_1010 v1127
  v1128.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_283 : BitVec 32 := 4#32
  let v509 : BitVec 1 := Scalar.cmpi .ne v2 c4_i32_283
  let v510 : BitVec 32 := Scalar.extui v509
  let c0_i32_285 : BitVec 32 := 0#32
  let v511 : BitVec 1 := Scalar.cmpi .ne v510 c0_i32_285
  v511

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev37 : Nat :=
  let c0_i32_1010 : BitVec 32 := 0#32
  let c4_i32_1008 : BitVec 32 := 4#32
  let c1_i32_1009 : BitVec 32 := 1#32
  let v1127 : BitVec 32 := Scalar.muli c4_i32_1008 c1_i32_1009
  let v1128 : BitVec 32 := Scalar.addi c0_i32_1010 v1127
  v1128.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_286 : BitVec 32 := 5#32
  let v512 : BitVec 1 := Scalar.cmpi .ne v2 c5_i32_286
  let v513 : BitVec 32 := Scalar.extui v512
  let c0_i32_288 : BitVec 32 := 0#32
  let v514 : BitVec 1 := Scalar.cmpi .ne v513 c0_i32_288
  v514

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev38 : Nat :=
  let c0_i32_1010 : BitVec 32 := 0#32
  let c5_i32_1008 : BitVec 32 := 5#32
  let c1_i32_1009 : BitVec 32 := 1#32
  let v1127 : BitVec 32 := Scalar.muli c5_i32_1008 c1_i32_1009
  let v1128 : BitVec 32 := Scalar.addi c0_i32_1010 v1127
  v1128.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_289 : BitVec 32 := 6#32
  let v515 : BitVec 1 := Scalar.cmpi .ne v2 c6_i32_289
  let v516 : BitVec 32 := Scalar.extui v515
  let c0_i32_291 : BitVec 32 := 0#32
  let v517 : BitVec 1 := Scalar.cmpi .ne v516 c0_i32_291
  v517

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev39 : Nat :=
  let c0_i32_1010 : BitVec 32 := 0#32
  let c6_i32_1008 : BitVec 32 := 6#32
  let c1_i32_1009 : BitVec 32 := 1#32
  let v1127 : BitVec 32 := Scalar.muli c6_i32_1008 c1_i32_1009
  let v1128 : BitVec 32 := Scalar.addi c0_i32_1010 v1127
  v1128.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_292 : BitVec 32 := 7#32
  let v518 : BitVec 1 := Scalar.cmpi .ne v2 c7_i32_292
  let v519 : BitVec 32 := Scalar.extui v518
  let c0_i32_294 : BitVec 32 := 0#32
  let v520 : BitVec 1 := Scalar.cmpi .ne v519 c0_i32_294
  v520

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev40 : Nat :=
  let c0_i32_1010 : BitVec 32 := 0#32
  let c7_i32_1008 : BitVec 32 := 7#32
  let c1_i32_1009 : BitVec 32 := 1#32
  let v1127 : BitVec 32 := Scalar.muli c7_i32_1008 c1_i32_1009
  let v1128 : BitVec 32 := Scalar.addi c0_i32_1010 v1127
  v1128.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_295 : BitVec 32 := 8#32
  let v521 : BitVec 1 := Scalar.cmpi .ne v2 c8_i32_295
  let v522 : BitVec 32 := Scalar.extui v521
  let c0_i32_297 : BitVec 32 := 0#32
  let v523 : BitVec 1 := Scalar.cmpi .ne v522 c0_i32_297
  v523

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev41 : Nat :=
  let c0_i32_1010 : BitVec 32 := 0#32
  let c8_i32_1008 : BitVec 32 := 8#32
  let c1_i32_1009 : BitVec 32 := 1#32
  let v1127 : BitVec 32 := Scalar.muli c8_i32_1008 c1_i32_1009
  let v1128 : BitVec 32 := Scalar.addi c0_i32_1010 v1127
  v1128.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_298 : BitVec 32 := 9#32
  let v524 : BitVec 1 := Scalar.cmpi .ne v2 c9_i32_298
  let v525 : BitVec 32 := Scalar.extui v524
  let c0_i32_300 : BitVec 32 := 0#32
  let v526 : BitVec 1 := Scalar.cmpi .ne v525 c0_i32_300
  v526

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev42 : Nat :=
  let c0_i32_1010 : BitVec 32 := 0#32
  let c9_i32_1008 : BitVec 32 := 9#32
  let c1_i32_1009 : BitVec 32 := 1#32
  let v1127 : BitVec 32 := Scalar.muli c9_i32_1008 c1_i32_1009
  let v1128 : BitVec 32 := Scalar.addi c0_i32_1010 v1127
  v1128.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_301 : BitVec 32 := 10#32
  let v527 : BitVec 1 := Scalar.cmpi .ne v2 c10_i32_301
  let v528 : BitVec 32 := Scalar.extui v527
  let c0_i32_303 : BitVec 32 := 0#32
  let v529 : BitVec 1 := Scalar.cmpi .ne v528 c0_i32_303
  v529

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev43 : Nat :=
  let c0_i32_1010 : BitVec 32 := 0#32
  let c10_i32_1008 : BitVec 32 := 10#32
  let c1_i32_1009 : BitVec 32 := 1#32
  let v1127 : BitVec 32 := Scalar.muli c10_i32_1008 c1_i32_1009
  let v1128 : BitVec 32 := Scalar.addi c0_i32_1010 v1127
  v1128.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_304 : BitVec 32 := 11#32
  let v530 : BitVec 1 := Scalar.cmpi .ne v2 c11_i32_304
  let v531 : BitVec 32 := Scalar.extui v530
  let c0_i32_306 : BitVec 32 := 0#32
  let v532 : BitVec 1 := Scalar.cmpi .ne v531 c0_i32_306
  v532

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev44 : Nat :=
  let c0_i32_1010 : BitVec 32 := 0#32
  let c11_i32_1008 : BitVec 32 := 11#32
  let c1_i32_1009 : BitVec 32 := 1#32
  let v1127 : BitVec 32 := Scalar.muli c11_i32_1008 c1_i32_1009
  let v1128 : BitVec 32 := Scalar.addi c0_i32_1010 v1127
  v1128.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_307 : BitVec 32 := 12#32
  let v533 : BitVec 1 := Scalar.cmpi .ne v2 c12_i32_307
  let v534 : BitVec 32 := Scalar.extui v533
  let c0_i32_309 : BitVec 32 := 0#32
  let v535 : BitVec 1 := Scalar.cmpi .ne v534 c0_i32_309
  v535

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev45 : Nat :=
  let c0_i32_1010 : BitVec 32 := 0#32
  let c12_i32_1008 : BitVec 32 := 12#32
  let c1_i32_1009 : BitVec 32 := 1#32
  let v1127 : BitVec 32 := Scalar.muli c12_i32_1008 c1_i32_1009
  let v1128 : BitVec 32 := Scalar.addi c0_i32_1010 v1127
  v1128.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_310 : BitVec 32 := 13#32
  let v536 : BitVec 1 := Scalar.cmpi .ne v2 c13_i32_310
  let v537 : BitVec 32 := Scalar.extui v536
  let c0_i32_312 : BitVec 32 := 0#32
  let v538 : BitVec 1 := Scalar.cmpi .ne v537 c0_i32_312
  v538

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev46 : Nat :=
  let c0_i32_1010 : BitVec 32 := 0#32
  let c13_i32_1008 : BitVec 32 := 13#32
  let c1_i32_1009 : BitVec 32 := 1#32
  let v1127 : BitVec 32 := Scalar.muli c13_i32_1008 c1_i32_1009
  let v1128 : BitVec 32 := Scalar.addi c0_i32_1010 v1127
  v1128.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_313 : BitVec 32 := 14#32
  let v539 : BitVec 1 := Scalar.cmpi .ne v2 c14_i32_313
  let v540 : BitVec 32 := Scalar.extui v539
  let c0_i32_315 : BitVec 32 := 0#32
  let v541 : BitVec 1 := Scalar.cmpi .ne v540 c0_i32_315
  v541

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev47 : Nat :=
  let c0_i32_1010 : BitVec 32 := 0#32
  let c14_i32_1008 : BitVec 32 := 14#32
  let c1_i32_1009 : BitVec 32 := 1#32
  let v1127 : BitVec 32 := Scalar.muli c14_i32_1008 c1_i32_1009
  let v1128 : BitVec 32 := Scalar.addi c0_i32_1010 v1127
  v1128.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_316 : BitVec 32 := 15#32
  let v542 : BitVec 1 := Scalar.cmpi .ne v2 c15_i32_316
  let v543 : BitVec 32 := Scalar.extui v542
  let c0_i32_318 : BitVec 32 := 0#32
  let v544 : BitVec 1 := Scalar.cmpi .ne v543 c0_i32_318
  v544

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev48 : Nat :=
  let c0_i32_1010 : BitVec 32 := 0#32
  let c15_i32_1008 : BitVec 32 := 15#32
  let c1_i32_1009 : BitVec 32 := 1#32
  let v1127 : BitVec 32 := Scalar.muli c15_i32_1008 c1_i32_1009
  let v1128 : BitVec 32 := Scalar.addi c0_i32_1010 v1127
  v1128.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_319 : BitVec 32 := 16#32
  let v545 : BitVec 1 := Scalar.cmpi .ne v2 c16_i32_319
  let v546 : BitVec 32 := Scalar.extui v545
  let c0_i32_321 : BitVec 32 := 0#32
  let v547 : BitVec 1 := Scalar.cmpi .ne v546 c0_i32_321
  v547

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev49 : Nat :=
  let c0_i32_1010 : BitVec 32 := 0#32
  let c16_i32_1008 : BitVec 32 := 16#32
  let c1_i32_1009 : BitVec 32 := 1#32
  let v1127 : BitVec 32 := Scalar.muli c16_i32_1008 c1_i32_1009
  let v1128 : BitVec 32 := Scalar.addi c0_i32_1010 v1127
  v1128.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_322 : BitVec 32 := 17#32
  let v548 : BitVec 1 := Scalar.cmpi .ne v2 c17_i32_322
  let v549 : BitVec 32 := Scalar.extui v548
  let c0_i32_324 : BitVec 32 := 0#32
  let v550 : BitVec 1 := Scalar.cmpi .ne v549 c0_i32_324
  v550

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev50 : Nat :=
  let c0_i32_1010 : BitVec 32 := 0#32
  let c17_i32_1008 : BitVec 32 := 17#32
  let c1_i32_1009 : BitVec 32 := 1#32
  let v1127 : BitVec 32 := Scalar.muli c17_i32_1008 c1_i32_1009
  let v1128 : BitVec 32 := Scalar.addi c0_i32_1010 v1127
  v1128.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_325 : BitVec 32 := 18#32
  let v551 : BitVec 1 := Scalar.cmpi .ne v2 c18_i32_325
  let v552 : BitVec 32 := Scalar.extui v551
  let c0_i32_327 : BitVec 32 := 0#32
  let v553 : BitVec 1 := Scalar.cmpi .ne v552 c0_i32_327
  v553

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev51 : Nat :=
  let c0_i32_1010 : BitVec 32 := 0#32
  let c18_i32_1008 : BitVec 32 := 18#32
  let c1_i32_1009 : BitVec 32 := 1#32
  let v1127 : BitVec 32 := Scalar.muli c18_i32_1008 c1_i32_1009
  let v1128 : BitVec 32 := Scalar.addi c0_i32_1010 v1127
  v1128.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_328 : BitVec 32 := 19#32
  let v554 : BitVec 1 := Scalar.cmpi .ne v2 c19_i32_328
  let v555 : BitVec 32 := Scalar.extui v554
  let c0_i32_330 : BitVec 32 := 0#32
  let v556 : BitVec 1 := Scalar.cmpi .ne v555 c0_i32_330
  v556

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev52 : Nat :=
  let c0_i32_1010 : BitVec 32 := 0#32
  let c19_i32_1008 : BitVec 32 := 19#32
  let c1_i32_1009 : BitVec 32 := 1#32
  let v1127 : BitVec 32 := Scalar.muli c19_i32_1008 c1_i32_1009
  let v1128 : BitVec 32 := Scalar.addi c0_i32_1010 v1127
  v1128.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_331 : BitVec 32 := 20#32
  let v557 : BitVec 1 := Scalar.cmpi .ne v2 c20_i32_331
  let v558 : BitVec 32 := Scalar.extui v557
  let c0_i32_333 : BitVec 32 := 0#32
  let v559 : BitVec 1 := Scalar.cmpi .ne v558 c0_i32_333
  v559

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev53 : Nat :=
  let c0_i32_1010 : BitVec 32 := 0#32
  let c20_i32_1008 : BitVec 32 := 20#32
  let c1_i32_1009 : BitVec 32 := 1#32
  let v1127 : BitVec 32 := Scalar.muli c20_i32_1008 c1_i32_1009
  let v1128 : BitVec 32 := Scalar.addi c0_i32_1010 v1127
  v1128.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_334 : BitVec 32 := 21#32
  let v560 : BitVec 1 := Scalar.cmpi .ne v2 c21_i32_334
  let v561 : BitVec 32 := Scalar.extui v560
  let c0_i32_336 : BitVec 32 := 0#32
  let v562 : BitVec 1 := Scalar.cmpi .ne v561 c0_i32_336
  v562

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev54 : Nat :=
  let c0_i32_1010 : BitVec 32 := 0#32
  let c21_i32_1008 : BitVec 32 := 21#32
  let c1_i32_1009 : BitVec 32 := 1#32
  let v1127 : BitVec 32 := Scalar.muli c21_i32_1008 c1_i32_1009
  let v1128 : BitVec 32 := Scalar.addi c0_i32_1010 v1127
  v1128.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_337 : BitVec 32 := 22#32
  let v563 : BitVec 1 := Scalar.cmpi .ne v2 c22_i32_337
  let v564 : BitVec 32 := Scalar.extui v563
  let c0_i32_339 : BitVec 32 := 0#32
  let v565 : BitVec 1 := Scalar.cmpi .ne v564 c0_i32_339
  v565

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev55 : Nat :=
  let c0_i32_1010 : BitVec 32 := 0#32
  let c22_i32_1008 : BitVec 32 := 22#32
  let c1_i32_1009 : BitVec 32 := 1#32
  let v1127 : BitVec 32 := Scalar.muli c22_i32_1008 c1_i32_1009
  let v1128 : BitVec 32 := Scalar.addi c0_i32_1010 v1127
  v1128.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_340 : BitVec 32 := 23#32
  let v566 : BitVec 1 := Scalar.cmpi .ne v2 c23_i32_340
  let v567 : BitVec 32 := Scalar.extui v566
  let c0_i32_342 : BitVec 32 := 0#32
  let v568 : BitVec 1 := Scalar.cmpi .ne v567 c0_i32_342
  v568

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev56 : Nat :=
  let c0_i32_1010 : BitVec 32 := 0#32
  let c23_i32_1008 : BitVec 32 := 23#32
  let c1_i32_1009 : BitVec 32 := 1#32
  let v1127 : BitVec 32 := Scalar.muli c23_i32_1008 c1_i32_1009
  let v1128 : BitVec 32 := Scalar.addi c0_i32_1010 v1127
  v1128.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_343 : BitVec 32 := 24#32
  let v569 : BitVec 1 := Scalar.cmpi .ne v2 c24_i32_343
  let v570 : BitVec 32 := Scalar.extui v569
  let c0_i32_345 : BitVec 32 := 0#32
  let v571 : BitVec 1 := Scalar.cmpi .ne v570 c0_i32_345
  v571

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev57 : Nat :=
  let c0_i32_1010 : BitVec 32 := 0#32
  let c24_i32_1008 : BitVec 32 := 24#32
  let c1_i32_1009 : BitVec 32 := 1#32
  let v1127 : BitVec 32 := Scalar.muli c24_i32_1008 c1_i32_1009
  let v1128 : BitVec 32 := Scalar.addi c0_i32_1010 v1127
  v1128.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_346 : BitVec 32 := 25#32
  let v572 : BitVec 1 := Scalar.cmpi .ne v2 c25_i32_346
  let v573 : BitVec 32 := Scalar.extui v572
  let c0_i32_348 : BitVec 32 := 0#32
  let v574 : BitVec 1 := Scalar.cmpi .ne v573 c0_i32_348
  v574

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev58 : Nat :=
  let c0_i32_1010 : BitVec 32 := 0#32
  let c25_i32_1008 : BitVec 32 := 25#32
  let c1_i32_1009 : BitVec 32 := 1#32
  let v1127 : BitVec 32 := Scalar.muli c25_i32_1008 c1_i32_1009
  let v1128 : BitVec 32 := Scalar.addi c0_i32_1010 v1127
  v1128.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_349 : BitVec 32 := 26#32
  let v575 : BitVec 1 := Scalar.cmpi .ne v2 c26_i32_349
  let v576 : BitVec 32 := Scalar.extui v575
  let c0_i32_351 : BitVec 32 := 0#32
  let v577 : BitVec 1 := Scalar.cmpi .ne v576 c0_i32_351
  v577

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev59 : Nat :=
  let c0_i32_1010 : BitVec 32 := 0#32
  let c26_i32_1008 : BitVec 32 := 26#32
  let c1_i32_1009 : BitVec 32 := 1#32
  let v1127 : BitVec 32 := Scalar.muli c26_i32_1008 c1_i32_1009
  let v1128 : BitVec 32 := Scalar.addi c0_i32_1010 v1127
  v1128.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_352 : BitVec 32 := 27#32
  let v578 : BitVec 1 := Scalar.cmpi .ne v2 c27_i32_352
  let v579 : BitVec 32 := Scalar.extui v578
  let c0_i32_354 : BitVec 32 := 0#32
  let v580 : BitVec 1 := Scalar.cmpi .ne v579 c0_i32_354
  v580

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev60 : Nat :=
  let c0_i32_1010 : BitVec 32 := 0#32
  let c27_i32_1008 : BitVec 32 := 27#32
  let c1_i32_1009 : BitVec 32 := 1#32
  let v1127 : BitVec 32 := Scalar.muli c27_i32_1008 c1_i32_1009
  let v1128 : BitVec 32 := Scalar.addi c0_i32_1010 v1127
  v1128.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_355 : BitVec 32 := 28#32
  let v581 : BitVec 1 := Scalar.cmpi .ne v2 c28_i32_355
  let v582 : BitVec 32 := Scalar.extui v581
  let c0_i32_357 : BitVec 32 := 0#32
  let v583 : BitVec 1 := Scalar.cmpi .ne v582 c0_i32_357
  v583

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev61 : Nat :=
  let c0_i32_1010 : BitVec 32 := 0#32
  let c28_i32_1008 : BitVec 32 := 28#32
  let c1_i32_1009 : BitVec 32 := 1#32
  let v1127 : BitVec 32 := Scalar.muli c28_i32_1008 c1_i32_1009
  let v1128 : BitVec 32 := Scalar.addi c0_i32_1010 v1127
  v1128.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_358 : BitVec 32 := 29#32
  let v584 : BitVec 1 := Scalar.cmpi .ne v2 c29_i32_358
  let v585 : BitVec 32 := Scalar.extui v584
  let c0_i32_360 : BitVec 32 := 0#32
  let v586 : BitVec 1 := Scalar.cmpi .ne v585 c0_i32_360
  v586

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev62 : Nat :=
  let c0_i32_1010 : BitVec 32 := 0#32
  let c29_i32_1008 : BitVec 32 := 29#32
  let c1_i32_1009 : BitVec 32 := 1#32
  let v1127 : BitVec 32 := Scalar.muli c29_i32_1008 c1_i32_1009
  let v1128 : BitVec 32 := Scalar.addi c0_i32_1010 v1127
  v1128.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_361 : BitVec 32 := 30#32
  let v587 : BitVec 1 := Scalar.cmpi .ne v2 c30_i32_361
  let v588 : BitVec 32 := Scalar.extui v587
  let c0_i32_363 : BitVec 32 := 0#32
  let v589 : BitVec 1 := Scalar.cmpi .ne v588 c0_i32_363
  v589

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev63 : Nat :=
  let c0_i32_1010 : BitVec 32 := 0#32
  let c30_i32_1008 : BitVec 32 := 30#32
  let c1_i32_1009 : BitVec 32 := 1#32
  let v1127 : BitVec 32 := Scalar.muli c30_i32_1008 c1_i32_1009
  let v1128 : BitVec 32 := Scalar.addi c0_i32_1010 v1127
  v1128.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_364 : BitVec 32 := 31#32
  let v590 : BitVec 1 := Scalar.cmpi .ne v2 c31_i32_364
  let v591 : BitVec 32 := Scalar.extui v590
  let c0_i32_366 : BitVec 32 := 0#32
  let v592 : BitVec 1 := Scalar.cmpi .ne v591 c0_i32_366
  v592

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_dev64 : Nat :=
  let c0_i32_1010 : BitVec 32 := 0#32
  let c31_i32_1008 : BitVec 32 := 31#32
  let c1_i32_1009 : BitVec 32 := 1#32
  let v1127 : BitVec 32 := Scalar.muli c31_i32_1008 c1_i32_1009
  let v1128 : BitVec 32 := Scalar.addi c0_i32_1010 v1127
  v1128.toNat
def k0_mult1 (d0 : Dev nD) : BitVec 32 :=
  let c8_i32_367 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v593 : BitVec 32 := Scalar.muli c8_i32_367 v2
  v593
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_369 : BitVec 32 := 0#32
  let c0_i32_370 : BitVec 32 := 0#32
  ![v2.toNat, 0, 0]
def k0_off66 (d0 : Dev nD) : Fin 2 → Nat :=
  let c8_i32_367 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v593 : BitVec 32 := Scalar.muli c8_i32_367 v2
  let v594 : BitVec 32 := v593
  let c0_i32_371 : BitVec 32 := 0#32
  ![v594.toNat, 0]
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  v733
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_556 : BitVec 32 := 0#32
  let v735 : BitVec 1 := Scalar.cmpi .ne v2 c0_i32_556
  let v736 : BitVec 32 := Scalar.extui v735
  let c0_i32_558 : BitVec 32 := 0#32
  let v737 : BitVec 1 := Scalar.cmpi .ne v736 c0_i32_558
  v737

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev65 : Nat :=
  let c0_i32_1010 : BitVec 32 := 0#32
  let c0_i32_1008 : BitVec 32 := 0#32
  let c1_i32_1009 : BitVec 32 := 1#32
  let v1127 : BitVec 32 := Scalar.muli c0_i32_1008 c1_i32_1009
  let v1128 : BitVec 32 := Scalar.addi c0_i32_1010 v1127
  v1128.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_559 : BitVec 32 := 1#32
  let v738 : BitVec 1 := Scalar.cmpi .ne v2 c1_i32_559
  let v739 : BitVec 32 := Scalar.extui v738
  let c0_i32_561 : BitVec 32 := 0#32
  let v740 : BitVec 1 := Scalar.cmpi .ne v739 c0_i32_561
  v740

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev66 : Nat :=
  let c0_i32_1010 : BitVec 32 := 0#32
  let c1_i32_1008 : BitVec 32 := 1#32
  let c1_i32_1009 : BitVec 32 := 1#32
  let v1127 : BitVec 32 := Scalar.muli c1_i32_1008 c1_i32_1009
  let v1128 : BitVec 32 := Scalar.addi c0_i32_1010 v1127
  v1128.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_562 : BitVec 32 := 2#32
  let v741 : BitVec 1 := Scalar.cmpi .ne v2 c2_i32_562
  let v742 : BitVec 32 := Scalar.extui v741
  let c0_i32_564 : BitVec 32 := 0#32
  let v743 : BitVec 1 := Scalar.cmpi .ne v742 c0_i32_564
  v743

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev67 : Nat :=
  let c0_i32_1010 : BitVec 32 := 0#32
  let c2_i32_1008 : BitVec 32 := 2#32
  let c1_i32_1009 : BitVec 32 := 1#32
  let v1127 : BitVec 32 := Scalar.muli c2_i32_1008 c1_i32_1009
  let v1128 : BitVec 32 := Scalar.addi c0_i32_1010 v1127
  v1128.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_565 : BitVec 32 := 3#32
  let v744 : BitVec 1 := Scalar.cmpi .ne v2 c3_i32_565
  let v745 : BitVec 32 := Scalar.extui v744
  let c0_i32_567 : BitVec 32 := 0#32
  let v746 : BitVec 1 := Scalar.cmpi .ne v745 c0_i32_567
  v746

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev68 : Nat :=
  let c0_i32_1010 : BitVec 32 := 0#32
  let c3_i32_1008 : BitVec 32 := 3#32
  let c1_i32_1009 : BitVec 32 := 1#32
  let v1127 : BitVec 32 := Scalar.muli c3_i32_1008 c1_i32_1009
  let v1128 : BitVec 32 := Scalar.addi c0_i32_1010 v1127
  v1128.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_568 : BitVec 32 := 4#32
  let v747 : BitVec 1 := Scalar.cmpi .ne v2 c4_i32_568
  let v748 : BitVec 32 := Scalar.extui v747
  let c0_i32_570 : BitVec 32 := 0#32
  let v749 : BitVec 1 := Scalar.cmpi .ne v748 c0_i32_570
  v749

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev69 : Nat :=
  let c0_i32_1010 : BitVec 32 := 0#32
  let c4_i32_1008 : BitVec 32 := 4#32
  let c1_i32_1009 : BitVec 32 := 1#32
  let v1127 : BitVec 32 := Scalar.muli c4_i32_1008 c1_i32_1009
  let v1128 : BitVec 32 := Scalar.addi c0_i32_1010 v1127
  v1128.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_571 : BitVec 32 := 5#32
  let v750 : BitVec 1 := Scalar.cmpi .ne v2 c5_i32_571
  let v751 : BitVec 32 := Scalar.extui v750
  let c0_i32_573 : BitVec 32 := 0#32
  let v752 : BitVec 1 := Scalar.cmpi .ne v751 c0_i32_573
  v752

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev70 : Nat :=
  let c0_i32_1010 : BitVec 32 := 0#32
  let c5_i32_1008 : BitVec 32 := 5#32
  let c1_i32_1009 : BitVec 32 := 1#32
  let v1127 : BitVec 32 := Scalar.muli c5_i32_1008 c1_i32_1009
  let v1128 : BitVec 32 := Scalar.addi c0_i32_1010 v1127
  v1128.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_574 : BitVec 32 := 6#32
  let v753 : BitVec 1 := Scalar.cmpi .ne v2 c6_i32_574
  let v754 : BitVec 32 := Scalar.extui v753
  let c0_i32_576 : BitVec 32 := 0#32
  let v755 : BitVec 1 := Scalar.cmpi .ne v754 c0_i32_576
  v755

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev71 : Nat :=
  let c0_i32_1010 : BitVec 32 := 0#32
  let c6_i32_1008 : BitVec 32 := 6#32
  let c1_i32_1009 : BitVec 32 := 1#32
  let v1127 : BitVec 32 := Scalar.muli c6_i32_1008 c1_i32_1009
  let v1128 : BitVec 32 := Scalar.addi c0_i32_1010 v1127
  v1128.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_577 : BitVec 32 := 7#32
  let v756 : BitVec 1 := Scalar.cmpi .ne v2 c7_i32_577
  let v757 : BitVec 32 := Scalar.extui v756
  let c0_i32_579 : BitVec 32 := 0#32
  let v758 : BitVec 1 := Scalar.cmpi .ne v757 c0_i32_579
  v758

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev72 : Nat :=
  let c0_i32_1010 : BitVec 32 := 0#32
  let c7_i32_1008 : BitVec 32 := 7#32
  let c1_i32_1009 : BitVec 32 := 1#32
  let v1127 : BitVec 32 := Scalar.muli c7_i32_1008 c1_i32_1009
  let v1128 : BitVec 32 := Scalar.addi c0_i32_1010 v1127
  v1128.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_580 : BitVec 32 := 8#32
  let v759 : BitVec 1 := Scalar.cmpi .ne v2 c8_i32_580
  let v760 : BitVec 32 := Scalar.extui v759
  let c0_i32_582 : BitVec 32 := 0#32
  let v761 : BitVec 1 := Scalar.cmpi .ne v760 c0_i32_582
  v761

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev73 : Nat :=
  let c0_i32_1010 : BitVec 32 := 0#32
  let c8_i32_1008 : BitVec 32 := 8#32
  let c1_i32_1009 : BitVec 32 := 1#32
  let v1127 : BitVec 32 := Scalar.muli c8_i32_1008 c1_i32_1009
  let v1128 : BitVec 32 := Scalar.addi c0_i32_1010 v1127
  v1128.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_583 : BitVec 32 := 9#32
  let v762 : BitVec 1 := Scalar.cmpi .ne v2 c9_i32_583
  let v763 : BitVec 32 := Scalar.extui v762
  let c0_i32_585 : BitVec 32 := 0#32
  let v764 : BitVec 1 := Scalar.cmpi .ne v763 c0_i32_585
  v764

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev74 : Nat :=
  let c0_i32_1010 : BitVec 32 := 0#32
  let c9_i32_1008 : BitVec 32 := 9#32
  let c1_i32_1009 : BitVec 32 := 1#32
  let v1127 : BitVec 32 := Scalar.muli c9_i32_1008 c1_i32_1009
  let v1128 : BitVec 32 := Scalar.addi c0_i32_1010 v1127
  v1128.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_586 : BitVec 32 := 10#32
  let v765 : BitVec 1 := Scalar.cmpi .ne v2 c10_i32_586
  let v766 : BitVec 32 := Scalar.extui v765
  let c0_i32_588 : BitVec 32 := 0#32
  let v767 : BitVec 1 := Scalar.cmpi .ne v766 c0_i32_588
  v767

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev75 : Nat :=
  let c0_i32_1010 : BitVec 32 := 0#32
  let c10_i32_1008 : BitVec 32 := 10#32
  let c1_i32_1009 : BitVec 32 := 1#32
  let v1127 : BitVec 32 := Scalar.muli c10_i32_1008 c1_i32_1009
  let v1128 : BitVec 32 := Scalar.addi c0_i32_1010 v1127
  v1128.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_589 : BitVec 32 := 11#32
  let v768 : BitVec 1 := Scalar.cmpi .ne v2 c11_i32_589
  let v769 : BitVec 32 := Scalar.extui v768
  let c0_i32_591 : BitVec 32 := 0#32
  let v770 : BitVec 1 := Scalar.cmpi .ne v769 c0_i32_591
  v770

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev76 : Nat :=
  let c0_i32_1010 : BitVec 32 := 0#32
  let c11_i32_1008 : BitVec 32 := 11#32
  let c1_i32_1009 : BitVec 32 := 1#32
  let v1127 : BitVec 32 := Scalar.muli c11_i32_1008 c1_i32_1009
  let v1128 : BitVec 32 := Scalar.addi c0_i32_1010 v1127
  v1128.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_592 : BitVec 32 := 12#32
  let v771 : BitVec 1 := Scalar.cmpi .ne v2 c12_i32_592
  let v772 : BitVec 32 := Scalar.extui v771
  let c0_i32_594 : BitVec 32 := 0#32
  let v773 : BitVec 1 := Scalar.cmpi .ne v772 c0_i32_594
  v773

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev77 : Nat :=
  let c0_i32_1010 : BitVec 32 := 0#32
  let c12_i32_1008 : BitVec 32 := 12#32
  let c1_i32_1009 : BitVec 32 := 1#32
  let v1127 : BitVec 32 := Scalar.muli c12_i32_1008 c1_i32_1009
  let v1128 : BitVec 32 := Scalar.addi c0_i32_1010 v1127
  v1128.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_595 : BitVec 32 := 13#32
  let v774 : BitVec 1 := Scalar.cmpi .ne v2 c13_i32_595
  let v775 : BitVec 32 := Scalar.extui v774
  let c0_i32_597 : BitVec 32 := 0#32
  let v776 : BitVec 1 := Scalar.cmpi .ne v775 c0_i32_597
  v776

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev78 : Nat :=
  let c0_i32_1010 : BitVec 32 := 0#32
  let c13_i32_1008 : BitVec 32 := 13#32
  let c1_i32_1009 : BitVec 32 := 1#32
  let v1127 : BitVec 32 := Scalar.muli c13_i32_1008 c1_i32_1009
  let v1128 : BitVec 32 := Scalar.addi c0_i32_1010 v1127
  v1128.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_598 : BitVec 32 := 14#32
  let v777 : BitVec 1 := Scalar.cmpi .ne v2 c14_i32_598
  let v778 : BitVec 32 := Scalar.extui v777
  let c0_i32_600 : BitVec 32 := 0#32
  let v779 : BitVec 1 := Scalar.cmpi .ne v778 c0_i32_600
  v779

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev79 : Nat :=
  let c0_i32_1010 : BitVec 32 := 0#32
  let c14_i32_1008 : BitVec 32 := 14#32
  let c1_i32_1009 : BitVec 32 := 1#32
  let v1127 : BitVec 32 := Scalar.muli c14_i32_1008 c1_i32_1009
  let v1128 : BitVec 32 := Scalar.addi c0_i32_1010 v1127
  v1128.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_601 : BitVec 32 := 15#32
  let v780 : BitVec 1 := Scalar.cmpi .ne v2 c15_i32_601
  let v781 : BitVec 32 := Scalar.extui v780
  let c0_i32_603 : BitVec 32 := 0#32
  let v782 : BitVec 1 := Scalar.cmpi .ne v781 c0_i32_603
  v782

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev80 : Nat :=
  let c0_i32_1010 : BitVec 32 := 0#32
  let c15_i32_1008 : BitVec 32 := 15#32
  let c1_i32_1009 : BitVec 32 := 1#32
  let v1127 : BitVec 32 := Scalar.muli c15_i32_1008 c1_i32_1009
  let v1128 : BitVec 32 := Scalar.addi c0_i32_1010 v1127
  v1128.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_604 : BitVec 32 := 16#32
  let v783 : BitVec 1 := Scalar.cmpi .ne v2 c16_i32_604
  let v784 : BitVec 32 := Scalar.extui v783
  let c0_i32_606 : BitVec 32 := 0#32
  let v785 : BitVec 1 := Scalar.cmpi .ne v784 c0_i32_606
  v785

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev81 : Nat :=
  let c0_i32_1010 : BitVec 32 := 0#32
  let c16_i32_1008 : BitVec 32 := 16#32
  let c1_i32_1009 : BitVec 32 := 1#32
  let v1127 : BitVec 32 := Scalar.muli c16_i32_1008 c1_i32_1009
  let v1128 : BitVec 32 := Scalar.addi c0_i32_1010 v1127
  v1128.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_607 : BitVec 32 := 17#32
  let v786 : BitVec 1 := Scalar.cmpi .ne v2 c17_i32_607
  let v787 : BitVec 32 := Scalar.extui v786
  let c0_i32_609 : BitVec 32 := 0#32
  let v788 : BitVec 1 := Scalar.cmpi .ne v787 c0_i32_609
  v788

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev82 : Nat :=
  let c0_i32_1010 : BitVec 32 := 0#32
  let c17_i32_1008 : BitVec 32 := 17#32
  let c1_i32_1009 : BitVec 32 := 1#32
  let v1127 : BitVec 32 := Scalar.muli c17_i32_1008 c1_i32_1009
  let v1128 : BitVec 32 := Scalar.addi c0_i32_1010 v1127
  v1128.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_610 : BitVec 32 := 18#32
  let v789 : BitVec 1 := Scalar.cmpi .ne v2 c18_i32_610
  let v790 : BitVec 32 := Scalar.extui v789
  let c0_i32_612 : BitVec 32 := 0#32
  let v791 : BitVec 1 := Scalar.cmpi .ne v790 c0_i32_612
  v791

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev83 : Nat :=
  let c0_i32_1010 : BitVec 32 := 0#32
  let c18_i32_1008 : BitVec 32 := 18#32
  let c1_i32_1009 : BitVec 32 := 1#32
  let v1127 : BitVec 32 := Scalar.muli c18_i32_1008 c1_i32_1009
  let v1128 : BitVec 32 := Scalar.addi c0_i32_1010 v1127
  v1128.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_613 : BitVec 32 := 19#32
  let v792 : BitVec 1 := Scalar.cmpi .ne v2 c19_i32_613
  let v793 : BitVec 32 := Scalar.extui v792
  let c0_i32_615 : BitVec 32 := 0#32
  let v794 : BitVec 1 := Scalar.cmpi .ne v793 c0_i32_615
  v794

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev84 : Nat :=
  let c0_i32_1010 : BitVec 32 := 0#32
  let c19_i32_1008 : BitVec 32 := 19#32
  let c1_i32_1009 : BitVec 32 := 1#32
  let v1127 : BitVec 32 := Scalar.muli c19_i32_1008 c1_i32_1009
  let v1128 : BitVec 32 := Scalar.addi c0_i32_1010 v1127
  v1128.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_616 : BitVec 32 := 20#32
  let v795 : BitVec 1 := Scalar.cmpi .ne v2 c20_i32_616
  let v796 : BitVec 32 := Scalar.extui v795
  let c0_i32_618 : BitVec 32 := 0#32
  let v797 : BitVec 1 := Scalar.cmpi .ne v796 c0_i32_618
  v797

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev85 : Nat :=
  let c0_i32_1010 : BitVec 32 := 0#32
  let c20_i32_1008 : BitVec 32 := 20#32
  let c1_i32_1009 : BitVec 32 := 1#32
  let v1127 : BitVec 32 := Scalar.muli c20_i32_1008 c1_i32_1009
  let v1128 : BitVec 32 := Scalar.addi c0_i32_1010 v1127
  v1128.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_619 : BitVec 32 := 21#32
  let v798 : BitVec 1 := Scalar.cmpi .ne v2 c21_i32_619
  let v799 : BitVec 32 := Scalar.extui v798
  let c0_i32_621 : BitVec 32 := 0#32
  let v800 : BitVec 1 := Scalar.cmpi .ne v799 c0_i32_621
  v800

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev86 : Nat :=
  let c0_i32_1010 : BitVec 32 := 0#32
  let c21_i32_1008 : BitVec 32 := 21#32
  let c1_i32_1009 : BitVec 32 := 1#32
  let v1127 : BitVec 32 := Scalar.muli c21_i32_1008 c1_i32_1009
  let v1128 : BitVec 32 := Scalar.addi c0_i32_1010 v1127
  v1128.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_622 : BitVec 32 := 22#32
  let v801 : BitVec 1 := Scalar.cmpi .ne v2 c22_i32_622
  let v802 : BitVec 32 := Scalar.extui v801
  let c0_i32_624 : BitVec 32 := 0#32
  let v803 : BitVec 1 := Scalar.cmpi .ne v802 c0_i32_624
  v803

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev87 : Nat :=
  let c0_i32_1010 : BitVec 32 := 0#32
  let c22_i32_1008 : BitVec 32 := 22#32
  let c1_i32_1009 : BitVec 32 := 1#32
  let v1127 : BitVec 32 := Scalar.muli c22_i32_1008 c1_i32_1009
  let v1128 : BitVec 32 := Scalar.addi c0_i32_1010 v1127
  v1128.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_625 : BitVec 32 := 23#32
  let v804 : BitVec 1 := Scalar.cmpi .ne v2 c23_i32_625
  let v805 : BitVec 32 := Scalar.extui v804
  let c0_i32_627 : BitVec 32 := 0#32
  let v806 : BitVec 1 := Scalar.cmpi .ne v805 c0_i32_627
  v806

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev88 : Nat :=
  let c0_i32_1010 : BitVec 32 := 0#32
  let c23_i32_1008 : BitVec 32 := 23#32
  let c1_i32_1009 : BitVec 32 := 1#32
  let v1127 : BitVec 32 := Scalar.muli c23_i32_1008 c1_i32_1009
  let v1128 : BitVec 32 := Scalar.addi c0_i32_1010 v1127
  v1128.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_628 : BitVec 32 := 24#32
  let v807 : BitVec 1 := Scalar.cmpi .ne v2 c24_i32_628
  let v808 : BitVec 32 := Scalar.extui v807
  let c0_i32_630 : BitVec 32 := 0#32
  let v809 : BitVec 1 := Scalar.cmpi .ne v808 c0_i32_630
  v809

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev89 : Nat :=
  let c0_i32_1010 : BitVec 32 := 0#32
  let c24_i32_1008 : BitVec 32 := 24#32
  let c1_i32_1009 : BitVec 32 := 1#32
  let v1127 : BitVec 32 := Scalar.muli c24_i32_1008 c1_i32_1009
  let v1128 : BitVec 32 := Scalar.addi c0_i32_1010 v1127
  v1128.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_631 : BitVec 32 := 25#32
  let v810 : BitVec 1 := Scalar.cmpi .ne v2 c25_i32_631
  let v811 : BitVec 32 := Scalar.extui v810
  let c0_i32_633 : BitVec 32 := 0#32
  let v812 : BitVec 1 := Scalar.cmpi .ne v811 c0_i32_633
  v812

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev90 : Nat :=
  let c0_i32_1010 : BitVec 32 := 0#32
  let c25_i32_1008 : BitVec 32 := 25#32
  let c1_i32_1009 : BitVec 32 := 1#32
  let v1127 : BitVec 32 := Scalar.muli c25_i32_1008 c1_i32_1009
  let v1128 : BitVec 32 := Scalar.addi c0_i32_1010 v1127
  v1128.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_634 : BitVec 32 := 26#32
  let v813 : BitVec 1 := Scalar.cmpi .ne v2 c26_i32_634
  let v814 : BitVec 32 := Scalar.extui v813
  let c0_i32_636 : BitVec 32 := 0#32
  let v815 : BitVec 1 := Scalar.cmpi .ne v814 c0_i32_636
  v815

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev91 : Nat :=
  let c0_i32_1010 : BitVec 32 := 0#32
  let c26_i32_1008 : BitVec 32 := 26#32
  let c1_i32_1009 : BitVec 32 := 1#32
  let v1127 : BitVec 32 := Scalar.muli c26_i32_1008 c1_i32_1009
  let v1128 : BitVec 32 := Scalar.addi c0_i32_1010 v1127
  v1128.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_637 : BitVec 32 := 27#32
  let v816 : BitVec 1 := Scalar.cmpi .ne v2 c27_i32_637
  let v817 : BitVec 32 := Scalar.extui v816
  let c0_i32_639 : BitVec 32 := 0#32
  let v818 : BitVec 1 := Scalar.cmpi .ne v817 c0_i32_639
  v818

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev92 : Nat :=
  let c0_i32_1010 : BitVec 32 := 0#32
  let c27_i32_1008 : BitVec 32 := 27#32
  let c1_i32_1009 : BitVec 32 := 1#32
  let v1127 : BitVec 32 := Scalar.muli c27_i32_1008 c1_i32_1009
  let v1128 : BitVec 32 := Scalar.addi c0_i32_1010 v1127
  v1128.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_640 : BitVec 32 := 28#32
  let v819 : BitVec 1 := Scalar.cmpi .ne v2 c28_i32_640
  let v820 : BitVec 32 := Scalar.extui v819
  let c0_i32_642 : BitVec 32 := 0#32
  let v821 : BitVec 1 := Scalar.cmpi .ne v820 c0_i32_642
  v821

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev93 : Nat :=
  let c0_i32_1010 : BitVec 32 := 0#32
  let c28_i32_1008 : BitVec 32 := 28#32
  let c1_i32_1009 : BitVec 32 := 1#32
  let v1127 : BitVec 32 := Scalar.muli c28_i32_1008 c1_i32_1009
  let v1128 : BitVec 32 := Scalar.addi c0_i32_1010 v1127
  v1128.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_643 : BitVec 32 := 29#32
  let v822 : BitVec 1 := Scalar.cmpi .ne v2 c29_i32_643
  let v823 : BitVec 32 := Scalar.extui v822
  let c0_i32_645 : BitVec 32 := 0#32
  let v824 : BitVec 1 := Scalar.cmpi .ne v823 c0_i32_645
  v824

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev94 : Nat :=
  let c0_i32_1010 : BitVec 32 := 0#32
  let c29_i32_1008 : BitVec 32 := 29#32
  let c1_i32_1009 : BitVec 32 := 1#32
  let v1127 : BitVec 32 := Scalar.muli c29_i32_1008 c1_i32_1009
  let v1128 : BitVec 32 := Scalar.addi c0_i32_1010 v1127
  v1128.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_646 : BitVec 32 := 30#32
  let v825 : BitVec 1 := Scalar.cmpi .ne v2 c30_i32_646
  let v826 : BitVec 32 := Scalar.extui v825
  let c0_i32_648 : BitVec 32 := 0#32
  let v827 : BitVec 1 := Scalar.cmpi .ne v826 c0_i32_648
  v827

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev95 : Nat :=
  let c0_i32_1010 : BitVec 32 := 0#32
  let c30_i32_1008 : BitVec 32 := 30#32
  let c1_i32_1009 : BitVec 32 := 1#32
  let v1127 : BitVec 32 := Scalar.muli c30_i32_1008 c1_i32_1009
  let v1128 : BitVec 32 := Scalar.addi c0_i32_1010 v1127
  v1128.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_649 : BitVec 32 := 31#32
  let v828 : BitVec 1 := Scalar.cmpi .ne v2 c31_i32_649
  let v829 : BitVec 32 := Scalar.extui v828
  let c0_i32_651 : BitVec 32 := 0#32
  let v830 : BitVec 1 := Scalar.cmpi .ne v829 c0_i32_651
  v830

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1011 : BitVec 32 := 0#32
  ![v722.toNat, v734.toNat, 0]
def k0_dev96 : Nat :=
  let c0_i32_1010 : BitVec 32 := 0#32
  let c31_i32_1008 : BitVec 32 := 31#32
  let c1_i32_1009 : BitVec 32 := 1#32
  let v1127 : BitVec 32 := Scalar.muli c31_i32_1008 c1_i32_1009
  let v1128 : BitVec 32 := Scalar.addi c0_i32_1010 v1127
  v1128.toNat
def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_653 : BitVec 32 := 0#32
  ![v722.toNat, v734.toNat, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_654 : BitVec 32 := 0#32
  let v835 : BitVec 1 := Scalar.cmpi .ne v2 c0_i32_654
  let v836 : BitVec 32 := Scalar.extui v835
  let c0_i32_656 : BitVec 32 := 0#32
  let v837 : BitVec 1 := Scalar.cmpi .ne v836 c0_i32_656
  v837

def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1012 : BitVec 32 := 0#32
  let c0_i32_1013 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_657 : BitVec 32 := 1#32
  let v838 : BitVec 1 := Scalar.cmpi .ne v2 c1_i32_657
  let v839 : BitVec 32 := Scalar.extui v838
  let c0_i32_659 : BitVec 32 := 0#32
  let v840 : BitVec 1 := Scalar.cmpi .ne v839 c0_i32_659
  v840

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1012 : BitVec 32 := 0#32
  let c0_i32_1013 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_660 : BitVec 32 := 2#32
  let v841 : BitVec 1 := Scalar.cmpi .ne v2 c2_i32_660
  let v842 : BitVec 32 := Scalar.extui v841
  let c0_i32_662 : BitVec 32 := 0#32
  let v843 : BitVec 1 := Scalar.cmpi .ne v842 c0_i32_662
  v843

def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1012 : BitVec 32 := 0#32
  let c0_i32_1013 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_663 : BitVec 32 := 3#32
  let v844 : BitVec 1 := Scalar.cmpi .ne v2 c3_i32_663
  let v845 : BitVec 32 := Scalar.extui v844
  let c0_i32_665 : BitVec 32 := 0#32
  let v846 : BitVec 1 := Scalar.cmpi .ne v845 c0_i32_665
  v846

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1012 : BitVec 32 := 0#32
  let c0_i32_1013 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_666 : BitVec 32 := 4#32
  let v847 : BitVec 1 := Scalar.cmpi .ne v2 c4_i32_666
  let v848 : BitVec 32 := Scalar.extui v847
  let c0_i32_668 : BitVec 32 := 0#32
  let v849 : BitVec 1 := Scalar.cmpi .ne v848 c0_i32_668
  v849

def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1012 : BitVec 32 := 0#32
  let c0_i32_1013 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_669 : BitVec 32 := 5#32
  let v850 : BitVec 1 := Scalar.cmpi .ne v2 c5_i32_669
  let v851 : BitVec 32 := Scalar.extui v850
  let c0_i32_671 : BitVec 32 := 0#32
  let v852 : BitVec 1 := Scalar.cmpi .ne v851 c0_i32_671
  v852

def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_672 : BitVec 32 := 6#32
  let v853 : BitVec 1 := Scalar.cmpi .ne v2 c6_i32_672
  let v854 : BitVec 32 := Scalar.extui v853
  let c0_i32_674 : BitVec 32 := 0#32
  let v855 : BitVec 1 := Scalar.cmpi .ne v854 c0_i32_674
  v855

def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_675 : BitVec 32 := 7#32
  let v856 : BitVec 1 := Scalar.cmpi .ne v2 c7_i32_675
  let v857 : BitVec 32 := Scalar.extui v856
  let c0_i32_677 : BitVec 32 := 0#32
  let v858 : BitVec 1 := Scalar.cmpi .ne v857 c0_i32_677
  v858

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_678 : BitVec 32 := 8#32
  let v859 : BitVec 1 := Scalar.cmpi .ne v2 c8_i32_678
  let v860 : BitVec 32 := Scalar.extui v859
  let c0_i32_680 : BitVec 32 := 0#32
  let v861 : BitVec 1 := Scalar.cmpi .ne v860 c0_i32_680
  v861

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_681 : BitVec 32 := 9#32
  let v862 : BitVec 1 := Scalar.cmpi .ne v2 c9_i32_681
  let v863 : BitVec 32 := Scalar.extui v862
  let c0_i32_683 : BitVec 32 := 0#32
  let v864 : BitVec 1 := Scalar.cmpi .ne v863 c0_i32_683
  v864

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_684 : BitVec 32 := 10#32
  let v865 : BitVec 1 := Scalar.cmpi .ne v2 c10_i32_684
  let v866 : BitVec 32 := Scalar.extui v865
  let c0_i32_686 : BitVec 32 := 0#32
  let v867 : BitVec 1 := Scalar.cmpi .ne v866 c0_i32_686
  v867

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_687 : BitVec 32 := 11#32
  let v868 : BitVec 1 := Scalar.cmpi .ne v2 c11_i32_687
  let v869 : BitVec 32 := Scalar.extui v868
  let c0_i32_689 : BitVec 32 := 0#32
  let v870 : BitVec 1 := Scalar.cmpi .ne v869 c0_i32_689
  v870

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_690 : BitVec 32 := 12#32
  let v871 : BitVec 1 := Scalar.cmpi .ne v2 c12_i32_690
  let v872 : BitVec 32 := Scalar.extui v871
  let c0_i32_692 : BitVec 32 := 0#32
  let v873 : BitVec 1 := Scalar.cmpi .ne v872 c0_i32_692
  v873

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_693 : BitVec 32 := 13#32
  let v874 : BitVec 1 := Scalar.cmpi .ne v2 c13_i32_693
  let v875 : BitVec 32 := Scalar.extui v874
  let c0_i32_695 : BitVec 32 := 0#32
  let v876 : BitVec 1 := Scalar.cmpi .ne v875 c0_i32_695
  v876

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_696 : BitVec 32 := 14#32
  let v877 : BitVec 1 := Scalar.cmpi .ne v2 c14_i32_696
  let v878 : BitVec 32 := Scalar.extui v877
  let c0_i32_698 : BitVec 32 := 0#32
  let v879 : BitVec 1 := Scalar.cmpi .ne v878 c0_i32_698
  v879

def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_699 : BitVec 32 := 15#32
  let v880 : BitVec 1 := Scalar.cmpi .ne v2 c15_i32_699
  let v881 : BitVec 32 := Scalar.extui v880
  let c0_i32_701 : BitVec 32 := 0#32
  let v882 : BitVec 1 := Scalar.cmpi .ne v881 c0_i32_701
  v882

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_702 : BitVec 32 := 16#32
  let v883 : BitVec 1 := Scalar.cmpi .ne v2 c16_i32_702
  let v884 : BitVec 32 := Scalar.extui v883
  let c0_i32_704 : BitVec 32 := 0#32
  let v885 : BitVec 1 := Scalar.cmpi .ne v884 c0_i32_704
  v885

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_705 : BitVec 32 := 17#32
  let v886 : BitVec 1 := Scalar.cmpi .ne v2 c17_i32_705
  let v887 : BitVec 32 := Scalar.extui v886
  let c0_i32_707 : BitVec 32 := 0#32
  let v888 : BitVec 1 := Scalar.cmpi .ne v887 c0_i32_707
  v888

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_708 : BitVec 32 := 18#32
  let v889 : BitVec 1 := Scalar.cmpi .ne v2 c18_i32_708
  let v890 : BitVec 32 := Scalar.extui v889
  let c0_i32_710 : BitVec 32 := 0#32
  let v891 : BitVec 1 := Scalar.cmpi .ne v890 c0_i32_710
  v891

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_711 : BitVec 32 := 19#32
  let v892 : BitVec 1 := Scalar.cmpi .ne v2 c19_i32_711
  let v893 : BitVec 32 := Scalar.extui v892
  let c0_i32_713 : BitVec 32 := 0#32
  let v894 : BitVec 1 := Scalar.cmpi .ne v893 c0_i32_713
  v894

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_714 : BitVec 32 := 20#32
  let v895 : BitVec 1 := Scalar.cmpi .ne v2 c20_i32_714
  let v896 : BitVec 32 := Scalar.extui v895
  let c0_i32_716 : BitVec 32 := 0#32
  let v897 : BitVec 1 := Scalar.cmpi .ne v896 c0_i32_716
  v897

def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_717 : BitVec 32 := 21#32
  let v898 : BitVec 1 := Scalar.cmpi .ne v2 c21_i32_717
  let v899 : BitVec 32 := Scalar.extui v898
  let c0_i32_719 : BitVec 32 := 0#32
  let v900 : BitVec 1 := Scalar.cmpi .ne v899 c0_i32_719
  v900

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_720 : BitVec 32 := 22#32
  let v901 : BitVec 1 := Scalar.cmpi .ne v2 c22_i32_720
  let v902 : BitVec 32 := Scalar.extui v901
  let c0_i32_722 : BitVec 32 := 0#32
  let v903 : BitVec 1 := Scalar.cmpi .ne v902 c0_i32_722
  v903

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_723 : BitVec 32 := 23#32
  let v904 : BitVec 1 := Scalar.cmpi .ne v2 c23_i32_723
  let v905 : BitVec 32 := Scalar.extui v904
  let c0_i32_725 : BitVec 32 := 0#32
  let v906 : BitVec 1 := Scalar.cmpi .ne v905 c0_i32_725
  v906

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_726 : BitVec 32 := 24#32
  let v907 : BitVec 1 := Scalar.cmpi .ne v2 c24_i32_726
  let v908 : BitVec 32 := Scalar.extui v907
  let c0_i32_728 : BitVec 32 := 0#32
  let v909 : BitVec 1 := Scalar.cmpi .ne v908 c0_i32_728
  v909

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_729 : BitVec 32 := 25#32
  let v910 : BitVec 1 := Scalar.cmpi .ne v2 c25_i32_729
  let v911 : BitVec 32 := Scalar.extui v910
  let c0_i32_731 : BitVec 32 := 0#32
  let v912 : BitVec 1 := Scalar.cmpi .ne v911 c0_i32_731
  v912

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_732 : BitVec 32 := 26#32
  let v913 : BitVec 1 := Scalar.cmpi .ne v2 c26_i32_732
  let v914 : BitVec 32 := Scalar.extui v913
  let c0_i32_734 : BitVec 32 := 0#32
  let v915 : BitVec 1 := Scalar.cmpi .ne v914 c0_i32_734
  v915

def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_735 : BitVec 32 := 27#32
  let v916 : BitVec 1 := Scalar.cmpi .ne v2 c27_i32_735
  let v917 : BitVec 32 := Scalar.extui v916
  let c0_i32_737 : BitVec 32 := 0#32
  let v918 : BitVec 1 := Scalar.cmpi .ne v917 c0_i32_737
  v918

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_738 : BitVec 32 := 28#32
  let v919 : BitVec 1 := Scalar.cmpi .ne v2 c28_i32_738
  let v920 : BitVec 32 := Scalar.extui v919
  let c0_i32_740 : BitVec 32 := 0#32
  let v921 : BitVec 1 := Scalar.cmpi .ne v920 c0_i32_740
  v921

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_741 : BitVec 32 := 29#32
  let v922 : BitVec 1 := Scalar.cmpi .ne v2 c29_i32_741
  let v923 : BitVec 32 := Scalar.extui v922
  let c0_i32_743 : BitVec 32 := 0#32
  let v924 : BitVec 1 := Scalar.cmpi .ne v923 c0_i32_743
  v924

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_744 : BitVec 32 := 30#32
  let v925 : BitVec 1 := Scalar.cmpi .ne v2 c30_i32_744
  let v926 : BitVec 32 := Scalar.extui v925
  let c0_i32_746 : BitVec 32 := 0#32
  let v927 : BitVec 1 := Scalar.cmpi .ne v926 c0_i32_746
  v927

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_747 : BitVec 32 := 31#32
  let v928 : BitVec 1 := Scalar.cmpi .ne v2 c31_i32_747
  let v929 : BitVec 32 := Scalar.extui v928
  let c0_i32_749 : BitVec 32 := 0#32
  let v930 : BitVec 1 := Scalar.cmpi .ne v929 c0_i32_749
  v930

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1011 : BitVec 32 := 0#32
  let c0_i32_1012 : BitVec 32 := 0#32
  ![v2.toNat, 0, 0]
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_912 : BitVec 32 := 0#32
  let v1031 : BitVec 1 := Scalar.cmpi .ne v2 c0_i32_912
  let v1032 : BitVec 32 := Scalar.extui v1031
  let c0_i32_914 : BitVec 32 := 0#32
  let v1033 : BitVec 1 := Scalar.cmpi .ne v1032 c0_i32_914
  v1033

def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_915 : BitVec 32 := 1#32
  let v1034 : BitVec 1 := Scalar.cmpi .ne v2 c1_i32_915
  let v1035 : BitVec 32 := Scalar.extui v1034
  let c0_i32_917 : BitVec 32 := 0#32
  let v1036 : BitVec 1 := Scalar.cmpi .ne v1035 c0_i32_917
  v1036

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_918 : BitVec 32 := 2#32
  let v1037 : BitVec 1 := Scalar.cmpi .ne v2 c2_i32_918
  let v1038 : BitVec 32 := Scalar.extui v1037
  let c0_i32_920 : BitVec 32 := 0#32
  let v1039 : BitVec 1 := Scalar.cmpi .ne v1038 c0_i32_920
  v1039

def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_921 : BitVec 32 := 3#32
  let v1040 : BitVec 1 := Scalar.cmpi .ne v2 c3_i32_921
  let v1041 : BitVec 32 := Scalar.extui v1040
  let c0_i32_923 : BitVec 32 := 0#32
  let v1042 : BitVec 1 := Scalar.cmpi .ne v1041 c0_i32_923
  v1042

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_924 : BitVec 32 := 4#32
  let v1043 : BitVec 1 := Scalar.cmpi .ne v2 c4_i32_924
  let v1044 : BitVec 32 := Scalar.extui v1043
  let c0_i32_926 : BitVec 32 := 0#32
  let v1045 : BitVec 1 := Scalar.cmpi .ne v1044 c0_i32_926
  v1045

def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_927 : BitVec 32 := 5#32
  let v1046 : BitVec 1 := Scalar.cmpi .ne v2 c5_i32_927
  let v1047 : BitVec 32 := Scalar.extui v1046
  let c0_i32_929 : BitVec 32 := 0#32
  let v1048 : BitVec 1 := Scalar.cmpi .ne v1047 c0_i32_929
  v1048

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_930 : BitVec 32 := 6#32
  let v1049 : BitVec 1 := Scalar.cmpi .ne v2 c6_i32_930
  let v1050 : BitVec 32 := Scalar.extui v1049
  let c0_i32_932 : BitVec 32 := 0#32
  let v1051 : BitVec 1 := Scalar.cmpi .ne v1050 c0_i32_932
  v1051

def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_933 : BitVec 32 := 7#32
  let v1052 : BitVec 1 := Scalar.cmpi .ne v2 c7_i32_933
  let v1053 : BitVec 32 := Scalar.extui v1052
  let c0_i32_935 : BitVec 32 := 0#32
  let v1054 : BitVec 1 := Scalar.cmpi .ne v1053 c0_i32_935
  v1054

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_936 : BitVec 32 := 8#32
  let v1055 : BitVec 1 := Scalar.cmpi .ne v2 c8_i32_936
  let v1056 : BitVec 32 := Scalar.extui v1055
  let c0_i32_938 : BitVec 32 := 0#32
  let v1057 : BitVec 1 := Scalar.cmpi .ne v1056 c0_i32_938
  v1057

def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_939 : BitVec 32 := 9#32
  let v1058 : BitVec 1 := Scalar.cmpi .ne v2 c9_i32_939
  let v1059 : BitVec 32 := Scalar.extui v1058
  let c0_i32_941 : BitVec 32 := 0#32
  let v1060 : BitVec 1 := Scalar.cmpi .ne v1059 c0_i32_941
  v1060

def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_942 : BitVec 32 := 10#32
  let v1061 : BitVec 1 := Scalar.cmpi .ne v2 c10_i32_942
  let v1062 : BitVec 32 := Scalar.extui v1061
  let c0_i32_944 : BitVec 32 := 0#32
  let v1063 : BitVec 1 := Scalar.cmpi .ne v1062 c0_i32_944
  v1063

def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_945 : BitVec 32 := 11#32
  let v1064 : BitVec 1 := Scalar.cmpi .ne v2 c11_i32_945
  let v1065 : BitVec 32 := Scalar.extui v1064
  let c0_i32_947 : BitVec 32 := 0#32
  let v1066 : BitVec 1 := Scalar.cmpi .ne v1065 c0_i32_947
  v1066

def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_948 : BitVec 32 := 12#32
  let v1067 : BitVec 1 := Scalar.cmpi .ne v2 c12_i32_948
  let v1068 : BitVec 32 := Scalar.extui v1067
  let c0_i32_950 : BitVec 32 := 0#32
  let v1069 : BitVec 1 := Scalar.cmpi .ne v1068 c0_i32_950
  v1069

def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_951 : BitVec 32 := 13#32
  let v1070 : BitVec 1 := Scalar.cmpi .ne v2 c13_i32_951
  let v1071 : BitVec 32 := Scalar.extui v1070
  let c0_i32_953 : BitVec 32 := 0#32
  let v1072 : BitVec 1 := Scalar.cmpi .ne v1071 c0_i32_953
  v1072

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_954 : BitVec 32 := 14#32
  let v1073 : BitVec 1 := Scalar.cmpi .ne v2 c14_i32_954
  let v1074 : BitVec 32 := Scalar.extui v1073
  let c0_i32_956 : BitVec 32 := 0#32
  let v1075 : BitVec 1 := Scalar.cmpi .ne v1074 c0_i32_956
  v1075

def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_957 : BitVec 32 := 15#32
  let v1076 : BitVec 1 := Scalar.cmpi .ne v2 c15_i32_957
  let v1077 : BitVec 32 := Scalar.extui v1076
  let c0_i32_959 : BitVec 32 := 0#32
  let v1078 : BitVec 1 := Scalar.cmpi .ne v1077 c0_i32_959
  v1078

def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_960 : BitVec 32 := 16#32
  let v1079 : BitVec 1 := Scalar.cmpi .ne v2 c16_i32_960
  let v1080 : BitVec 32 := Scalar.extui v1079
  let c0_i32_962 : BitVec 32 := 0#32
  let v1081 : BitVec 1 := Scalar.cmpi .ne v1080 c0_i32_962
  v1081

def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_963 : BitVec 32 := 17#32
  let v1082 : BitVec 1 := Scalar.cmpi .ne v2 c17_i32_963
  let v1083 : BitVec 32 := Scalar.extui v1082
  let c0_i32_965 : BitVec 32 := 0#32
  let v1084 : BitVec 1 := Scalar.cmpi .ne v1083 c0_i32_965
  v1084

def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_966 : BitVec 32 := 18#32
  let v1085 : BitVec 1 := Scalar.cmpi .ne v2 c18_i32_966
  let v1086 : BitVec 32 := Scalar.extui v1085
  let c0_i32_968 : BitVec 32 := 0#32
  let v1087 : BitVec 1 := Scalar.cmpi .ne v1086 c0_i32_968
  v1087

def k0_off182 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_969 : BitVec 32 := 19#32
  let v1088 : BitVec 1 := Scalar.cmpi .ne v2 c19_i32_969
  let v1089 : BitVec 32 := Scalar.extui v1088
  let c0_i32_971 : BitVec 32 := 0#32
  let v1090 : BitVec 1 := Scalar.cmpi .ne v1089 c0_i32_971
  v1090

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_972 : BitVec 32 := 20#32
  let v1091 : BitVec 1 := Scalar.cmpi .ne v2 c20_i32_972
  let v1092 : BitVec 32 := Scalar.extui v1091
  let c0_i32_974 : BitVec 32 := 0#32
  let v1093 : BitVec 1 := Scalar.cmpi .ne v1092 c0_i32_974
  v1093

def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_975 : BitVec 32 := 21#32
  let v1094 : BitVec 1 := Scalar.cmpi .ne v2 c21_i32_975
  let v1095 : BitVec 32 := Scalar.extui v1094
  let c0_i32_977 : BitVec 32 := 0#32
  let v1096 : BitVec 1 := Scalar.cmpi .ne v1095 c0_i32_977
  v1096

def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_978 : BitVec 32 := 22#32
  let v1097 : BitVec 1 := Scalar.cmpi .ne v2 c22_i32_978
  let v1098 : BitVec 32 := Scalar.extui v1097
  let c0_i32_980 : BitVec 32 := 0#32
  let v1099 : BitVec 1 := Scalar.cmpi .ne v1098 c0_i32_980
  v1099

def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_981 : BitVec 32 := 23#32
  let v1100 : BitVec 1 := Scalar.cmpi .ne v2 c23_i32_981
  let v1101 : BitVec 32 := Scalar.extui v1100
  let c0_i32_983 : BitVec 32 := 0#32
  let v1102 : BitVec 1 := Scalar.cmpi .ne v1101 c0_i32_983
  v1102

def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_984 : BitVec 32 := 24#32
  let v1103 : BitVec 1 := Scalar.cmpi .ne v2 c24_i32_984
  let v1104 : BitVec 32 := Scalar.extui v1103
  let c0_i32_986 : BitVec 32 := 0#32
  let v1105 : BitVec 1 := Scalar.cmpi .ne v1104 c0_i32_986
  v1105

def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_987 : BitVec 32 := 25#32
  let v1106 : BitVec 1 := Scalar.cmpi .ne v2 c25_i32_987
  let v1107 : BitVec 32 := Scalar.extui v1106
  let c0_i32_989 : BitVec 32 := 0#32
  let v1108 : BitVec 1 := Scalar.cmpi .ne v1107 c0_i32_989
  v1108

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_990 : BitVec 32 := 26#32
  let v1109 : BitVec 1 := Scalar.cmpi .ne v2 c26_i32_990
  let v1110 : BitVec 32 := Scalar.extui v1109
  let c0_i32_992 : BitVec 32 := 0#32
  let v1111 : BitVec 1 := Scalar.cmpi .ne v1110 c0_i32_992
  v1111

def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_993 : BitVec 32 := 27#32
  let v1112 : BitVec 1 := Scalar.cmpi .ne v2 c27_i32_993
  let v1113 : BitVec 32 := Scalar.extui v1112
  let c0_i32_995 : BitVec 32 := 0#32
  let v1114 : BitVec 1 := Scalar.cmpi .ne v1113 c0_i32_995
  v1114

def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_996 : BitVec 32 := 28#32
  let v1115 : BitVec 1 := Scalar.cmpi .ne v2 c28_i32_996
  let v1116 : BitVec 32 := Scalar.extui v1115
  let c0_i32_998 : BitVec 32 := 0#32
  let v1117 : BitVec 1 := Scalar.cmpi .ne v1116 c0_i32_998
  v1117

def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_999 : BitVec 32 := 29#32
  let v1118 : BitVec 1 := Scalar.cmpi .ne v2 c29_i32_999
  let v1119 : BitVec 32 := Scalar.extui v1118
  let c0_i32_1001 : BitVec 32 := 0#32
  let v1120 : BitVec 1 := Scalar.cmpi .ne v1119 c0_i32_1001
  v1120

def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1002 : BitVec 32 := 30#32
  let v1121 : BitVec 1 := Scalar.cmpi .ne v2 c30_i32_1002
  let v1122 : BitVec 32 := Scalar.extui v1121
  let c0_i32_1004 : BitVec 32 := 0#32
  let v1123 : BitVec 1 := Scalar.cmpi .ne v1122 c0_i32_1004
  v1123

def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1005 : BitVec 32 := 31#32
  let v1124 : BitVec 1 := Scalar.cmpi .ne v2 c31_i32_1005
  let v1125 : BitVec 32 := Scalar.extui v1124
  let c0_i32_1007 : BitVec 32 := 0#32
  let v1126 : BitVec 1 := Scalar.cmpi .ne v1125 c0_i32_1007
  v1126

def k0_off195 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_543 : BitVec 32 := 0#32
  let v707 : BitVec 1 := Scalar.cmpi .sgt v2 c0_i32_543
  let v708 : BitVec 32 := Scalar.extui v707
  let c0_i32_544 : BitVec 32 := 0#32
  let v709 : BitVec 1 := Scalar.cmpi .slt v2 c0_i32_544
  let v710 : BitVec 32 := Scalar.extui v709
  let v711 : BitVec 32 := Scalar.subi v708 v710
  let c16_i32_542 : BitVec 32 := 16#32
  let c0_i32_545 : BitVec 32 := 0#32
  let v712 : BitVec 1 := Scalar.cmpi .sgt c16_i32_542 c0_i32_545
  let v713 : BitVec 32 := Scalar.extui v712
  let c0_i32_546 : BitVec 32 := 0#32
  let v714 : BitVec 1 := Scalar.cmpi .slt c16_i32_542 c0_i32_546
  let v715 : BitVec 32 := Scalar.extui v714
  let v716 : BitVec 32 := Scalar.subi v713 v715
  let v717 : BitVec 1 := Scalar.cmpi .ne v711 v716
  let v718 : BitVec 32 := Scalar.remsi v2 c16_i32_542
  let c0_i32_547 : BitVec 32 := 0#32
  let v719 : BitVec 1 := Scalar.cmpi .ne v718 c0_i32_547
  let v720 : BitVec 1 := Scalar.andi v717 v719
  let v706 : BitVec 32 := Scalar.divsi v2 c16_i32_542
  let c1_i32_548 : BitVec 32 := 1#32
  let v721 : BitVec 32 := Scalar.subi v706 c1_i32_548
  let v722 : BitVec 32 := Scalar.select v720 v721 v706
  let c16_i32_549 : BitVec 32 := 16#32
  let c0_i32_550 : BitVec 32 := 0#32
  let v723 : BitVec 1 := Scalar.cmpi .eq c16_i32_549 c0_i32_550
  let c1_i32_551 : BitVec 32 := 1#32
  let v724 : BitVec 32 := Scalar.select v723 c1_i32_551 c16_i32_549
  let v725 : BitVec 32 := Scalar.remsi v2 v724
  let c0_i32_553 : BitVec 32 := 0#32
  let v727 : BitVec 1 := Scalar.cmpi .slt v725 c0_i32_553
  let c0_i32_554 : BitVec 32 := 0#32
  let v728 : BitVec 1 := Scalar.cmpi .slt v724 c0_i32_554
  let v729 : BitVec 1 := Scalar.xori v727 v728
  let c0_i32_552 : BitVec 32 := 0#32
  let v726 : BitVec 1 := Scalar.cmpi .ne v725 c0_i32_552
  let v730 : BitVec 1 := Scalar.andi v729 v726
  let v731 : BitVec 32 := Scalar.addi v725 v724
  let v732 : BitVec 32 := Scalar.select v730 v731 v725
  let c8_i32_555 : BitVec 32 := 8#32
  let v733 : BitVec 32 := Scalar.muli v732 c8_i32_555
  let v734 : BitVec 32 := v733
  let c0_i32_1010 : BitVec 32 := 0#32
  ![v722.toNat, v734.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x16384 : Shape := ⟨2, ![512, 16384]⟩
abbrev S2x128x256x64 : Shape := ⟨4, ![2, 128, 256, 64]⟩
abbrev S16384x512 : Shape := ⟨2, ![16384, 512]⟩
abbrev S2x128x16384 : Shape := ⟨3, ![2, 128, 16384]⟩
abbrev S2x256x128x128 : Shape := ⟨4, ![2, 256, 128, 128]⟩
abbrev S_ : Shape := ⟨0, ![]⟩
abbrev S2x256x128 : Shape := ⟨3, ![2, 256, 128]⟩
abbrev S2x256x128x1 : Shape := ⟨4, ![2, 256, 128, 1]⟩
abbrev S2x256x64x128 : Shape := ⟨4, ![2, 256, 64, 128]⟩
abbrev S2x128x256x1 : Shape := ⟨4, ![2, 128, 256, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x16384, .bf16⟩
  | .hbm, ⟨2, _⟩ => ⟨S2x128x256x64, .bf16⟩
  | .hbm, ⟨3, _⟩ => ⟨S2x128x256x64, .bf16⟩
  | .hbm, ⟨4, _⟩ => ⟨S16384x512, .bf16⟩
  | .hbm, ⟨5, _⟩ => ⟨S2x128x512, .f32⟩
  | .hbm, ⟨6, _⟩ => ⟨S512x16384, .f32⟩
  | .hbm, ⟨7, _⟩ => ⟨S2x128x256x64, .f32⟩
  | .hbm, ⟨8, _⟩ => ⟨S2x128x256x64, .f32⟩
  | .hbm, ⟨9, _⟩ => ⟨S16384x512, .f32⟩
  | .hbm, ⟨10, _⟩ => ⟨S2x128x16384, .f32⟩
  | .hbm, ⟨11, _⟩ => ⟨S2x128x256x64, .f32⟩
  | .hbm, ⟨12, _⟩ => ⟨S2x256x128x128, .f32⟩
  | .hbm, ⟨13, _⟩ => ⟨S_, .f32⟩
  | .hbm, ⟨14, _⟩ => ⟨S2x256x128x128, .f32⟩
  | .hbm, ⟨15, _⟩ => ⟨S2x256x128x128, .f32⟩
  | .hbm, ⟨16, _⟩ => ⟨S_, .f32⟩
  | .hbm, ⟨17, _⟩ => ⟨S2x256x128, .f32⟩
  | .hbm, ⟨18, _⟩ => ⟨S2x256x128x1, .f32⟩
  | .hbm, ⟨19, _⟩ => ⟨S2x256x128x128, .f32⟩
  | .hbm, ⟨20, _⟩ => ⟨S2x256x128x128, .f32⟩
  | .hbm, ⟨21, _⟩ => ⟨S2x256x128x128, .f32⟩
  | .hbm, ⟨22, _⟩ => ⟨S_, .f32⟩
  | .hbm, ⟨23, _⟩ => ⟨S2x256x128, .f32⟩
  | .hbm, ⟨24, _⟩ => ⟨S2x256x128x1, .f32⟩
  | .hbm, ⟨25, _⟩ => ⟨S2x256x64x128, .f32⟩
  | .hbm, ⟨26, _⟩ => ⟨S2x128x256x64, .f32⟩
  | .hbm, ⟨27, _⟩ => ⟨S2x128x256x1, .f32⟩
  | .hbm, ⟨28, _⟩ => ⟨S2x128x256x64, .f32⟩
  | .hbm, ⟨29, _⟩ => ⟨S2x128x256x64, .f32⟩
  | .hbm, ⟨30, _⟩ => ⟨S2x128x16384, .f32⟩
  | .hbm, ⟨31, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Pieces.lean ====
/-
  The buffers the devices exchange, cut in 32 pieces of 8 rows, and what each piece holds.

  A device's partial product `part` (256 rows) is cut in 32 row blocks; the block `j` goes to slot `c` of device `j`'s
  receive buffer. Each device adds its 32 slots up and sends the 8 rows to all, into segment `c` of the result.
-/
module

public import proofs.«01_k».proof.Proof.Gen.KernelIdeal.Skeleton
public import Idealize.ShloMosaic.Lib.ViewIndex
public import Idealize.ShloMosaic.Lib.ValueLayout
public import Idealize.ShloMosaic.Lib.Pointwise.Index

@[expose] public section

noncomputable section

namespace Cert.KernelIdeal.Mha

open Idealize.ShloMosaic Idealize.ShloMosaic.TcCoe
open Cert.KernelIdeal.Gen

variable {F : FTy → Type} [FloatOps F]

/-! ## The buffers and their pieces -/

abbrev partM : Memref sig .tc .vmem S256x512 .f32 := Memref.whole cc0_scratch0
abbrev rsM : Memref sig .tc .vmem S32x8x512 .f32 := Memref.whole cc0_scratch1
abbrev stM : Memref sig .tc .vmem S8x512 .f32 := Memref.whole cc0_scratch2
abbrev outM : Memref sig .tc .vmem S2x128x512 .f32 := Memref.whole cc0_stg5_0

/-- Eight rows of the partial product, one slot of the receive buffer, eight rows of the result, at given offsets. -/
abbrev partAt (off : Fin 2 → ℕ) (inb : ∀ a, off a + S8x512.size a ≤ S256x512.size a) : Memref sig .tc .vmem S8x512 .f32 :=
  partM.slice (Rect.unit (s := S256x512) off S8x512.size inb) (fun _ => rfl)
abbrev rsAt (off : Fin 3 → ℕ) (inb : ∀ a, off a + S1x8x512.size a ≤ S32x8x512.size a) : Memref sig .tc .vmem S8x512 .f32 :=
  (rsM.slice (Rect.unit (s := S32x8x512) off S1x8x512.size inb) (fun _ => rfl)).squeeze S8x512 squeezes_S1x8x512_S8x512
abbrev outAt (off : Fin 3 → ℕ) (inb : ∀ a, off a + S1x8x512.size a ≤ S2x128x512.size a) : Memref sig .tc .vmem S8x512 .f32 :=
  (outM.slice (Rect.unit (s := S2x128x512) off S1x8x512.size inb) (fun _ => rfl)).squeeze S8x512 squeezes_S1x8x512_S8x512

abbrev offP (j : Dev nD) : Fin 2 → ℕ := ![8 * j.val, 0]
abbrev offR (j : Dev nD) : Fin 3 → ℕ := ![j.val, 0, 0]
abbrev offO (j : Dev nD) : Fin 3 → ℕ := ![j.val / 16, 8 * (j.val % 16), 0]

theorem lt32 (j : Dev nD) : j.val < 32 := j.isLt

theorem inbP (j : Dev nD) : ∀ a, offP j a + S8x512.size a ≤ S256x512.size a := by
  revert j; decide +kernel
theorem inbR (j : Dev nD) : ∀ a, offR j a + S1x8x512.size a ≤ S32x8x512.size a := by
  revert j; decide +kernel
theorem inbO (j : Dev nD) : ∀ a, offO j a + S1x8x512.size a ≤ S2x128x512.size a := by
  revert j; decide +kernel

abbrev pseg (j : Dev nD) : Memref sig .tc .vmem S8x512 .f32 := partAt (offP j) (inbP j)
abbrev slot (j : Dev nD) : Memref sig .tc .vmem S8x512 .f32 := rsAt (offR j) (inbR j)
abbrev oseg (j : Dev nD) : Memref sig .tc .vmem S8x512 .f32 := outAt (offO j) (inbO j)

/-! ## The elements under each piece -/

theorem pseg_emb (j : Dev nD) (a : Fin 8) (b : Fin 512) :
    (pseg j).view.emb (ix2 a b) = ix2 (n0 := 256) ⟨8 * j.val + a.val, by have := lt32 j; omega⟩ b := by
  exact funext fun k => match k with
  | ⟨0, _⟩ => Fin.ext (by show 8 * j.val + 1 * a.val = 8 * j.val + a.val; omega)
  | ⟨1, _⟩ => Fin.ext (by show 0 + 1 * b.val = b.val; omega)

/-- The row and column of a piece as an index of the block of one slot. -/
theorem unsqueeze (h : S8x512.numel = S1x8x512.numel) (a : Fin 8) (b : Fin 512) :
    Shape.reshapeEquiv h (ix2 a b) = ix3 (⟨0, Nat.one_pos⟩ : Fin 1) a b := ValueIdx.reshapeEquiv_ix2_1ab h a b

theorem slot_emb (j : Dev nD) (a : Fin 8) (b : Fin 512) :
    (slot j).view.emb (ix2 a b) = ix3 (n0 := 32) j a b := by
  show (Rect.unit (s := S32x8x512) (offR j) S1x8x512.size (inbR j)).emb
    (Shape.reshapeEquiv squeezes_S1x8x512_S8x512.numel_eq (ix2 a b)) = _
  rw [unsqueeze]
  exact funext fun k => match k with
  | ⟨0, _⟩ => Fin.ext (by show j.val + 1 * 0 = j.val; omega)
  | ⟨1, _⟩ => Fin.ext (by show 0 + 1 * a.val = a.val; omega)
  | ⟨2, _⟩ => Fin.ext (by show 0 + 1 * b.val = b.val; omega)

theorem oseg_emb (j : Dev nD) (a : Fin 8) (b : Fin 512) :
    (oseg j).view.emb (ix2 a b) = ix3 (n0 := 2) (n1 := 128) ⟨j.val / 16, by have := lt32 j; omega⟩
      ⟨8 * (j.val % 16) + a.val, by have := a.isLt; omega⟩ b := by
  show (Rect.unit (s := S2x128x512) (offO j) S1x8x512.size (inbO j)).emb
    (Shape.reshapeEquiv squeezes_S1x8x512_S8x512.numel_eq (ix2 a b)) = _
  rw [unsqueeze]
  exact funext fun k => match k with
  | ⟨0, _⟩ => Fin.ext (by show j.val / 16 + 1 * 0 = j.val / 16; omega)
  | ⟨1, _⟩ => Fin.ext (by show 8 * (j.val % 16) + 1 * a.val = 8 * (j.val % 16) + a.val; omega)
  | ⟨2, _⟩ => Fin.ext (by show 0 + 1 * b.val = b.val; omega)

/-- An element under a piece is the image of a row and a column of it. -/
theorem exists_emb {m : Memref sig .tc .vmem S8x512 .f32} {i : m.view.ty.Idx} (h : i ∈ m.view.set) :
    ∃ (a : Fin 8) (b : Fin 512), m.view.emb (ix2 a b) = i := by
  obtain ⟨x, -, e⟩ := Finset.mem_map.mp h
  exact ⟨x 0, x 1, (congrArg m.view.emb (ix2_eta (n0 := 8) (n1 := 512) x)).trans e⟩

/-- The pieces of each buffer have no element in common, and together they are the buffer. -/
theorem pseg_disj : ∀ j ∈ (Finset.univ : Finset (Dev nD)), ∀ j' ∈ (Finset.univ : Finset (Dev nD)), j ≠ j' →
    Disjoint (pseg j).view.set (pseg j').view.set := fun j _ j' _ hne => by
  refine Finset.disjoint_left.mpr fun i h h' => hne ?_
  obtain ⟨a, b, rfl⟩ := exists_emb h
  obtain ⟨a', b', e⟩ := exists_emb h'
  rw [pseg_emb, pseg_emb] at e
  have e0 : 8 * j'.val + a'.val = 8 * j.val + a.val := congrArg (fun z => (z 0).val) e
  have hx := a.isLt
  have hy := a'.isLt
  exact Fin.ext (by omega)
theorem slot_disj : ∀ j ∈ (Finset.univ : Finset (Dev nD)), ∀ j' ∈ (Finset.univ : Finset (Dev nD)), j ≠ j' →
    Disjoint (slot j).view.set (slot j').view.set := fun j _ j' _ hne => by
  refine Finset.disjoint_left.mpr fun i h h' => hne ?_
  obtain ⟨a, b, rfl⟩ := exists_emb h
  obtain ⟨a', b', e⟩ := exists_emb h'
  rw [slot_emb, slot_emb] at e
  exact (congrFun e 0).symm
theorem oseg_disj : ∀ j ∈ (Finset.univ : Finset (Dev nD)), ∀ j' ∈ (Finset.univ : Finset (Dev nD)), j ≠ j' →
    Disjoint (oseg j).view.set (oseg j').view.set := fun j _ j' _ hne => by
  refine Finset.disjoint_left.mpr fun i h h' => hne ?_
  obtain ⟨a, b, rfl⟩ := exists_emb h
  obtain ⟨a', b', e⟩ := exists_emb h'
  rw [oseg_emb, oseg_emb] at e
  have e0 : j'.val / 16 = j.val / 16 := congrArg (fun z => (z 0).val) e
  have e1 : 8 * (j'.val % 16) + a'.val = 8 * (j.val % 16) + a.val := congrArg (fun z => (z 1).val) e
  have hx := a.isLt
  have hy := a'.isLt
  exact Fin.ext (by omega)

theorem mem_set_of_emb {s : Shape} {m : Memref sig .tc .vmem s .f32} {i : m.view.ty.Idx} (x : s.Idx) (h : m.view.emb x = i) :
    i ∈ m.view.set := h ▸ Finset.mem_map_of_mem _ (Finset.mem_univ x)

theorem pseg_cover : Finset.biUnion (β := (pseg 0).view.ty.Idx) (Finset.univ : Finset (Dev nD)) (fun j => (pseg j).view.set) = Finset.univ := by
  refine Finset.eq_univ_iff_forall.mpr fun (i : S256x512.Idx) => Finset.mem_biUnion.mpr ?_
  have h0 : (i 0).val < 256 := (i 0).isLt
  refine ⟨⟨(i 0).val / 8, show (i 0).val / 8 < 32 by omega⟩, Finset.mem_univ _, ?_⟩
  refine mem_set_of_emb (ix2 ⟨(i 0).val % 8, Nat.mod_lt _ (by decide)⟩ (i 1)) ((pseg_emb _ _ _).trans ?_)
  exact funext fun k => match k with
  | ⟨0, _⟩ => Fin.ext (by show 8 * ((i 0).val / 8) + (i 0).val % 8 = (i 0).val; omega)
  | ⟨1, _⟩ => rfl
theorem slot_cover : Finset.biUnion (β := (slot 0).view.ty.Idx) (Finset.univ : Finset (Dev nD)) (fun j => (slot j).view.set) = Finset.univ := by
  refine Finset.eq_univ_iff_forall.mpr fun (i : S32x8x512.Idx) => Finset.mem_biUnion.mpr ?_
  refine ⟨i 0, Finset.mem_univ _, mem_set_of_emb (ix2 (i 1) (i 2)) ((slot_emb _ _ _).trans (ix3_eta i))⟩
theorem oseg_cover : Finset.biUnion (β := (oseg 0).view.ty.Idx) (Finset.univ : Finset (Dev nD)) (fun j => (oseg j).view.set) = Finset.univ := by
  refine Finset.eq_univ_iff_forall.mpr fun (i : S2x128x512.Idx) => Finset.mem_biUnion.mpr ?_
  have h0 : (i 0).val < 2 := (i 0).isLt
  have h1 : (i 1).val < 128 := (i 1).isLt
  refine ⟨⟨16 * (i 0).val + (i 1).val / 8, show 16 * (i 0).val + (i 1).val / 8 < 32 by omega⟩, Finset.mem_univ _, ?_⟩
  refine mem_set_of_emb (ix2 ⟨(i 1).val % 8, Nat.mod_lt _ (by decide)⟩ (i 2)) ((oseg_emb _ _ _).trans ?_)
  exact funext fun k => match k with
  | ⟨0, _⟩ => Fin.ext (by show (16 * (i 0).val + (i 1).val / 8) / 16 = (i 0).val; omega)
  | ⟨1, _⟩ => Fin.ext (by show 8 * ((16 * (i 0).val + (i 1).val / 8) % 16) + (i 1).val % 8 = (i 1).val; omega)
  | ⟨2, _⟩ => rfl

/-! ## What the buffers hold, from the partial products of all devices -/

/-- The receive buffer of device `c` when all blocks have arrived: slot `s` holds block `c` of device `s`'s partial product. -/
def rsV (pv : Dev nD → Vec F S256x512 .f32) (c : Dev nD) : Vec F S32x8x512 .f32 := fun i =>
  pv (i 0) (ix2 (n0 := 256) ⟨8 * c.val + (i 1).val, by have := lt32 c; have : (i 1).val < 8 := (i 1).isLt; omega⟩ (i 2))

/-- The sum of the slots of device `c`: what it sends to all. -/
def stV (pv : Dev nD → Vec F S256x512 .f32) (c : Dev nD) : Vec F S8x512 .f32 := k0_pay53 (rsV pv c)

/-- The result, the same on every device: segment `s` is the sum of device `s`. -/
def outV (pv : Dev nD → Vec F S256x512 .f32) : Vec F S2x128x512 .f32 := fun i =>
  stV pv ⟨16 * (i 0).val + (i 1).val / 8, by
      have h0 : (i 0).val < 2 := (i 0).isLt
      have h1 : (i 1).val < 128 := (i 1).isLt
      show _ < 32
      omega⟩
    (ix2 (n0 := 8) ⟨(i 1).val % 8, Nat.mod_lt _ (by decide)⟩ (i 2))

/-- What a block sent from device `s` to device `c` writes is what slot `s` is to hold. -/
theorem slot_landed (pv : Dev nD → Vec F S256x512 .f32) (s c : Dev nD) (fd : Vec F S32x8x512 .f32) :
    ∀ i ∈ (slot s).view.set, (slot s).view.write (Elt F) fd ((pseg c).view.read (Elt F) (pv s)) Finset.univ i = rsV pv c i := fun i hi => by
  obtain ⟨a, b, rfl⟩ := exists_emb hi
  rw [View.write_emb_of_mem _ _ (Finset.mem_univ _), slot_emb]
  show pv s ((pseg c).view.emb (ix2 a b)) = _
  rw [pseg_emb]
  rfl

/-- What device `s` sends of its sum is what segment `s` of the result is to hold. -/
theorem oseg_landed (pv : Dev nD → Vec F S256x512 .f32) (s : Dev nD) (fd : Vec F S2x128x512 .f32) :
    ∀ i ∈ (oseg s).view.set, (oseg s).view.write (Elt F) fd (stM.view.read (Elt F) (stV pv s)) Finset.univ i = outV pv i := fun i hi => by
  obtain ⟨a, b, rfl⟩ := exists_emb hi
  rw [View.write_emb_of_mem _ _ (Finset.mem_univ _), oseg_emb]
  show stV pv s (ix2 a b) = stV pv _ _
  have hx := a.isLt
  have hs := lt32 s
  congr 1
  · exact Fin.ext (by show s.val = 16 * (s.val / 16) + (8 * (s.val % 16) + a.val) / 8; omega)
  · congr 1
    exact Fin.ext (by show a.val = (8 * (s.val % 16) + a.val) % 8; omega)

/-! ## The amounts of the transfers -/

/-- What one piece of 8 rows counts on its semaphore. -/
abbrev N : ℕ := stM.view.dmaCredit
theorem N_pos : 0 < N := View.dmaCredit_pos _ (by decide)
theorem amount_slot (off) (inb) : (rsAt off inb).view.dmaCredit = N := rfl
theorem amount_oseg (off) (inb) : (outAt off inb).view.dmaCredit = N := rfl
theorem amount_pseg (off) (inb) : (partAt off inb).view.dmaCredit = N := rfl

end Cert.KernelIdeal.Mha

end
-- ==== Proof.Proto.lean ====
/-
  The protocol of the exchange: for every semaphore of a device, who raises it, by how much, and what is handed over.

  Every semaphore is used once. The barrier of device `c` is raised by each other device `j`, which hands over its slot and its
  segment for `c`. A receive semaphore is raised by one copy from one other device, which hands back the piece written; a send
  semaphore is raised by the same copy on the sender's side, which gives the source back.
-/
module

public import proofs.«01_k».proof.Proof.Pieces
public import Idealize.ShloMosaic.Lib.ShareLeaves
public import Idealize.ShloMosaic.Lib.Rounds
public import Idealize.ShloMosaic.Lib.Rounds.Family
public import Idealize.ShloMosaic.Lib.Pipeline.RegionTalk

@[expose] public section

noncomputable section

namespace Cert.KernelIdeal.Mha

open Idealize.ShloMosaic Idealize.ShloMosaic.TcCoe Idealize.ShloMosaic.Rounds
open Idealize.SL Idealize.SL.RA Idealize.SL.BI
open scoped Idealize.SL.BI
open Idealize.SL.BI.BIBase Idealize.SL.Sem
open Cert.KernelIdeal.Gen

variable {F : FTy → Type} [FloatOps F]

/-! ## Ghost state -/

abbrev UU : Type := URounds (GSem nD τ sig) Unit × URounds (GSem nD τ sig) (Dev nD)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Dev nD)) (MT nD τ sig Unit (Elt F) ℕ UU ℕ) := embR

/-! ## The semaphores -/

abbrev barS : Sem sig := sig.barrier 0 rfl

/-- The semaphores of the copies, by kind (send and receive of the first and of the second exchange) and by device; the two of the local copies. -/
abbrev Own : Type := (Fin 4 × Dev nD) ⊕ Fin 2
def dmaOf : Own → DmaSem sig
  | .inl (a, j) => ⟨6 + 32 * a.val + j.val, by have := lt32 j; have := a.isLt; show _ < 136; omega⟩
  | .inr i => ⟨134 + i.val, by have := i.isLt; show _ < 136; omega⟩
abbrev osem (k : Own) : SemLoc sig := .dma (dmaOf k)

theorem dmaOf_inj : Function.Injective dmaOf := fun k k' h => by
  have hv : (dmaOf k).val = (dmaOf k').val := congrArg Fin.val h
  rcases k with ⟨a, j⟩ | i <;> rcases k' with ⟨a', j'⟩ | i'
  · have := lt32 j; have := lt32 j'
    have e : 6 + 32 * a.val + j.val = 6 + 32 * a'.val + j'.val := hv
    have ea : a = a' := Fin.ext (by omega)
    have ej : j = j' := Fin.ext (by omega)
    rw [ea, ej]
  · have := lt32 j; have := a.isLt
    have e : 6 + 32 * a.val + j.val = 134 + i'.val := hv
    omega
  · have := lt32 j'; have := a'.isLt
    have e : 134 + i.val = 6 + 32 * a'.val + j'.val := hv
    omega
  · have e : 134 + i.val = 134 + i'.val := hv
    have ei : i = i' := Fin.ext (by omega)
    rw [ei]
theorem osem_inj : Function.Injective osem := fun _ _ h => dmaOf_inj (SemLoc.dma.inj h)

abbrev barCell (c : Dev nD) : GSem nD τ sig := ((c : Thread nD τ), .reg barS)
abbrev ownCell (c : Dev nD) (k : Own) : GSem nD τ sig := ((c : Thread nD τ), osem k)
abbrev sCell (a : Fin 4) (c j : Dev nD) : GSem nD τ sig := ownCell c (.inl (a, j))
abbrev cCell (i : Fin 2) (c : Dev nD) : GSem nD τ sig := ownCell c (.inr i)

/-! ## What is handed over -/

/-- Slot `s` of device `c`, segment `s` of its result, block `j` of its partial product, its sum at a share. -/
abbrev slotPt (c s : Dev nD) (f : Vec F S32x8x512 .f32) : sProp 𝕄 := (slot s).view.loc (c : Thread nD τ) ↦[(slot s).view.set]{fullShare} f
abbrev osegPt (c s : Dev nD) (f : Vec F S2x128x512 .f32) : sProp 𝕄 := (oseg s).view.loc (c : Thread nD τ) ↦[(oseg s).view.set]{fullShare} f
abbrev psegPt (c j : Dev nD) (f : Vec F S256x512 .f32) : sProp 𝕄 := (pseg j).view.loc (c : Thread nD τ) ↦[(pseg j).view.set]{fullShare} f
abbrev stPt (c : Dev nD) (q : PosShare TreeShare) (f : Vec F S8x512 .f32) : sProp 𝕄 := (stM).view.loc (c : Thread nD τ) ↦[(stM).view.set]{q} f

/-- The share of its sum a device lends to the copy to device `j`. -/
abbrev leafOf (j : Dev nD) : PosShare TreeShare := ShareLeaves.leaf 5 fullShare j

/-- Paid to the barrier of device `c` by device `j`: slot and segment `c` of device `j`, which is ready to receive in them. -/
def barPay (c j : Dev nD) : sProp 𝕄 :=
  iprop((∃ f, slotPt j c f) ∗ (∃ f, osegPt j c f) ∗ reached ER (sCell 1 j c) 0 ∗ reached ER (sCell 3 j c) 0)

variable (pv : Dev nD → Vec F S256x512 .f32)

/-- Paid to the four copy semaphores of device `c` for device `j`. -/
def ownPay (a : Fin 4) (c j : Dev nD) : sProp 𝕄 :=
  match a with
  | 0 => psegPt c j (pv c)
  | 1 => slotPt c j (rsV pv c)
  | 2 => stPt c (leafOf j) (stV pv c)
  | 3 => osegPt c j (outV pv)

/-- Paid by the two local copies: the piece written and the source back. -/
def copyPay (i : Fin 2) (c : Dev nD) : sProp 𝕄 :=
  match i with
  | 0 => iprop(slotPt c c (rsV pv c) ∗ psegPt c c (pv c))
  | 1 => iprop(osegPt c c (outV pv) ∗ stPt c (leafOf c) (stV pv c))

/-! ## The schedule -/

/-- What a semaphore of device `c` is paid with, by its name. -/
def dutiesOf (c : Dev nD) (sm : SemLoc sig) : Finset (Dev nD) :=
  match sm with
  | .reg _ => Finset.univ.erase c
  | .dma i => if i.val < 6 then ∅ else if i.val < 134 ∧ (i.val - 6) % 32 = c.val then ∅ else {0}

def payOf (c : Dev nD) (sm : SemLoc sig) (d : Dev nD) : sProp 𝕄 :=
  match sm with
  | .reg _ => barPay c d
  | .dma i => if i.val < 134 then ownPay pv ⟨(i.val - 6) / 32 % 4, Nat.mod_lt _ (by decide)⟩ c ⟨(i.val - 6) % 32, Nat.mod_lt _ (by decide)⟩
      else copyPay pv ⟨(i.val - 134) % 2, Nat.mod_lt _ (by decide)⟩ c

def amountOf (sm : SemLoc sig) : ℕ := match sm with | .reg _ => 1 | .dma _ => N

def Rd : Rounds.Schedule (GSem nD τ sig) (Dev nD) 𝕄 where
  duties g r := if r = 0 ∧ g.1.2 = .tc then dutiesOf g.1.1 g.2 else ∅
  unitless _ := False
  amount g _ _ := amountOf g.2
  payload g _ d := payOf pv g.1.1 g.2 d
  amount_pos g _ _ _ := by
    rcases g with ⟨_, _ | _⟩
    · exact Nat.one_pos
    · exact N_pos

instance Rd_payload_storable (g : GSem nD τ sig) (r : ℕ) (d : Dev nD) : BI.Storable (upEmb : UEmb _ 𝕄) ((Rd pv).payload g r d) := by
  show BI.Storable upEmb (payOf pv g.1.1 g.2 d)
  have hown : ∀ a c j, BI.Storable (upEmb : UEmb _ 𝕄) (ownPay pv a c j) := fun a c j => by
    match a with
    | 0 => unfold ownPay; infer_instance
    | 1 => unfold ownPay; infer_instance
    | 2 => unfold ownPay; infer_instance
    | 3 => unfold ownPay; infer_instance
  have hcopy : ∀ i c, BI.Storable (upEmb : UEmb _ 𝕄) (copyPay pv i c) := fun i c => by
    match i with
    | 0 => unfold copyPay; infer_instance
    | 1 => unfold copyPay; infer_instance
  rcases g with ⟨t, _ | i⟩
  · unfold payOf barPay; infer_instance
  · unfold payOf
    dsimp only
    split
    · exact hown _ _ _
    · exact hcopy _ _

section Sched

variable (c j : Dev nD) (a : Fin 4) (i : Fin 2)

theorem own_val : (dmaOf (.inl (a, j))).val = 6 + 32 * a.val + j.val := rfl
theorem copy_val : (dmaOf (.inr i)).val = 134 + i.val := rfl

theorem duties_zero (sm : SemLoc sig) : (Rd pv).duties ((c : Thread nD τ), sm) 0 = dutiesOf c sm := by
  show (if 0 = 0 ∧ (c : Thread nD τ).2 = .tc then dutiesOf c sm else ∅) = _
  exact if_pos ⟨rfl, rfl⟩
theorem duties_bar : (Rd pv).duties (barCell c) 0 = Finset.univ.erase c := duties_zero pv c _
theorem duties_own (h : c ≠ j) : (Rd pv).duties (sCell a c j) 0 = {0} := by
  have hj := lt32 j
  have ha := a.isLt
  refine (duties_zero pv c _).trans ?_
  show (if (dmaOf (.inl (a, j))).val < 6 then (∅ : Finset (Dev nD)) else
    if (dmaOf (.inl (a, j))).val < 134 ∧ ((dmaOf (.inl (a, j))).val - 6) % 32 = c.val then ∅ else {0}) = {0}
  rw [own_val, if_neg (by omega), if_neg]
  rintro ⟨-, e⟩
  exact h (Fin.ext (by omega))
theorem duties_own_self : (Rd pv).duties (sCell a c c) 0 = ∅ := by
  have hj := lt32 c
  have ha := a.isLt
  refine (duties_zero pv c _).trans ?_
  show (if (dmaOf (.inl (a, c))).val < 6 then (∅ : Finset (Dev nD)) else
    if (dmaOf (.inl (a, c))).val < 134 ∧ ((dmaOf (.inl (a, c))).val - 6) % 32 = c.val then ∅ else {0}) = ∅
  rw [own_val, if_neg (by omega), if_pos]
  exact ⟨by omega, by omega⟩
theorem duties_copy : (Rd pv).duties (cCell i c) 0 = {0} := by
  have hi := i.isLt
  refine (duties_zero pv c _).trans ?_
  show (if (dmaOf (.inr i)).val < 6 then (∅ : Finset (Dev nD)) else
    if (dmaOf (.inr i)).val < 134 ∧ ((dmaOf (.inr i)).val - 6) % 32 = c.val then ∅ else {0}) = {0}
  rw [copy_val, if_neg (by omega), if_neg]
  rintro ⟨h, -⟩
  omega
theorem duties_later (g : GSem nD τ sig) : ∀ r, 1 ≤ r → (Rd pv).duties g r = ∅ :=
  fun r hr => if_neg (fun h => by omega)

theorem amount_bar (d : Dev nD) : (Rd pv).amount (barCell c) 0 d = 1 := rfl
theorem amount_own (k : Own) (d : Dev nD) : (Rd pv).amount (ownCell c k) 0 d = N := rfl

theorem payload_bar (d : Dev nD) : (Rd pv).payload (barCell c) 0 d = barPay c d := rfl
theorem payload_own (d : Dev nD) : (Rd pv).payload (sCell a c j) 0 d = ownPay pv a c j := by
  have hj := lt32 j
  have ha := a.isLt
  show (if (dmaOf (.inl (a, j))).val < 134 then
      ownPay pv ⟨((dmaOf (.inl (a, j))).val - 6) / 32 % 4, _⟩ c ⟨((dmaOf (.inl (a, j))).val - 6) % 32, _⟩ else _) = _
  rw [if_pos (by rw [own_val]; omega)]
  congr 1
  · exact Fin.ext (by show ((dmaOf (.inl (a, j))).val - 6) / 32 % 4 = a.val; rw [own_val]; omega)
  · exact Fin.ext (by show ((dmaOf (.inl (a, j))).val - 6) % 32 = j.val; rw [own_val]; omega)
theorem payload_copy (d : Dev nD) : (Rd pv).payload (cCell i c) 0 d = copyPay pv i c := by
  have hi := i.isLt
  show (if (dmaOf (.inr i)).val < 134 then _ else copyPay pv ⟨((dmaOf (.inr i)).val - 134) % 2, _⟩ c) = _
  rw [if_neg (by rw [copy_val]; omega)]
  congr 1
  exact Fin.ext (by show ((dmaOf (.inr i)).val - 134) % 2 = i.val; rw [copy_val]; omega)

theorem expect_bar : (Rd pv).expect (barCell c) 0 = 31 := by
  unfold Schedule.expect Schedule.amountOf
  rw [duties_bar, Finset.sum_congr rfl fun d _ => amount_bar pv c d, Finset.sum_const, Finset.card_erase_of_mem (Finset.mem_univ c)]
  rfl
theorem expect_own (h : c ≠ j) : (Rd pv).expect (sCell a c j) 0 = N := by
  unfold Schedule.expect Schedule.amountOf
  rw [duties_own pv c j a h, Finset.sum_singleton, amount_own]
theorem expect_copy : (Rd pv).expect (cCell i c) 0 = N := by
  unfold Schedule.expect Schedule.amountOf
  rw [duties_copy, Finset.sum_singleton, amount_own]

theorem rest_bar : bigSep ((Rd pv).duties (barCell c) 0 \ ∅) (fun d => (Rd pv).payload (barCell c) 0 d) = bigSep (Finset.univ.erase c) fun d => barPay c d := by
  rw [Finset.sdiff_empty, duties_bar]
  exact bigSep_congr fun d _ => payload_bar pv c d
theorem rest_own (h : c ≠ j) : bigSep ((Rd pv).duties (sCell a c j) 0 \ ∅) (fun d => (Rd pv).payload (sCell a c j) 0 d) = ownPay pv a c j := by
  rw [Finset.sdiff_empty, duties_own pv c j a h, bigSep_singleton, payload_own]
theorem rest_copy : bigSep ((Rd pv).duties (cCell i c) 0 \ ∅) (fun d => (Rd pv).payload (cCell i c) 0 d) = copyPay pv i c := by
  rw [Finset.sdiff_empty, duties_copy, bigSep_singleton, payload_copy]

end Sched

/-! ## What each device owes at launch; the order of the semaphores -/

/-- What device `c` owes another device `j`: the barrier unit and the two copies. -/
abbrev tBar (j : Dev nD) : CellTallies nD τ sig Unit := tallyAt (barCell j) () 1
abbrev tOwn (a : Fin 4) (c j : Dev nD) : CellTallies nD τ sig Unit := tallyAt (sCell a j c) () N

abbrev others (c : Dev nD) : Finset (Dev nD) := Finset.univ.erase c

def owe2 (c : Dev nD) : CellTallies nD τ sig Unit := ∑ j ∈ others c, tOwn 3 c j
def owe1 (c : Dev nD) : CellTallies nD τ sig Unit := owe2 c + ∑ j ∈ others c, tOwn 1 c j
def O₀ (c : Dev nD) : CellTallies nD τ sig Unit := owe1 c + ∑ j ∈ others c, tBar j

def L (g : GSem nD τ sig) : Finset Unit := if g.1.2 = .tc then {()} else ∅
/-- Barriers first, then the receives of the first exchange, then those of the second. -/
def lvOf (sm : SemLoc sig) : ℕ :=
  match sm with
  | .reg _ => 1
  | .dma i => if 38 ≤ i.val ∧ i.val < 70 then 2 else if 102 ≤ i.val ∧ i.val < 134 then 3 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lvOf (barCell c).2 = 1 := rfl
theorem lv_recv1 (c j : Dev nD) : lvOf (sCell 1 c j).2 = 2 := by
  have hj := lt32 j
  show (if 38 ≤ (dmaOf (.inl (1, j))).val ∧ (dmaOf (.inl (1, j))).val < 70 then 2 else _) = 2
  rw [own_val]
  refine if_pos ?_
  show 38 ≤ 6 + 32 * 1 + j.val ∧ 6 + 32 * 1 + j.val < 70
  omega
theorem lv_recv2 (c j : Dev nD) : lvOf (sCell 3 c j).2 = 3 := by
  have hj := lt32 j
  show (if 38 ≤ (dmaOf (.inl (3, j))).val ∧ (dmaOf (.inl (3, j))).val < 70 then 2
    else if 102 ≤ (dmaOf (.inl (3, j))).val ∧ (dmaOf (.inl (3, j))).val < 134 then 3 else 0) = 3
  rw [own_val]
  refine (if_neg ?_).trans (if_pos ?_)
  · show ¬(38 ≤ 6 + 32 * 3 + j.val ∧ 6 + 32 * 3 + j.val < 70)
    omega
  · show 102 ≤ 6 + 32 * 3 + j.val ∧ 6 + 32 * 3 + j.val < 134
    omega

/-- A sum of tallies is positive at a cell only where one of them is. -/
theorem sum_pos {s : Finset (Dev nD)} {t : Dev nD → CellTallies nD τ sig Unit} {g : GSem nD τ sig} {u : Unit}
    (h : 0 < (∑ j ∈ s, t j) g u) : ∃ j ∈ s, 0 < t j g u := by
  rw [Finset.sum_apply, Finsupp.finset_sum_apply] at h
  exact Finset.sum_pos_iff.mp h

theorem tally_pos {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

theorem add_pos' {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

/-- Every cell a device owes at is a TensorCore's. -/
theorem owe2_cell {c : Dev nD} {g : GSem nD τ sig} {u : Unit} (h : 0 < owe2 c g u) : ∃ j, g = sCell 3 j c := by
  obtain ⟨j, -, hj⟩ := sum_pos h
  exact ⟨j, tally_pos hj⟩
theorem owe1_cell {c : Dev nD} {g : GSem nD τ sig} {u : Unit} (h : 0 < owe1 c g u) : ∃ j, g = sCell 3 j c ∨ g = sCell 1 j c := by
  rcases add_pos' h with h | h
  · obtain ⟨j, hj⟩ := owe2_cell h
    exact ⟨j, .inl hj⟩
  · obtain ⟨j, -, hj⟩ := sum_pos h
    exact ⟨j, .inr (tally_pos hj)⟩
theorem O₀_cell {c : Dev nD} {g : GSem nD τ sig} {u : Unit} (h : 0 < O₀ c g u) : ∃ j, g = sCell 3 j c ∨ g = sCell 1 j c ∨ g = barCell j := by
  rcases add_pos' h with h | h
  · obtain ⟨j, hj⟩ := owe1_cell h
    exact ⟨j, hj.elim .inl fun h => .inr (.inl h)⟩
  · obtain ⟨j, -, hj⟩ := sum_pos h
    exact ⟨j, .inr (.inr (tally_pos hj))⟩

/-- A device may wait at a cell below all it owes. -/
theorem mayWait (c : Dev nD) (sm : SemLoc sig) (O : CellTallies nD τ sig Unit) (n : ℕ) (hn : lvOf sm ≤ n)
    (h : ∀ g u, 0 < O g u → g.1.2 = .tc ∧ n < lvOf g.2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact hn)
    (fun g u hg => (h g u hg).2)

theorem mayWait_bar (c : Dev nD) : (levAts L lv : sProp 𝕄) ⊢ MayWait (c : Thread nD τ) (.reg barS) () (owe1 c) :=
  mayWait c _ _ 1 (le_of_eq (lv_bar c)) fun g u hg => by
    obtain ⟨j, rfl | rfl⟩ := owe1_cell hg
    · exact ⟨rfl, by rw [lv_recv2]; decide⟩
    · exact ⟨rfl, by rw [lv_recv1]; decide⟩
theorem mayWait_recv1 (c j : Dev nD) : (levAts L lv : sProp 𝕄) ⊢ MayWait (c : Thread nD τ) (sCell 1 c j).2 () (owe2 c) :=
  mayWait c _ _ 2 (le_of_eq (lv_recv1 c j)) fun g u hg => by
    obtain ⟨j, rfl⟩ := owe2_cell hg
    exact ⟨rfl, by rw [lv_recv2]; decide⟩
theorem mayWait_copy0 (c : Dev nD) : (levAts L lv : sProp 𝕄) ⊢ MayWait (c : Thread nD τ) (cCell 0 c).2 () (owe2 c) :=
  mayWait c _ _ 2 (show lvOf (osem (.inr 0)) ≤ 2 by decide) fun g u hg => by
    obtain ⟨j, rfl⟩ := owe2_cell hg
    exact ⟨rfl, by rw [lv_recv2]; decide⟩

end Cert.KernelIdeal.Mha

end
-- ==== Proof.Runs.lean ====
/-
  What a piece of a device's program does, as a relation between what is held before it and after it, and the shape shared by the
  seven passes over the other devices: at pass position `k` the devices below `k` are done and those from `k` on are to be done.
-/
module

public import proofs.«01_k».proof.Proof.Proto
public import Idealize.ShloMosaic.Lib.Tactic

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

abbrev 𝒱₀ : Variants := Variants.none

/-! ## Runs of a program -/

/-- From `P`, the program runs to the result `v` and leaves `P'`. -/
def Runs {α : Type} (c : Dev nD) (P : sProp 𝕄) (p : Prog (TpuEff nD τ sig (Elt F) Λ₀ .tc) α) (P' : sProp 𝕄) (v : α) : Prop :=
  ∀ K : α → sProp 𝕄, (P' ⊢ K v) → P ⊢ wp frame (wpE (defs₀ (F := F)) 𝒱₀ (c : Thread nD τ) none) Set.univ p K

section

variable {α β : Type} {c : Dev nD} {P P' P'' R : sProp (MT nD τ sig Unit (Elt F) ℕ UU ℕ)}
variable {p : Prog (TpuEff nD τ sig (Elt F) Λ₀ .tc) α} {k : α → Prog (TpuEff nD τ sig (Elt F) Λ₀ .tc) β} {v : α} {w : β}

theorem Runs.bind (h : Runs c P p P' v) (h' : Runs c P' (k v) P'' w) : Runs c P (p >>= k) P'' w := fun K hK => by
  rw [wp_bind]
  exact h _ (h' K hK)

theorem Runs.pure (P : sProp 𝕄) (v : α) : Runs c P (pure v : Prog (TpuEff nD τ sig (Elt F) Λ₀ .tc) α) P v := fun K hK => by
  rw [wp_pure]
  exact hK.trans (fupd_intro (PROP := sProp 𝕄))

theorem Runs.pre (h : P' ⊢ P) (hr : Runs c P p P'' v) : Runs c P' p P'' v := fun K hK => h.trans (hr K hK)
theorem Runs.post (hr : Runs c P p P' v) (h : P' ⊢ P'') : Runs c P p P'' v := fun K hK => hr K (h.trans hK)

theorem Runs.frm (R : sProp 𝕄) (hr : Runs c P p P' v) : Runs c iprop(P ∗ R) p iprop(P' ∗ R) v := fun K hK => by
  refine (sep_mono_left (hr (fun a => iprop(R -∗ K a)) (BIClass.wand_intro hK))).trans ?_
  refine (wp_frame_r _ _ _).trans (wp_mono _ _ _ fun a => ?_)
  exact BIClass.wand_elim .rfl

theorem Runs.ex {ι : Type} {P : ι → sProp 𝕄} (h : ∀ i, Runs c (P i) p P' v) : Runs c iprop(∃ i, P i) p P' v :=
  fun K hK => sProp.exists_elim fun i => h i K hK

theorem Runs.fact {φ : Prop} (h : φ → Runs c P p P' v) : Runs c iprop(⌜φ⌝ ∗ P) p P' v := fun K hK => by
  iintro ⟨%hφ, HP⟩
  iapply (h hφ K hK)
  iexact HP

/-- An update before the program. -/
theorem Runs.upd (h : P ⊢ iprop(|={Set.univ}=> P')) (hr : Runs c P' p P'' v) : Runs c P p P'' v :=
  fun K hK => wp_of_fupd _ _ _ h (hr K hK)
/-- An update after it. -/
theorem Runs.updPost (hr : Runs c P p P' v) (h : P' ⊢ iprop(|={Set.univ}=> P'')) : Runs c P p P'' v :=
  fun K hK => (hr (fun a => iprop(|={Set.univ}=> K a)) (h.trans (fupd_mono hK))).trans (wp_fupd _ _ _ p K)

/-- One effect without a result. -/
theorem Runs.step {e : TpuEff nD τ sig (Elt F) Λ₀ .tc PUnit}
    (h : ∀ Q : PUnit → sProp 𝕄, P ⊢ iprop((P' -∗ wp frame (wpE (defs₀ (F := F)) 𝒱₀ (c : Thread nD τ) none) Set.univ (.ret ⟨⟩) Q)
      -∗ wp frame (wpE (defs₀ (F := F)) 𝒱₀ (c : Thread nD τ) none) Set.univ (.op e .ret) Q)) :
    Runs c P (.op e .ret) P' ⟨⟩ := fun K hK => by
  iintro HP
  iapply (h K) $$ HP
  iintro HP'
  rw [wp_ret]
  imodintro
  iapply hK
  iexact HP'

/-- A branch: done only where `c ≠ j`, and the same continuation on both sides. -/
theorem Runs.branch {cond : BitVec 1} {t : cond = 1#1 → Prog (TpuEff nD τ sig (Elt F) Λ₀ .tc) α} {q : Prog (TpuEff nD τ sig (Elt F) Λ₀ .tc) α}
    (ht : ∀ h, Runs c P (t h) P' v) (hq : ¬ cond = 1#1 → Runs c P q P' v) : Runs c P (if h : cond = 1#1 then t h else q) P' v := by
  by_cases h : cond = 1#1
  · rw [dif_pos h]; exact ht h
  · rw [dif_neg h]; exact hq h

theorem Runs.deviceId : Runs c P (Prog.lift .deviceId : Prog (TpuEff nD τ sig (Elt F) Λ₀ .tc) (Dev nD)) P c := fun K hK => by
  rw [show (Prog.lift .deviceId : Prog (TpuEff nD τ sig (Elt F) Λ₀ .tc) (Dev nD)) = .op .deviceId .ret from rfl, wp_deviceId, wp_ret]
  exact hK.trans (fupd_intro (PROP := sProp 𝕄))

end

/-! ## Loads and stores -/

section

variable {β : Type} {c : Dev nD} {P P'' R : sProp (MT nD τ sig Unit (Elt F) ℕ UU ℕ)} {w : β} {s : Shape} {e : EltTy} {cs : CoreSpace}
variable {k : PUnit → Prog (TpuEff nD τ sig (Elt F) Λ₀ .tc) β}

/-- A load: the buffer is given back and the rest goes on with what was read. -/
theorem Runs.load (m : Memref sig .tc cs s e) {r : LoadRect s} {hl : m.view.LoadsAt r} (S : Finset (Idx (m.view.loc (c : Thread nD τ)))) (q : PosShare TreeShare)
    (f : Buf (Elt F) (m.view.loc (c : Thread nD τ))) (hS : m.view.setOn r.set ⊆ S) :
    Runs c (m.view.loc (c : Thread nD τ) ↦[S]{q} f) (Prog.lift (.load m r hl)) (m.view.loc (c : Thread nD τ) ↦[S]{q} f) (m.view.readAt (Elt F) r f) := fun K hK => by
  iintro HP
  iapply (wp_load 𝒱₀ (c : Thread nD τ) none Set.univ (m := m) (r := r) (hl := hl) (k := .ret) (Q := K) hS) $$ HP
  iintro HP
  rw [wp_ret]
  imodintro
  iapply hK
  iexact HP

/-- A load whose value is not used. -/
theorem Runs.dead (m : Memref sig .tc cs s e) {r : LoadRect s} {hl : m.view.LoadsAt r} (S : Finset (Idx (m.view.loc (c : Thread nD τ)))) (q : PosShare TreeShare)
    (f : Buf (Elt F) (m.view.loc (c : Thread nD τ))) (hS : m.view.setOn r.set ⊆ S)
    {k : (r.shape.Idx → Elt F e) → Prog (TpuEff nD τ sig (Elt F) Λ₀ .tc) β}
    (h : ∀ x, Runs c iprop((m.view.loc (c : Thread nD τ) ↦[S]{q} f) ∗ R) (k x) P'' w) :
    Runs c iprop((m.view.loc (c : Thread nD τ) ↦[S]{q} f) ∗ R) (Prog.lift (.load m r hl) >>= k) P'' w :=
  ((Runs.load m S q f hS).frm R).bind (h _)

theorem Runs.store (m : Memref sig .tc cs s e) {r : Rect s} {x : r.shape.Idx → Elt F e} {Mk : Finset r.shape.Idx} {hx : (m.access r).Stores Mk}
    {hm : Mk = Finset.univ ∨ ∀ a, r.stride a = 1} (S : Finset (Idx ((m.access r).loc (c : Thread nD τ))))
    (f : Buf (Elt F) ((m.access r).loc (c : Thread nD τ))) (hS : (m.access r).setOn Mk ⊆ S) :
    Runs c ((m.access r).loc (c : Thread nD τ) ↦[S]{fullShare} f) (Prog.lift (.store m r x Mk hx hm))
      ((m.access r).loc (c : Thread nD τ) ↦[S]{fullShare} ((m.access r).write (Elt F) f x Mk)) ⟨⟩ := fun K hK => by
  iintro HP
  iapply (wp_store 𝒱₀ (c : Thread nD τ) none Set.univ (m := m) (r := r) (hx := hx) (hm := hm) (k := .ret) (Q := K) hS) $$ HP
  iintro HP
  rw [wp_ret]
  imodintro
  iapply hK
  iexact HP

end

/-! ## A pass over the other devices -/

/-- What device `c` owes, whatever it has waited for. -/
abbrev due (c : Dev nD) (O : CellTallies nD τ sig Unit) : sProp 𝕄 := iprop(∃ W, owes (c : Thread nD τ) O W)

abbrev fromOn (c : Dev nD) (k : ℕ) : Finset (Dev nD) := (others c).filter fun j => k ≤ j.val
abbrev below (c : Dev nD) (k : ℕ) : Finset (Dev nD) := (others c).filter fun j => j.val < k

/-- A pass of device `c` at position `k`: `A j` for each device still to be done, `B j` for each done, and the debts of those to be done on top of `O`. -/
def Pass (c : Dev nD) (A B : Dev nD → sProp 𝕄) (O : CellTallies nD τ sig Unit) (t : Dev nD → CellTallies nD τ sig Unit) (k : ℕ) : sProp 𝕄 :=
  iprop(bigSep (fromOn c k) A ∗ bigSep (below c k) B ∗ due c (O + ∑ j ∈ fromOn c k, t j))

theorem fromOn_zero (c : Dev nD) : fromOn c 0 = others c := Finset.filter_true_of_mem fun _ _ => Nat.zero_le _
theorem fromOn_last (c : Dev nD) : fromOn c 32 = ∅ := Finset.filter_false_of_mem fun j _ => by have := lt32 j; omega
theorem below_zero (c : Dev nD) : below c 0 = ∅ := Finset.filter_false_of_mem fun j _ => by omega
theorem below_last (c : Dev nD) : below c 32 = others c := Finset.filter_true_of_mem fun j _ => lt32 j

theorem fromOn_self (c j : Dev nD) (h : c = j) : fromOn c j.val = fromOn c (j.val + 1) := by
  subst h
  ext i
  simp only [Finset.mem_filter, Finset.mem_erase, Finset.mem_univ, and_true]
  constructor
  · rintro ⟨hi, h⟩
    exact ⟨hi, Nat.lt_of_le_of_ne h fun e => hi (Fin.ext e.symm)⟩
  · rintro ⟨hi, h⟩
    exact ⟨hi, by omega⟩
theorem below_self (c j : Dev nD) (h : c = j) : below c (j.val + 1) = below c j.val := by
  subst h
  ext i
  simp only [Finset.mem_filter, Finset.mem_erase, Finset.mem_univ, and_true]
  constructor
  · rintro ⟨hi, h⟩
    exact ⟨hi, Nat.lt_of_le_of_ne (by omega) fun e => hi (Fin.ext e)⟩
  · rintro ⟨hi, h⟩
    exact ⟨hi, by omega⟩
theorem fromOn_next (c j : Dev nD) (h : c ≠ j) : fromOn c j.val = insert j (fromOn c (j.val + 1)) := by
  ext i
  simp only [Finset.mem_filter, Finset.mem_erase, Finset.mem_univ, and_true, Finset.mem_insert]
  constructor
  · rintro ⟨hi, hle⟩
    by_cases e : i = j
    · exact .inl e
    · exact .inr ⟨hi, Nat.lt_of_le_of_ne hle fun e' => e (Fin.ext e'.symm)⟩
  · rintro (rfl | ⟨hi, hle⟩)
    · exact ⟨h.symm, Nat.le_refl _⟩
    · exact ⟨hi, by omega⟩
theorem below_next (c j : Dev nD) (h : c ≠ j) : below c (j.val + 1) = insert j (below c j.val) := by
  ext i
  simp only [Finset.mem_filter, Finset.mem_erase, Finset.mem_univ, and_true, Finset.mem_insert]
  constructor
  · rintro ⟨hi, hle⟩
    by_cases e : i = j
    · exact .inl e
    · exact .inr ⟨hi, Nat.lt_of_le_of_ne (by omega) fun e' => e (Fin.ext e')⟩
  · rintro (rfl | ⟨hi, hle⟩)
    · exact ⟨h.symm, by omega⟩
    · exact ⟨hi, by omega⟩
theorem not_fromOn (c j : Dev nD) : j ∉ fromOn c (j.val + 1) := fun h => by have := (Finset.mem_filter.mp h).2; omega
theorem not_below (c j : Dev nD) : j ∉ below c j.val := fun h => by have := (Finset.mem_filter.mp h).2; omega

theorem bigSep_ins {s : Finset (Dev nD)} {Φ : Dev nD → sProp 𝕄} {j : Dev nD} (h : j ∉ s) : bigSep (insert j s) Φ = iprop(Φ j ∗ bigSep s Φ) := bigSep_insert h

section

variable {c : Dev nD} {A B : Dev nD → sProp (MT nD τ sig Unit (Elt F) ℕ UU ℕ)} {O : CellTallies nD τ sig Unit} {t : Dev nD → CellTallies nD τ sig Unit}

theorem Pass.first : iprop(bigSep (others c) A ∗ due c (O + ∑ j ∈ others c, t j)) ⊢ Pass c A B O t 0 := by
  unfold Pass
  rw [fromOn_zero, below_zero, bigSep_empty]
  iintro ⟨HA, HO⟩
  isplitl [HA]; · iexact HA
  isplitr; · iempintro
  iexact HO

theorem Pass.last : Pass c A B O t 32 ⊢ iprop(bigSep (others c) B ∗ due c O) := by
  unfold Pass
  rw [fromOn_last, below_last, bigSep_empty, Finset.sum_empty, add_zero]
  iintro ⟨-, HB, HO⟩
  isplitl [HB]; · iexact HB
  iexact HO

/-- One position of a pass: a branch taken where `c ≠ j`, whose action turns `A j` into `B j` and pays the debt for `j`. -/
theorem Pass.run {γ : Type} {v : γ} {P'' : sProp 𝕄} {R : sProp 𝕄} (k : ℕ) (hk : k < 32) {cond : BitVec 1} (hc : cond = 1#1 ↔ c ≠ (⟨k, hk⟩ : Dev nD))
    {act : cond = 1#1 → Prog (TpuEff nD τ sig (Elt F) Λ₀ .tc) PUnit} {q : Prog (TpuEff nD τ sig (Elt F) Λ₀ .tc) γ}
    (ha : ∀ h, c ≠ (⟨k, hk⟩ : Dev nD) → ∀ O', O' = O + ∑ j ∈ fromOn c (k + 1), t j →
      Runs c iprop(A ⟨k, hk⟩ ∗ due c (O' + t ⟨k, hk⟩)) (act h) iprop(B ⟨k, hk⟩ ∗ due c O') ⟨⟩)
    (hq : Runs c iprop(Pass c A B O t (k + 1) ∗ R) q P'' v) :
    Runs c iprop(Pass c A B O t k ∗ R) (if h : cond = 1#1 then act h >>= fun _ => q else q) P'' v := by
  refine Runs.branch (fun h => ?_) fun h => ?_
  · have hne := hc.mp h
    have e₁ : fromOn c k = insert ⟨k, hk⟩ (fromOn c (k + 1)) := fromOn_next c ⟨k, hk⟩ hne
    have e₂ : below c (k + 1) = insert ⟨k, hk⟩ (below c k) := below_next c ⟨k, hk⟩ hne
    have n₁ : (⟨k, hk⟩ : Dev nD) ∉ fromOn c (k + 1) := not_fromOn c ⟨k, hk⟩
    have n₂ : (⟨k, hk⟩ : Dev nD) ∉ below c k := not_below c ⟨k, hk⟩
    refine Runs.bind (P' := iprop(Pass c A B O t (k + 1) ∗ R)) (v := ⟨⟩) ?_ hq
    refine Runs.frm R ?_
    refine Runs.pre (P := iprop((A ⟨k, hk⟩ ∗ due c ((O + ∑ j ∈ fromOn c (k + 1), t j) + t ⟨k, hk⟩)) ∗ (bigSep (fromOn c (k + 1)) A ∗ bigSep (below c k) B))) ?_
      (((ha h hne _ rfl).frm _).post ?_)
    · unfold Pass
      rw [e₁, bigSep_ins n₁, Finset.sum_insert n₁, add_comm (t _), add_assoc]
      iintro ⟨⟨HA, HAs⟩, HB, HO⟩
      isplitl [HA HO]
      · isplitl [HA]; · iexact HA
        iexact HO
      isplitl [HAs]; · iexact HAs
      iexact HB
    · unfold Pass
      rw [e₂, bigSep_ins n₂]
      iintro ⟨⟨HB, HO⟩, HAs, HBs⟩
      isplitl [HAs]; · iexact HAs
      isplitl [HB HBs]
      · isplitl [HB]; · iexact HB
        iexact HBs
      iexact HO
  · have he : c = (⟨k, hk⟩ : Dev nD) := by_contra fun e => h (hc.mpr e)
    have e₁ : fromOn c k = fromOn c (k + 1) := fromOn_self c ⟨k, hk⟩ he
    have e₂ : below c (k + 1) = below c k := below_self c ⟨k, hk⟩ he
    refine Runs.pre ?_ hq
    unfold Pass
    rw [e₁, e₂]

end

end Cert.KernelIdeal.Mha

end
-- ==== Proof.Steps.lean ====
/-
  The single steps of the exchange: signalling a device's barrier, a copy to a device, a wait for one of the copies, the wait for
  the barrier and the two local copies. Each is stated once, for any device and for any way of writing its semaphores and pieces.
-/
module

public import proofs.«01_k».proof.Proof.Runs

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

/-! ## Words, semaphores and pieces as the program writes them -/

def meWord (c : Dev nD) : BitVec 32 := Scalar.remsi (Scalar.divsi (Dev.word c) 1#32) 32#32
def neWord (w s : BitVec 32) : BitVec 1 := Scalar.cmpi .ne (Scalar.extui (Scalar.cmpi .ne w s) : BitVec 32) 0#32

theorem ne_iff (c j : Dev nD) : neWord (meWord c) (BitVec.ofNat 32 j.val) = 1#1 ↔ c ≠ j := by
  revert c j
  decide +kernel

/-- The four groups of copy semaphores. -/
def semsOf (a : Fin 4) : DmaSems sig S32 :=
  match a with
  | 0 => cc0_scratch4
  | 1 => cc0_scratch5
  | 2 => cc0_scratch6
  | 3 => cc0_scratch7

theorem consec_val (n base m j : ℕ) (h : base + (⟨1, ![m]⟩ : Shape).numel ≤ n) (inb) (sq) :
    ((((SemArray.consecutive base (⟨1, ![m]⟩ : Shape) h).slice (Rect.unit (s := ⟨1, ![m]⟩) ![j] S1.size inb)).squeeze S_ sq).sem).val = base + j := by
  show base + ((⟨1, ![m]⟩ : Shape).rowMajor _).val = base + j
  rw [Shape.rowMajor_val_one]
  have h0 : ∀ x : Fin 1, base + (j + 1 * x.val) = base + j := fun x => by have := x.isLt; omega
  exact h0 _

theorem sem_own (a : Fin 4) (j : Dev nD) {off : Fin 1 → ℕ} {inb} {sq} (hoff : off = ![j.val]) :
    (((semsOf a).slice (Rect.unit (s := S32) off S1.size inb)).squeeze S_ sq).sem = dmaOf (.inl (a, j)) := by
  subst hoff
  match a with
  | 0 => exact Fin.ext (consec_val 136 6 32 j.val hcc0_scratch4 _ _)
  | 1 => exact Fin.ext (consec_val 136 38 32 j.val hcc0_scratch5 _ _)
  | 2 => exact Fin.ext (consec_val 136 70 32 j.val hcc0_scratch6 _ _)
  | 3 => exact Fin.ext (consec_val 136 102 32 j.val hcc0_scratch7 _ _)

theorem sem_copy (i : Fin 2) {off : Fin 1 → ℕ} {inb} {sq} (hoff : off = ![i.val]) :
    ((cc0_scratch8.slice (Rect.unit (s := S2) off S1.size inb)).squeeze S_ sq).sem = dmaOf (.inr i) := by
  subst hoff
  exact Fin.ext (consec_val 136 134 2 i.val hcc0_scratch8 _ _)

theorem partAt_eq (j : Dev nD) {off} {inb} (hoff : off = offP j) : partAt off inb = pseg j := by subst hoff; rfl
theorem rsAt_eq (j : Dev nD) {off} {inb} (hoff : off = offR j) : rsAt off inb = slot j := by subst hoff; rfl
theorem outAt_eq (j : Dev nD) {off} {inb} (hoff : off = offO j) : outAt off inb = oseg j := by subst hoff; rfl

/-- The offsets a device computes from its own number. -/
theorem off_sem (c : Dev nD) : k0_off1 c = ![c.val] := k0_off1_eq c
theorem off_slot (c : Dev nD) : k0_off2 c = offR c := k0_off2_eq c
theorem off_part (c : Dev nD) : k0_off66 c = offP c := k0_off66_eq c
theorem off_out (c : Dev nD) : k0_off68 c = offO c := by
  revert c
  decide +kernel

/-! ## What each pass takes and gives -/

variable (pv : Dev nD → Vec F S256x512 .f32) (κ : GSem nD τ sig → ℕ)

abbrev inv (g : GSem nD τ sig) : sProp 𝕄 := cellInv ER (Rd pv) (κ g) g

def sigA (c j : Dev nD) : sProp 𝕄 :=
  iprop(inv pv κ (barCell j) ∗ dutyTok ER (barCell j) 0 c ∗ reached ER (barCell j) 0 ∗ barPay j c)
def sendA (a b : Fin 4) (D : sProp 𝕄) (c j : Dev nD) : sProp 𝕄 :=
  iprop(inv pv κ (sCell a c j) ∗ inv pv κ (sCell b j c) ∗ ownPay pv a c j ∗ D
    ∗ dutyTok ER (sCell a c j) 0 0 ∗ reached ER (sCell a c j) 0 ∗ dutyTok ER (sCell b j c) 0 0 ∗ reached ER (sCell b j c) 0)
def send1A (c j : Dev nD) : sProp 𝕄 := sendA pv κ 0 1 iprop(∃ f, slotPt j c f) c j
def send2A (c j : Dev nD) : sProp 𝕄 := sendA pv κ 2 3 iprop(∃ f, osegPt j c f) c j
def sendB (a : Fin 4) (c j : Dev nD) : sProp 𝕄 := cred (tallyAt (sCell a c j) () N)
def waitA (a : Fin 4) (c j : Dev nD) : sProp 𝕄 :=
  iprop(inv pv κ (sCell a c j) ∗ cred (tallyAt (sCell a c j) () N) ∗ atPos ER (sCell a c j) 0 ∅ 0 ∗ levAts L lv)
def waitB (a : Fin 4) (c j : Dev nD) : sProp 𝕄 := iprop(atPos ER (sCell a c j) 1 ∅ 0 ∗ ownPay pv a c j)

def Signal (c : Dev nD) : ℕ → sProp 𝕄 := Pass c (sigA pv κ c) (fun _ => iprop(emp)) (owe1 c) tBar
def Send1 (c : Dev nD) : ℕ → sProp 𝕄 := Pass c (send1A pv κ c) (sendB 0 c) (owe2 c) (tOwn 1 c)
def Send2 (c : Dev nD) : ℕ → sProp 𝕄 := Pass c (send2A pv κ c) (sendB 2 c) 0 (tOwn 3 c)
/-- The waits of kind `a`, owing `O`. -/
def Wait (a : Fin 4) (O : CellTallies nD τ sig Unit) (c : Dev nD) : ℕ → sProp 𝕄 := Pass c (waitA pv κ a c) (waitB pv a c) O fun _ => 0

section

variable {c : Dev nD} {γ : Type} {v : γ} {P'' R : sProp (MT nD τ sig Unit (Elt F) ℕ UU ℕ)}

/-- Signal device `k`'s barrier. -/
theorem signal_at (k : ℕ) (hk : k < 32) {cond : BitVec 1} (hc : cond = 1#1 ↔ c ≠ (⟨k, hk⟩ : Dev nD)) {dv : ℕ} {lt : cond = 1#1 → dv < nD}
    (hdv : dv = k) {q : Prog (TpuEff nD τ sig (Elt F) Λ₀ .tc) γ} (hq : Runs c iprop(Signal pv κ c (k + 1) ∗ R) q P'' v) :
    Runs c iprop(Signal pv κ c k ∗ R)
      (if h : cond = 1#1 then semSignalWord (⟨dv, lt h⟩ : Dev nD) barS 1#32 >>= fun _ => q else q) P'' v := by
  subst hdv
  refine Pass.run _ hk hc (act := fun h => semSignalWord (⟨dv, lt h⟩ : Dev nD) barS 1#32) (fun h hne O' _ => ?_) hq
  refine Runs.step fun Q => ?_
  generalize (⟨dv, hk⟩ : Dev nD) = j at hne
  unfold sigA
  iintro ⟨⟨HI, HT, HR, HP⟩, ⟨%W, HO⟩⟩ Hk
  iapply (Rounds.wp_signal 𝒱₀ ER (Rd pv) (c : Thread nD τ) none (dst := (j : Thread nD τ)) (sem := barS) (r := 0) (d := c) (κ := κ (barCell j))
      (by rw [duties_bar]; exact Finset.mem_erase.mpr ⟨hne, Finset.mem_univ _⟩) (amount_bar pv j c) () O' rfl (W := W)) $$ [HI HT HR HP HO]
  · isplitl [HI]; · iexact HI
    isplitl [HO]; · iexact HO
    isplitl [HT]; · iexact HT
    isplitl [HP]; · rw [payload_bar]; iexact HP
    iexact HR
  iintro HO
  iapply Hk
  isplitr; · iempintro
  iexists W
  iexact HO

/-- A copy to device `j` that pays a receive semaphore there and gives the source back at a send semaphore here. -/
theorem send_step (a b : Fin 4) (j : Dev nD) (hne : c ≠ j) {src dst : Memref sig .tc .vmem S8x512 .f32} {hsc : dst.view.ref.isScScratch = false}
    {hsrc : src.view.WordExact} {hdst : dst.view.WordExact}
    {hsem : DmaTarget.Typed Space.vmem (.dma (dmaOf (.inl (b, c)))) (.remote (j : Thread nD τ) dst (.dma (dmaOf (.inl (a, j)))) hsc)}
    (q : PosShare TreeShare) (fs : Buf (Elt F) (src.view.loc (c : Thread nD τ))) (hN : dst.view.dmaCredit = N)
    (hs : (src.view.loc (c : Thread nD τ) ↦[src.view.set]{q} fs) = ownPay pv a c j)
    (hd : ∀ fd, (dst.view.loc (j : Thread nD τ) ↦[dst.view.set]{fullShare} dst.view.write (Elt F) fd (src.view.read (Elt F) fs) Finset.univ) = ownPay pv b j c)
    (O' : CellTallies nD τ sig Unit) :
    Runs c iprop(sendA pv κ a b iprop(∃ f, dst.view.loc (j : Thread nD τ) ↦[dst.view.set]{fullShare} f) c j ∗ due c (O' + tOwn b c j))
      (Prog.lift (.enqueueDma src (.remote (j : Thread nD τ) dst (.dma (dmaOf (.inl (a, j)))) hsc) (.dma (dmaOf (.inl (b, c)))) hsrc hdst hsem))
      iprop(sendB a c j ∗ due c O') ⟨⟩ := by
  refine Runs.step fun Q => ?_
  unfold sendA sendB
  rw [← hs]
  iintro ⟨⟨HI, HI', Hs, ⟨%fd, Hd⟩, HT, HR, HT', HR'⟩, ⟨%W, HO⟩⟩ Hk
  iapply (Rounds.wp_send_pointsTo 𝒱₀ ER (Rd pv) (c : Thread nD τ) none (c' := (j : Thread nD τ)) (src := src) (dst := dst)
      (sS := .dma (dmaOf (.inl (a, j)))) (sem := .dma (dmaOf (.inl (b, c)))) (q := q) (fs := fs) (κ₁ := κ (sCell a c j)) (κ₂ := κ (sCell b j c))
      (r₁ := 0) (r₂ := 0) (d₁ := 0) (d₂ := 0) (fd := fd)
      (by rw [duties_own pv c j a hne]; exact Finset.mem_singleton_self _) (by rw [duties_own pv j c b hne.symm]; exact Finset.mem_singleton_self _)
      () () N hN (amount_own pv c _ 0) (amount_own pv j _ 0) O' rfl (W := W)
      (by rw [payload_own, hs])
      (by rw [payload_own, hd])) $$ [HI HI' Hs Hd HO HT HR HT' HR']
  · isplitl [HI]; · iexact HI
    isplitl [HI']; · iexact HI'
    isplitl [Hs]; · iexact Hs
    isplitl [Hd]; · iexact Hd
    isplitl [HO]; · iexact HO
    isplitl [HT]; · iexact HT
    isplitl [HR]; · iexact HR
    isplitl [HT']; · iexact HT'
    iexact HR'
  iintro ⟨Hc, HO⟩
  iapply Hk
  isplitl [Hc]; · iexact Hc
  iexists W
  iexact HO

/-- Copy block `k` of the partial product to device `k`. -/
theorem send1_at (k : ℕ) (hk : k < 32) {cond : BitVec 1} (hc : cond = 1#1 ↔ c ≠ (⟨k, hk⟩ : Dev nD)) {dv : ℕ} {lt : cond = 1#1 → dv < nD}
    (hdv : dv = k) {sS sR : cond = 1#1 → DmaSem sig} {src dst : cond = 1#1 → Memref sig .tc .vmem S8x512 .f32}
    {hsc : ∀ h, (dst h).view.ref.isScScratch = false} {hsrc : ∀ h, (src h).view.WordExact} {hdst : ∀ h, (dst h).view.WordExact}
    {hsem : ∀ h, DmaTarget.Typed Space.vmem (.dma (sR h)) (.remote (Dev.tc (⟨dv, lt h⟩ : Dev nD)) (dst h) (.dma (sS h)) (hsc h))}
    (eS : ∀ h, sS h = dmaOf (.inl (0, ⟨k, hk⟩))) (eR : ∀ h, sR h = dmaOf (.inl (1, c)))
    (es : ∀ h, src h = pseg ⟨k, hk⟩) (ed : ∀ h, dst h = slot c)
    {q : Prog (TpuEff nD τ sig (Elt F) Λ₀ .tc) γ} (hq : Runs c iprop(Send1 pv κ c (k + 1) ∗ R) q P'' v) :
    Runs c iprop(Send1 pv κ c k ∗ R)
      (if h : cond = 1#1 then Prog.lift (.enqueueDma (src h) (.remote (Dev.tc (⟨dv, lt h⟩ : Dev nD)) (dst h) (.dma (sS h)) (hsc h)) (.dma (sR h)) (hsrc h) (hdst h) (hsem h)) >>= fun _ => q
        else q) P'' v := by
  subst hdv
  obtain rfl : sS = fun _ => dmaOf (.inl (0, ⟨dv, hk⟩)) := funext eS
  obtain rfl : sR = fun _ => dmaOf (.inl (1, c)) := funext eR
  obtain rfl : src = fun _ => pseg ⟨dv, hk⟩ := funext es
  obtain rfl : dst = fun _ => slot c := funext ed
  refine Pass.run _ hk hc (act := fun h => Prog.lift (.enqueueDma _ (.remote (Dev.tc (⟨dv, lt h⟩ : Dev nD)) _ _ (hsc h)) _ (hsrc h) (hdst h) (hsem h))) (fun h hne O' _ => ?_) hq
  have h1 : psegPt c ⟨dv, hk⟩ (pv c) = ownPay pv 0 c ⟨dv, hk⟩ := rfl
  have h2 : ∀ fd, ((slot c).view.loc ((⟨dv, hk⟩ : Dev nD) : Thread nD τ) ↦[(slot c).view.set]{fullShare} (slot c).view.write (Elt F) fd ((pseg ⟨dv, hk⟩).view.read (Elt F) (pv c)) Finset.univ) = ownPay pv 1 ⟨dv, hk⟩ c :=
    fun fd => pointsTo_congr (slot_landed pv c ⟨dv, hk⟩ fd)
  unfold send1A
  exact send_step pv κ 0 1 ⟨dv, hk⟩ hne (src := pseg ⟨dv, hk⟩) (dst := slot c) (hsc := hsc h) (hsrc := hsrc h) (hdst := hdst h) (hsem := hsem h) fullShare (pv c) (amount_slot _ _) h1 h2 O'

/-- Copy the sum to device `k`. -/
theorem send2_at (k : ℕ) (hk : k < 32) {cond : BitVec 1} (hc : cond = 1#1 ↔ c ≠ (⟨k, hk⟩ : Dev nD)) {dv : ℕ} {lt : cond = 1#1 → dv < nD}
    (hdv : dv = k) {sS sR : cond = 1#1 → DmaSem sig} {dst : cond = 1#1 → Memref sig .tc .vmem S8x512 .f32}
    {hsc : ∀ h, (dst h).view.ref.isScScratch = false} {hsrc : (stM).view.WordExact} {hdst : ∀ h, (dst h).view.WordExact}
    {hsem : ∀ h, DmaTarget.Typed Space.vmem (.dma (sR h)) (.remote (Dev.tc (⟨dv, lt h⟩ : Dev nD)) (dst h) (.dma (sS h)) (hsc h))}
    (eS : ∀ h, sS h = dmaOf (.inl (2, ⟨k, hk⟩))) (eR : ∀ h, sR h = dmaOf (.inl (3, c)))
    (ed : ∀ h, dst h = oseg c)
    {q : Prog (TpuEff nD τ sig (Elt F) Λ₀ .tc) γ} (hq : Runs c iprop(Send2 pv κ c (k + 1) ∗ R) q P'' v) :
    Runs c iprop(Send2 pv κ c k ∗ R)
      (if h : cond = 1#1 then Prog.lift (.enqueueDma stM (.remote (Dev.tc (⟨dv, lt h⟩ : Dev nD)) (dst h) (.dma (sS h)) (hsc h)) (.dma (sR h)) hsrc (hdst h) (hsem h)) >>= fun _ => q
        else q) P'' v := by
  subst hdv
  obtain rfl : sS = fun _ => dmaOf (.inl (2, ⟨dv, hk⟩)) := funext eS
  obtain rfl : sR = fun _ => dmaOf (.inl (3, c)) := funext eR
  obtain rfl : dst = fun _ => oseg c := funext ed
  refine Pass.run _ hk hc (act := fun h => Prog.lift (.enqueueDma _ (.remote (Dev.tc (⟨dv, lt h⟩ : Dev nD)) _ _ (hsc h)) _ hsrc (hdst h) (hsem h))) (fun h hne O' _ => ?_) hq
  have h1 : stPt c (leafOf ⟨dv, hk⟩) (stV pv c) = ownPay pv 2 c ⟨dv, hk⟩ := rfl
  have h2 : ∀ fd, ((oseg c).view.loc ((⟨dv, hk⟩ : Dev nD) : Thread nD τ) ↦[(oseg c).view.set]{fullShare} (oseg c).view.write (Elt F) fd ((stM).view.read (Elt F) (stV pv c)) Finset.univ) = ownPay pv 3 ⟨dv, hk⟩ c :=
    fun fd => pointsTo_congr (oseg_landed pv c fd)
  unfold send2A
  exact send_step pv κ 2 3 ⟨dv, hk⟩ hne (src := stM) (dst := oseg c) (hsc := hsc h) (hsrc := hsrc) (hdst := hdst h) (hsem := hsem h) (leafOf ⟨dv, hk⟩) (stV pv c) (amount_oseg _ _) h1 h2 O'

/-- Wait for the copy of kind `a` for device `k`. -/
theorem wait_at (a : Fin 4) (O : CellTallies nD τ sig Unit)
    (hO : ∀ j, (levAts L lv : sProp 𝕄) ⊢ MayWait (c : Thread nD τ) (sCell a c j).2 () O)
    (k : ℕ) (hk : k < 32) {cond : BitVec 1} (hc : cond = 1#1 ↔ c ≠ (⟨k, hk⟩ : Dev nD))
    {sm : cond = 1#1 → DmaSem sig} {src dst : cond = 1#1 → Memref sig .tc .vmem S8x512 .f32}
    {hsrc : ∀ h, (src h).view.WordExact} {hdst : ∀ h, (dst h).view.WordExact}
    (es : ∀ h, sm h = dmaOf (.inl (a, ⟨k, hk⟩))) (hN : ∀ h, (dst h).view.dmaCredit = N)
    {q : Prog (TpuEff nD τ sig (Elt F) Λ₀ .tc) γ} (hq : Runs c iprop(Wait pv κ a O c (k + 1) ∗ R) q P'' v) :
    Runs c iprop(Wait pv κ a O c k ∗ R)
      (if h : cond = 1#1 then Prog.lift (.waitDma2 (sm h) (src h) (dst h) (hsrc h) (hdst h)) >>= fun _ => q else q) P'' v := by
  obtain rfl : sm = fun _ => dmaOf (.inl (a, ⟨k, hk⟩)) := funext es
  refine Pass.run _ hk hc (act := fun h => Prog.lift (.waitDma2 _ (src h) (dst h) (hsrc h) (hdst h))) (fun h hne O' hO' => ?_) hq
  refine Runs.step fun Q => ?_
  rw [Finset.sum_const_zero, add_zero] at hO'
  subst hO'
  simp only [add_zero]
  generalize (⟨k, hk⟩ : Dev nD) = j at hne
  unfold waitA waitB
  iintro ⟨⟨HI, Hc, Ha, Hl⟩, ⟨%W, HO⟩⟩ Hk
  iapply (Rounds.wp_wait_rest_token 𝒱₀ ER (Rd pv) (c : Thread nD τ) none (κ := κ (sCell a c j)) (k' := (dst h).view.dmaCredit)
      (wpE_waitDma2_eq (src := src h) (dst := dst h) 𝒱₀ (c : Thread nD τ) none Set.univ) (Set.mem_univ _) () (O := O') (W := W) (R := 0) (m := 0) (T := ∅)
      (by rw [Nat.zero_add, hN h]; exact (expect_own pv c j a hne).symm)) $$ [HI Hc Ha Hl HO]
  · rw [hN h]
    isplitl [HI]; · iexact HI
    isplitl [Hc]; · iexact Hc
    isplitl [HO]; · iexact HO
    isplitl [Hl]; · iapply (hO j); iexact Hl
    iexact Ha
  iintro ⟨HO, Ha, -, Hp⟩
  ihave Hp := (Entails.of_eq (rest_own pv c j a hne)) $$ Hp
  iapply Hk
  isplitl [Ha Hp]
  · isplitl [Ha]; · iexact Ha
    iexact Hp
  iexists _
  iexact HO

/-! ## The barrier and the local copies -/

/-- The wait for the barrier: every other device's slot and segment for this device. -/
theorem barrier_run : Runs c iprop((inv pv κ (barCell c) ∗ cred (tallyAt (barCell c) () 31) ∗ atPos ER (barCell c) 0 ∅ 0 ∗ levAts L lv) ∗ due c (owe1 c))
    (semWaitWord barS 31#32) iprop((atPos ER (barCell c) 1 ∅ 0 ∗ bigSep (others c) (barPay (F := F) c)) ∗ due c (owe1 c)) ⟨⟩ := by
  refine Runs.step fun Q => ?_
  iintro ⟨⟨HI, Hc, Ha, Hl⟩, ⟨%W, HO⟩⟩ Hk
  iapply (Rounds.wp_wait_rest_token 𝒱₀ ER (Rd pv) (c : Thread nD τ) none (κ := κ (barCell c)) (k' := 31)
      (wpE_semWait_eq 𝒱₀ (c : Thread nD τ) none Set.univ) (Set.mem_univ _) () (O := owe1 c) (W := W) (R := 0) (m := 0) (T := ∅)
      ((Nat.zero_add _).trans (expect_bar pv c).symm)) $$ [HI Hc Ha Hl HO]
  · isplitl [HI]; · iexact HI
    isplitl [Hc]; · iexact Hc
    isplitl [HO]; · iexact HO
    isplitl [Hl]; · iapply (mayWait_bar c); iexact Hl
    iexact Ha
  iintro ⟨HO, Ha, -, Hp⟩
  ihave Hp := (Entails.of_eq (rest_bar pv c)) $$ Hp
  iapply Hk
  isplitl [Ha Hp]
  · isplitl [Ha]; · iexact Ha
    iexact Hp
  iexists _
  iexact HO

/-- A local copy, on local semaphore `i`. -/
theorem copy_step (i : Fin 2) {src dst : Memref sig .tc .vmem S8x512 .f32} {sm : DmaSem sig} (es : sm = dmaOf (.inr i))
    {hsrc : src.view.WordExact} {hdst : dst.view.WordExact} {hsem : DmaTarget.Typed (nD := nD) (τ := τ) (p := .tc) Space.vmem (.dma sm) (.here dst)}
    (q : PosShare TreeShare) (fs : Buf (Elt F) (src.view.loc (c : Thread nD τ))) (hN : dst.view.dmaCredit = N)
    (hp : ∀ fd, iprop((dst.view.loc (c : Thread nD τ) ↦[dst.view.set]{fullShare} dst.view.write (Elt F) fd (src.view.read (Elt F) fs) Finset.univ)
      ∗ (src.view.loc (c : Thread nD τ) ↦[src.view.set]{q} fs)) = copyPay pv i c) :
    Runs c iprop(inv pv κ (cCell i c) ∗ (src.view.loc (c : Thread nD τ) ↦[src.view.set]{q} fs)
        ∗ (∃ f, dst.view.loc (c : Thread nD τ) ↦[dst.view.set]{fullShare} f) ∗ dutyTok ER (cCell i c) 0 0 ∗ reached ER (cCell i c) 0)
      (Prog.lift (.enqueueDma src (.here dst) (.dma sm) hsrc hdst hsem)) (cred (tallyAt (cCell i c) () N)) ⟨⟩ := by
  subst es
  refine Runs.step fun Q => ?_
  iintro ⟨HI, Hs, ⟨%fd, Hd⟩, HT, HR⟩ Hk
  iapply (Rounds.wp_copy_pointsTo 𝒱₀ ER (Rd pv) (c : Thread nD τ) none (src := src) (dst := dst) (sem := .dma (dmaOf (.inr i))) (q := q)
      (fs := fs) (fd := fd) (r := 0) (d := 0) (κ := κ (cCell i c))
      (by rw [duties_copy]; exact Finset.mem_singleton_self _) () N hN (amount_own pv c _ 0)
      (by rw [payload_copy, hp])) $$ [HI Hs Hd HT HR]
  · isplitl [HI]; · iexact HI
    isplitl [Hs]; · iexact Hs
    isplitl [Hd]; · iexact Hd
    isplitl [HT]; · iexact HT
    iexact HR
  iintro Hc
  iapply Hk
  iexact Hc

/-- The wait for a local copy. -/
theorem copyWait_step (i : Fin 2) (O : CellTallies nD τ sig Unit) (hO : (levAts L lv : sProp 𝕄) ⊢ MayWait (c : Thread nD τ) (cCell i c).2 () O)
    {src dst : Memref sig .tc .vmem S8x512 .f32} {sm : DmaSem sig} (es : sm = dmaOf (.inr i))
    {hsrc : src.view.WordExact} {hdst : dst.view.WordExact} (hN : dst.view.dmaCredit = N) :
    Runs c iprop((inv pv κ (cCell i c) ∗ cred (tallyAt (cCell i c) () N) ∗ atPos ER (cCell i c) 0 ∅ 0 ∗ levAts L lv) ∗ due c O)
      (Prog.lift (.waitDma2 sm src dst hsrc hdst)) iprop((atPos ER (cCell i c) 1 ∅ 0 ∗ copyPay pv i c) ∗ due c O) ⟨⟩ := by
  subst es
  refine Runs.step fun Q => ?_
  iintro ⟨⟨HI, Hc, Ha, Hl⟩, ⟨%W, HO⟩⟩ Hk
  iapply (Rounds.wp_wait_rest_token 𝒱₀ ER (Rd pv) (c : Thread nD τ) none (κ := κ (cCell i c)) (k' := dst.view.dmaCredit)
      (wpE_waitDma2_eq (src := src) (dst := dst) 𝒱₀ (c : Thread nD τ) none Set.univ) (Set.mem_univ _) () (O := O) (W := W) (R := 0) (m := 0) (T := ∅)
      (by rw [Nat.zero_add, hN]; exact (expect_copy pv c i).symm)) $$ [HI Hc Ha Hl HO]
  · rw [hN]
    isplitl [HI]; · iexact HI
    isplitl [Hc]; · iexact Hc
    isplitl [HO]; · iexact HO
    isplitl [Hl]; · iapply hO; iexact Hl
    iexact Ha
  iintro ⟨HO, Ha, -, Hp⟩
  ihave Hp := (Entails.of_eq (rest_copy pv c i)) $$ Hp
  iapply Hk
  isplitl [Ha Hp]
  · isplitl [Ha]; · iexact Ha
    iexact Hp
  iexists _
  iexact HO

end

end Cert.KernelIdeal.Mha

end
-- ==== Proof.Buffers.lean ====
/-
  Whole buffers and their pieces; the entailments between one pass and the next.
-/
module

public import proofs.«01_k».proof.Proof.Steps

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

/-! ## Whole buffers -/

/-- A buffer held whole is its pieces, when these are disjoint and cover it. -/
theorem split_of {ℓ : Loc nD τ sig} (S : Dev nD → Finset (Idx ℓ)) (f : Buf (Elt F) ℓ)
    (hd : ∀ j ∈ (Finset.univ : Finset (Dev nD)), ∀ j' ∈ (Finset.univ : Finset (Dev nD)), j ≠ j' → Disjoint (S j) (S j'))
    (hc : Finset.univ.biUnion S = Finset.univ) : (ℓ ↦[Finset.univ]{fullShare} f : sProp 𝕄) = bigSep Finset.univ fun s => ℓ ↦[S s]{fullShare} f := by
  rw [← pointsTo_biUnion Finset.univ S hd, hc]

abbrev rsPt (c : Dev nD) (f : Vec F S32x8x512 .f32) : sProp 𝕄 := (rsM).view.loc (c : Thread nD τ) ↦[Finset.univ]{fullShare} f
abbrev partPt (c : Dev nD) (f : Vec F S256x512 .f32) : sProp 𝕄 := (partM).view.loc (c : Thread nD τ) ↦[Finset.univ]{fullShare} f
abbrev outPt (c : Dev nD) (f : Vec F S2x128x512 .f32) : sProp 𝕄 := (outM).view.loc (c : Thread nD τ) ↦[Finset.univ]{fullShare} f
abbrev stgPt (c : Dev nD) (f : Vec F S8x512 .f32) : sProp 𝕄 := (stM).view.loc (c : Thread nD τ) ↦[Finset.univ]{fullShare} f

theorem rs_split (c : Dev nD) (f : Vec F S32x8x512 .f32) : rsPt c f = bigSep Finset.univ fun s => slotPt c s f :=
  split_of (ℓ := (rsM).view.loc (c : Thread nD τ)) (fun s => (slot s).view.set) f slot_disj slot_cover
theorem part_split (c : Dev nD) (f : Vec F S256x512 .f32) : partPt c f = bigSep Finset.univ fun s => psegPt c s f :=
  split_of (ℓ := (partM).view.loc (c : Thread nD τ)) (fun s => (pseg s).view.set) f pseg_disj pseg_cover
theorem out_split (c : Dev nD) (f : Vec F S2x128x512 .f32) : outPt c f = bigSep Finset.univ fun s => osegPt c s f :=
  split_of (ℓ := (outM).view.loc (c : Thread nD τ)) (fun s => (oseg s).view.set) f oseg_disj oseg_cover
theorem stM_set : (stM).view.set = Finset.univ :=
  Finset.eq_univ_iff_forall.mpr fun i => mem_set_of_emb (m := stM) i rfl
theorem stg_split (c : Dev nD) (f : Vec F S8x512 .f32) : stgPt c f = bigSep Finset.univ fun s => stPt c (leafOf s) f := by
  have h : ((stM).view.loc (c : Thread nD τ) ↦[(stM).view.set]{fullShare} f : sProp 𝕄) = bigSep Finset.univ fun s => stPt c (leafOf s) f :=
    ShareLeaves.pointsTo_leaves (ℓ := (stM).view.loc (c : Thread nD τ)) (stM).view.set f 5 fullShare
  refine Eq.trans ?_ h
  exact congrArg (fun I => ((stM).view.loc (c : Thread nD τ) ↦[I]{fullShare} f : sProp 𝕄)) stM_set.symm

/-- This device's piece and the others'. -/
theorem own_split (c : Dev nD) (Φ : Dev nD → sProp 𝕄) : bigSep Finset.univ Φ = iprop(Φ c ∗ bigSep (others c) Φ) :=
  bigSep_univ_split c

/-! ## Between two passes -/

section

variable {c : Dev nD} {A B A' B' : Dev nD → sProp (MT nD τ sig Unit (Elt F) ℕ UU ℕ)} {O : CellTallies nD τ sig Unit} {t : Dev nD → CellTallies nD τ sig Unit}
variable {X X' Y Z R : sProp (MT nD τ sig Unit (Elt F) ℕ UU ℕ)}

theorem Pass.leave : iprop(Pass c A B O t 32 ∗ ((X ∗ Y) ∗ R)) ⊢ iprop((X ∗ due c O) ∗ (Y ∗ bigSep (others c) B ∗ R)) := by
  refine (sep_mono_left Pass.last).trans ?_
  iintro ⟨⟨HB, HO⟩, ⟨HX, HY⟩, HR⟩
  isplitl [HX HO]
  · isplitl [HX]; · iexact HX
    iexact HO
  isplitl [HY]; · iexact HY
  isplitl [HB]; · iexact HB
  iexact HR

theorem Pass.enter : iprop((X ∗ due c O) ∗ (bigSep (others c) A ∗ Y ∗ R)) ⊢ iprop(Pass c A B O (fun _ => 0) 0 ∗ ((X ∗ Y) ∗ R)) := by
  refine BIBase.Entails.trans ?_ (sep_mono_left Pass.first)
  rw [Finset.sum_const_zero, add_zero]
  iintro ⟨⟨HX, HO⟩, HA, HY, HR⟩
  isplitl [HA HO]
  · isplitl [HA]; · iexact HA
    iexact HO
  isplitl [HX HY]
  · isplitl [HX]; · iexact HX
    iexact HY
  iexact HR

/-- From a pass that pays its debts to a pass of waits, with a step that owes nothing in between. -/
theorem Pass.turn : iprop(Pass c A B O t 32 ∗ ((X ∗ Y) ∗ R)) ⊢ iprop(X ∗ (due c O ∗ Y ∗ bigSep (others c) B ∗ R)) := by
  refine Pass.leave.trans ?_
  iintro ⟨⟨HX, HO⟩, HY, HB, HR⟩
  isplitl [HX]; · iexact HX
  isplitl [HO]; · iexact HO
  isplitl [HY]; · iexact HY
  isplitl [HB]; · iexact HB
  iexact HR
theorem Pass.turned : iprop(X ∗ (due c O ∗ bigSep (others c) A ∗ Y ∗ R)) ⊢ iprop(Pass c A B O (fun _ => 0) 0 ∗ ((X ∗ Y) ∗ R)) := by
  refine BIBase.Entails.trans ?_ Pass.enter
  iintro ⟨HX, HO, HA, HY, HR⟩
  isplitl [HX HO]
  · isplitl [HX]; · iexact HX
    iexact HO
  isplitl [HA]; · iexact HA
  isplitl [HY]; · iexact HY
  iexact HR

end

/-! ## The local copies -/

variable (pv : Dev nD → Vec F S256x512 .f32) (κ : GSem nD τ sig → ℕ)

/-- What a local copy reads and writes. -/
def copyPre (i : Fin 2) (c : Dev nD) : sProp 𝕄 :=
  match i with
  | 0 => iprop(psegPt c c (pv c) ∗ ∃ f, slotPt c c f)
  | 1 => iprop(stPt c (leafOf c) (stV pv c) ∗ ∃ f, osegPt c c f)
def copyA (i : Fin 2) (c : Dev nD) : sProp 𝕄 :=
  iprop(inv pv κ (cCell i c) ∗ copyPre pv i c ∗ dutyTok ER (cCell i c) 0 0 ∗ reached ER (cCell i c) 0)
def copyWaitA (i : Fin 2) (c : Dev nD) : sProp 𝕄 :=
  iprop(inv pv κ (cCell i c) ∗ cred (tallyAt (cCell i c) () N) ∗ atPos ER (cCell i c) 0 ∅ 0 ∗ levAts L lv)
def copyWaitB (i : Fin 2) (c : Dev nD) : sProp 𝕄 := iprop(atPos ER (cCell i c) 1 ∅ 0 ∗ copyPay pv i c)

section

variable {c : Dev nD}

theorem copy0_run {src dst : Memref sig .tc .vmem S8x512 .f32} {sm : DmaSem sig} (es : sm = dmaOf (.inr 0)) (e₁ : src = pseg c) (e₂ : dst = slot c)
    {hsrc : src.view.WordExact} {hdst : dst.view.WordExact} {hsem : DmaTarget.Typed (nD := nD) (τ := τ) (p := .tc) Space.vmem (.dma sm) (.here dst)} :
    Runs c (copyA pv κ 0 c) (Prog.lift (.enqueueDma src (.here dst) (.dma sm) hsrc hdst hsem)) (cred (tallyAt (cCell 0 c) () N)) ⟨⟩ := by
  subst e₁ e₂
  have hp : ∀ fd, iprop(((slot c).view.loc (c : Thread nD τ) ↦[(slot c).view.set]{fullShare} (slot c).view.write (Elt F) fd ((pseg c).view.read (Elt F) (pv c)) Finset.univ)
      ∗ psegPt c c (pv c)) = copyPay pv 0 c := fun fd => by
    rw [show ((slot c).view.loc (c : Thread nD τ) ↦[(slot c).view.set]{fullShare} (slot c).view.write (Elt F) fd ((pseg c).view.read (Elt F) (pv c)) Finset.univ : sProp 𝕄)
      = slotPt c c (rsV pv c) from pointsTo_congr (slot_landed pv c c fd)]
    rfl
  refine Runs.pre ?_ (copy_step pv κ 0 (src := pseg c) (dst := slot c) (hsrc := hsrc) (hdst := hdst) (hsem := hsem) es fullShare (pv c) (amount_slot _ _) hp)
  unfold copyA copyPre
  iintro ⟨HI, ⟨Hs, Hd⟩, HT, HR⟩
  isplitl [HI]; · iexact HI
  isplitl [Hs]; · iexact Hs
  isplitl [Hd]; · iexact Hd
  isplitl [HT]; · iexact HT
  iexact HR

theorem copy1_run {dst : Memref sig .tc .vmem S8x512 .f32} {sm : DmaSem sig} (es : sm = dmaOf (.inr 1)) (e₂ : dst = oseg c)
    {hsrc : (stM).view.WordExact} {hdst : dst.view.WordExact} {hsem : DmaTarget.Typed (nD := nD) (τ := τ) (p := .tc) Space.vmem (.dma sm) (.here dst)} :
    Runs c (copyA pv κ 1 c) (Prog.lift (.enqueueDma stM (.here dst) (.dma sm) hsrc hdst hsem)) (cred (tallyAt (cCell 1 c) () N)) ⟨⟩ := by
  subst e₂
  have hp : ∀ fd, iprop(((oseg c).view.loc (c : Thread nD τ) ↦[(oseg c).view.set]{fullShare} (oseg c).view.write (Elt F) fd ((stM).view.read (Elt F) (stV pv c)) Finset.univ)
      ∗ stPt c (leafOf c) (stV pv c)) = copyPay pv 1 c := fun fd => by
    rw [show ((oseg c).view.loc (c : Thread nD τ) ↦[(oseg c).view.set]{fullShare} (oseg c).view.write (Elt F) fd ((stM).view.read (Elt F) (stV pv c)) Finset.univ : sProp 𝕄)
      = osegPt c c (outV pv) from pointsTo_congr (oseg_landed pv c fd)]
    rfl
  refine Runs.pre ?_ (copy_step pv κ 1 (src := stM) (dst := oseg c) (hsrc := hsrc) (hdst := hdst) (hsem := hsem) es (leafOf c) (stV pv c) (amount_oseg _ _) hp)
  unfold copyA copyPre
  iintro ⟨HI, ⟨Hs, Hd⟩, HT, HR⟩
  isplitl [HI]; · iexact HI
  isplitl [Hs]; · iexact Hs
  isplitl [Hd]; · iexact Hd
  isplitl [HT]; · iexact HT
  iexact HR

theorem copyWait_run (i : Fin 2) (O : CellTallies nD τ sig Unit) (hO : (levAts L lv : sProp 𝕄) ⊢ MayWait (c : Thread nD τ) (cCell i c).2 () O)
    {src dst : Memref sig .tc .vmem S8x512 .f32} {sm : DmaSem sig} (es : sm = dmaOf (.inr i))
    {hsrc : src.view.WordExact} {hdst : dst.view.WordExact} (hN : dst.view.dmaCredit = N) :
    Runs c iprop(copyWaitA pv κ i c ∗ due c O) (Prog.lift (.waitDma2 sm src dst hsrc hdst)) iprop(copyWaitB pv i c ∗ due c O) ⟨⟩ :=
  copyWait_step pv κ i O hO es hN

/-- Owing nothing, a device may wait anywhere. -/
theorem mayWait_none' (c : Dev nD) (i : Fin 2) : (levAts L lv : sProp 𝕄) ⊢ MayWait (c : Thread nD τ) (cCell i c).2 () 0 := by
  rw [MayWait_zero]
  iintro -
  iempintro
theorem mayWait_none (c : Dev nD) (a : Fin 4) (j : Dev nD) : (levAts L lv : sProp 𝕄) ⊢ MayWait (c : Thread nD τ) (sCell a c j).2 () 0 := by
  rw [MayWait_zero]
  iintro -
  iempintro

/-! ## The sum of the received blocks -/

theorem waitB_split (a : Fin 4) (c : Dev nD) : bigSep (others c) (waitB pv a c)
    = iprop(bigSep (others c) (fun j => atPos ER (sCell a c j) 1 ∅ 0) ∗ bigSep (others c) (ownPay pv a c)) := bigSep_sep _ _ _

/-- After the first exchange: the two sums a device holds, and its waits passed. -/
def summed (c : Dev nD) : sProp 𝕄 :=
  iprop(due c (owe2 c) ∗ rsPt c (rsV pv c) ∗ stgPt c (stV pv c) ∗ psegPt c c (pv c) ∗ bigSep (others c) (fun j => atPos ER (sCell 1 c j) 1 ∅ 0) ∗ atPos ER (cCell 0 c) 1 ∅ 0)

variable {X R : sProp (MT nD τ sig Unit (Elt F) ℕ UU ℕ)}

/-- All blocks received: the buffer that received them is whole again. -/
theorem received : iprop((copyWaitB pv 0 c ∗ due c (owe2 c)) ∗ (X ∗ bigSep (others c) (waitB pv 1 c) ∗ R))
    ⊢ iprop(rsPt c (rsV pv c) ∗ (X ∗ (due c (owe2 c) ∗ psegPt c c (pv c) ∗ bigSep (others c) (fun j => atPos ER (sCell 1 c j) 1 ∅ 0) ∗ atPos ER (cCell 0 c) 1 ∅ 0) ∗ R)) := by
  rw [waitB_split, rs_split, own_split c]
  unfold copyWaitB copyPay
  iintro ⟨⟨⟨Ha, Hs, Hp⟩, HO⟩, HX, ⟨Has, Hss⟩, HR⟩
  isplitl [Hs Hss]
  · isplitl [Hs]; · iexact Hs
    iexact Hss
  isplitl [HX]; · iexact HX
  isplitr [HR]
  · isplitl [HO]; · iexact HO
    isplitl [Hp]; · iexact Hp
    isplitl [Has]; · iexact Has
    iexact Ha
  iexact HR

theorem summed_intro : iprop(stgPt c (stV pv c) ∗ (rsPt c (rsV pv c) ∗ (due c (owe2 c) ∗ psegPt c c (pv c) ∗ bigSep (others c) (fun j => atPos ER (sCell 1 c j) 1 ∅ 0) ∗ atPos ER (cCell 0 c) 1 ∅ 0) ∗ R))
    ⊢ iprop(summed pv c ∗ R) := by
  unfold summed
  iintro ⟨Hg, Hs, ⟨HO, Hp, Has, Ha⟩, HR⟩
  isplitr [HR]
  · isplitl [HO]; · iexact HO
    isplitl [Hs]; · iexact Hs
    isplitl [Hg]; · iexact Hg
    isplitl [Hp]; · iexact Hp
    isplitl [Has]; · iexact Has
    iexact Ha
  iexact HR

end

section

variable {c : Dev nD} {α β : Type} {v : β} {P'' R : sProp (MT nD τ sig Unit (Elt F) ℕ UU ℕ)}

theorem Runs.exL {ι : Type} {P : ι → sProp 𝕄} {p : Prog (TpuEff nD τ sig (Elt F) Λ₀ .tc) β} (h : ∀ i, Runs c iprop(P i ∗ R) p P'' v) :
    Runs c iprop((∃ i, P i) ∗ R) p P'' v := fun K hK => by
  iintro ⟨⟨%i, HP⟩, HR⟩
  iapply (h i K hK)
  isplitl [HP]; · iexact HP
  iexact HR

/-- A store whose effect on the contents is known. -/
theorem Runs.storeVal {s : Shape} {e : EltTy} {cs : CoreSpace} (m : Memref sig .tc cs s e) {r : Rect s} {x : r.shape.Idx → Elt F e} {Mk : Finset r.shape.Idx} {hx : (m.access r).Stores Mk}
    {hm : Mk = Finset.univ ∨ ∀ a, r.stride a = 1} (S : Finset (Idx (m.view.loc (c : Thread nD τ)))) (hS : (m.access r).setOn Mk ⊆ S)
    (f g : Buf (Elt F) (m.view.loc (c : Thread nD τ))) (h : (m.access r).write (Elt F) f x Mk = g) :
    Runs c (m.view.loc (c : Thread nD τ) ↦[S]{fullShare} f) (Prog.lift (.store m r x Mk hx hm))
      (m.view.loc (c : Thread nD τ) ↦[S]{fullShare} g) ⟨⟩ := by
  rw [← h]
  exact Runs.store (hx := hx) (hm := hm) m S f hS
theorem Runs.storeUniv {s : Shape} {e : EltTy} {cs : CoreSpace} (m : Memref sig .tc cs s e) {r : Rect s} {x : r.shape.Idx → Elt F e} {Mk : Finset r.shape.Idx} {hx : (m.access r).Stores Mk}
    {hm : Mk = Finset.univ ∨ ∀ a, r.stride a = 1}
    (f g : Buf (Elt F) (m.view.loc (c : Thread nD τ))) (h : (m.access r).write (Elt F) f x Mk = g) :
    Runs c (m.view.loc (c : Thread nD τ) ↦[Finset.univ]{fullShare} f) (Prog.lift (.store m r x Mk hx hm))
      (m.view.loc (c : Thread nD τ) ↦[Finset.univ]{fullShare} g) ⟨⟩ :=
  Runs.storeVal m (r := r) (Mk := Mk) Finset.univ (fun i _ => Finset.mem_univ (α := Idx (m.view.loc (c : Thread nD τ))) i) f g h

theorem Runs.val {α : Type} {P P' : sProp 𝕄} {p : Prog (TpuEff nD τ sig (Elt F) Λ₀ .tc) α} {v v' : α} (hr : Runs c P p P' v) (h : v = v') : Runs c P p P' v' := h ▸ hr

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

theorem rs_load {hl} (f : Vec F S32x8x512 .f32) : Runs c (rsPt c f) (Prog.lift (.load rsM (Rect.unit (s := S32x8x512) ![0, 0, 0] S32x8x512.size inb_S32x8x512_S32x8x512_0_0_0).toLoadRect hl)) (rsPt c f) f :=
  (Runs.load rsM Finset.univ fullShare f (Finset.subset_univ _)).val (Memref.readAt_unit_zero (Elt F) cc0_scratch1 zero3 _ f)

theorem stg_store {hx hm} (f x : Vec F S8x512 .f32) : Runs c (stgPt c f)
    (Prog.lift (.store stM (Rect.unit (s := S8x512) ![0, 0] S8x512.size inb_S8x512_S8x512_0_0) x Finset.univ hx hm)) (stgPt c x) ⟨⟩ := by
  have e : (stM.access (Rect.unit (s := S8x512) ![0, 0] S8x512.size inb_S8x512_S8x512_0_0)).write (Elt F) f x Finset.univ = x :=
    Memref.write_access_unit_zero_univ (Elt F) cc0_scratch2 zero2 _ f x
  exact Runs.storeUniv stM f x e

theorem part_store {hx hm} (f x : Vec F S256x512 .f32) : Runs c (partPt c f)
    (Prog.lift (.store partM (Rect.unit (s := S256x512) ![0, 0] S256x512.size inb_S256x512_S256x512_0_0) x Finset.univ hx hm)) (partPt c x) ⟨⟩ := by
  have e : (partM.access (Rect.unit (s := S256x512) ![0, 0] S256x512.size inb_S256x512_S256x512_0_0)).write (Elt F) f x Finset.univ = x :=
    Memref.write_access_unit_zero_univ (Elt F) cc0_scratch0 zero2 _ f x
  exact Runs.storeUniv partM f x e

end

end Cert.KernelIdeal.Mha

end
-- ==== Proof.Heads.lean ====
/-
  The attention of a device, head by head.
-/
module

public import proofs.«01_k».proof.Proof.Buffers

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

/-! ## The values of one head -/

/-- The attention of one head from its block of queries at `off`, its keys and its values. -/
def headOf (q : FVec F S256x512 .f32) (off : Fin 2 → ℕ) (hs : S256x512.Slices off S128x64) (k v : Vec F S1x128x1x64 .bf16) : FVec F S128x64 .bf16 :=
  have qb : FVec F S128x64 .bf16 := truncf .bf16 (extractStridedSlice S128x64 off q hs) bitsLt_bf16_f32
  have kb : FVec F S128x64 .bf16 := shapeCast S128x64 k shapeCasts_S1x128x1x64_S128x64
  have vb : FVec F S128x64 .bf16 := shapeCast S128x64 v shapeCasts_S1x128x1x64_S128x64
  have s : FVec F S128x128 .f32 := mulf (matmul dot_S128x64_S128x64_S128x128_1_1_0_0_n_n none qb kb (constant S128x128 .f32 0x00000000#32))
    (broadcast S128x128 (Scalar.ofBits .f32 0x3E000000#32 : F .f32))
  have m : FVec F S128x1 .f32 := shapeCast S128x1 (multiReduction .maximumf [1] S128 s 0xFF800000#32 reduces_S128x128_S128 (.inl rfl) rfl : FVec F S128 .f32) shapeCasts_S128_S128x1
  have e : FVec F S128x128 .f32 := exp (subf s (broadcastTo S128x128 m broadcasts_S128x1_S128x128))
  have l : FVec F S128x1 .f32 := shapeCast S128x1 (multiReduction .add [1] S128 e 0x00000000#32 reduces_S128x128_S128 (.inl rfl) rfl : FVec F S128 .f32) shapeCasts_S128_S128x1
  have o : FVec F S128x64 .f32 := matmul dot_S128x128_S128x64_S128x64_1_0_0_1_n_n none (truncf .bf16 e bitsLt_bf16_f32) vb (constant S128x64 .f32 0x00000000#32)
  shapeCast S128x64 (truncf .bf16 (divf o (broadcastTo S128x64 l broadcasts_S128x1_S128x64)) bitsLt_bf16_f32) shapeCasts_S128x64_S128x64

/-- Where block `n` lies: batch `n / 8`, head `n % 8`. -/
def offH (n : Fin 16) : Fin 2 → ℕ := ![128 * (n.val / 8), 64 * (n.val % 8)]
def offK (n : Fin 16) : Fin 4 → ℕ := ![n.val / 8, 0, n.val % 8, 0]
theorem inbH (n : Fin 16) : ∀ a, offH n a + S128x64.size a ≤ S256x512.size a := by
  revert n
  decide
theorem inbK (n : Fin 16) : ∀ a, offK n a + S1x128x1x64.size a ≤ S2x128x8x64.size a := by
  revert n
  decide
theorem slicesH (n : Fin 16) : S256x512.Slices (offH n) S128x64 := ⟨rfl, inbH n⟩

abbrev rectH (n : Fin 16) : Rect S256x512 := Rect.unit (s := S256x512) (offH n) S128x64.size (inbH n)
abbrev rectK (n : Fin 16) : Rect S2x128x8x64 := Rect.unit (s := S2x128x8x64) (offK n) S1x128x1x64.size (inbK n)

/-- The keys, or the values, of block `n`. -/
def kblk (K : Vec F S2x128x8x64 .bf16) (n : Fin 16) : Vec F S1x128x1x64 .bf16 := fun i => K ((rectK n).emb i)

def headV (q : FVec F S256x512 .f32) (K V : Vec F S2x128x8x64 .bf16) (n : Fin 16) : FVec F S128x64 .bf16 :=
  headOf q (offH n) (slicesH n) (kblk K n) (kblk V n)

/-- The block an index of the attention lies in, and the index in it. -/
def blkOf (i : S256x512.Idx) : Fin 16 := ⟨8 * ((i 0).val / 128) + (i 1).val / 64, by
  have h0 : (i 0).val < 256 := (i 0).isLt
  have h1 : (i 1).val < 512 := (i 1).isLt
  omega⟩
def inBlk (i : S256x512.Idx) : S128x64.Idx := ix2 ⟨(i 0).val % 128, Nat.mod_lt _ (by decide)⟩ ⟨(i 1).val % 64, Nat.mod_lt _ (by decide)⟩

/-- The attention of all heads. -/
def attnV (q : FVec F S256x512 .f32) (K V : Vec F S2x128x8x64 .bf16) : Vec F S256x512 .bf16 := fun i => headV q K V (blkOf i) (inBlk i)

theorem emb_inBlk (i : S256x512.Idx) : (rectH (blkOf i)).emb (inBlk i) = i := funext fun a => match a with
  | ⟨0, _⟩ => Fin.ext (by
      have h0 : (i 0).val < 256 := (i 0).isLt
      have h1 : (i 1).val < 512 := (i 1).isLt
      show 128 * ((8 * ((i 0).val / 128) + (i 1).val / 64) / 8) + 1 * ((i 0).val % 128) = (i 0).val
      omega)
  | ⟨1, _⟩ => Fin.ext (by
      have h0 : (i 0).val < 256 := (i 0).isLt
      have h1 : (i 1).val < 512 := (i 1).isLt
      show 64 * ((8 * ((i 0).val / 128) + (i 1).val / 64) % 8) + 1 * ((i 1).val % 64) = (i 1).val
      omega)
theorem blkOf_emb (n : Fin 16) (j : S128x64.Idx) : blkOf ((rectH n).emb j) = n := Fin.ext (by
  have h0 : (j 0).val < 128 := (j 0).isLt
  have h1 : (j 1).val < 64 := (j 1).isLt
  show 8 * ((128 * (n.val / 8) + 1 * (j 0).val) / 128) + (64 * (n.val % 8) + 1 * (j 1).val) / 64 = n.val
  omega)

abbrev atM : Memref sig .tc .vmem S256x512 .bf16 := Memref.whole cc0_scratch3

theorem attn_write_in (n : Fin 16) (f : Vec F S256x512 .bf16) (w : S128x64.Idx → Elt F .bf16) (i : S256x512.Idx) (h : blkOf i = n) :
    (atM.access (rectH n)).write (Elt F) f w Finset.univ i = w (inBlk i) := by
  subst h
  have e : (atM.access (rectH (blkOf i))).emb (inBlk i) = i := emb_inBlk i
  have := (atM.access (rectH (blkOf i))).write_emb_of_mem (Val := Elt F) f w (M := Finset.univ) (x := inBlk i) (Finset.mem_univ _)
  rw [e] at this
  exact this
theorem attn_write_out (n : Fin 16) (f : Vec F S256x512 .bf16) (w : S128x64.Idx → Elt F .bf16) (i : S256x512.Idx) (h : blkOf i ≠ n) :
    (atM.access (rectH n)).write (Elt F) f w Finset.univ i = f i := by
  refine View.write_of_not_mem _ _ _ fun hm => h ?_
  obtain ⟨j, -, rfl⟩ := Finset.mem_map.mp hm
  exact blkOf_emb n j

/-! ## What the attention reads and writes -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x8x64 .bf16 := Memref.whole cc0_stg3_0
abbrev vM : Memref sig .tc .vmem S2x128x8x64 .bf16 := Memref.whole cc0_stg4_0

abbrev xPt (c : Dev nD) (f : Vec F S2x128x512 .bf16) : sProp 𝕄 := (xM).view.loc (c : Thread nD τ) ↦[Finset.univ]{fullShare} f
abbrev wqPt (c : Dev nD) (f : Vec F S512x512 .bf16) : sProp 𝕄 := (wqM).view.loc (c : Thread nD τ) ↦[Finset.univ]{fullShare} f
abbrev woPt (c : Dev nD) (f : Vec F S512x512 .bf16) : sProp 𝕄 := (woM).view.loc (c : Thread nD τ) ↦[Finset.univ]{fullShare} f
abbrev kPt (c : Dev nD) (f : Vec F S2x128x8x64 .bf16) : sProp 𝕄 := (kM).view.loc (c : Thread nD τ) ↦[Finset.univ]{fullShare} f
abbrev vPt (c : Dev nD) (f : Vec F S2x128x8x64 .bf16) : sProp 𝕄 := (vM).view.loc (c : Thread nD τ) ↦[Finset.univ]{fullShare} f
abbrev atPt (c : Dev nD) (f : Vec F S256x512 .bf16) : sProp 𝕄 := (atM).view.loc (c : Thread nD τ) ↦[Finset.univ]{fullShare} f

/-- The operands of a device: activations, query and output weights, keys, values. -/
structure Opnds (F : FTy → Type) where
  x : Vec F S2x128x512 .bf16
  wq : Vec F S512x512 .bf16
  wo : Vec F S512x512 .bf16
  k : Vec F S2x128x8x64 .bf16
  v : Vec F S2x128x8x64 .bf16

/-- The queries of a device. -/
def Opnds.q (D : Opnds F) : FVec F S256x512 .f32 := k0_pay1 D.x D.wq
/-- What a device contributes to the result. -/
def Opnds.part (D : Opnds F) : Vec F S256x512 .f32 := k0_pay52 (attnV D.q D.k D.v) D.wo

def opPt (c : Dev nD) (D : Opnds F) : sProp 𝕄 := iprop(xPt c D.x ∗ wqPt c D.wq ∗ woPt c D.wo ∗ kPt c D.k ∗ vPt c D.v)

/-- The blocks of the attention below `n` written. -/
def Done (c : Dev nD) (D : Opnds F) (n : ℕ) : sProp 𝕄 := iprop(∃ f, ⌜∀ i, (blkOf i).val < n → f i = attnV D.q D.k D.v i⌝ ∗ atPt c f)

theorem Done.first (c : Dev nD) (D : Opnds F) : iprop(∃ f, atPt c f) ⊢ Done c D 0 := by
  unfold Done
  iintro ⟨%f, H⟩
  iexists f
  isplitr
  · ipureintro
    exact fun i hi => absurd hi (Nat.not_lt_zero _)
  iexact H
theorem Done.last (c : Dev nD) (D : Opnds F) : Done c D 16 ⊢ atPt c (attnV D.q D.k D.v) := by
  unfold Done
  iintro ⟨%f, %h, H⟩
  rw [show attnV D.q D.k D.v = f from funext fun i => (h i (blkOf i).isLt).symm]
  iexact H

section

variable {c : Dev nD} {β : Type} {w : β} {P P'' X R : sProp (MT nD τ sig Unit (Elt F) ℕ UU ℕ)} (D : Opnds F)

theorem Runs.within {p : Prog (TpuEff nD τ sig (Elt F) Λ₀ .tc) β} (h : P ⊢ iprop(X ∗ R)) (h' : iprop(X ∗ R) ⊢ P) (hr : Runs c X p X w) : Runs c P p P w :=
  ((hr.frm R).pre h).post h'

theorem x_load {hl} : Runs c (opPt c D) (Prog.lift (.load xM (Rect.unit (s := S2x128x512) ![0, 0, 0] S2x128x512.size inb_S2x128x512_S2x128x512_0_0_0).toLoadRect hl)) (opPt c D) D.x := by
  have h : Runs c (xPt c D.x) (Prog.lift (.load xM (Rect.unit (s := S2x128x512) ![0, 0, 0] S2x128x512.size inb_S2x128x512_S2x128x512_0_0_0).toLoadRect hl)) (xPt c D.x) D.x :=
    (Runs.load xM Finset.univ fullShare D.x (Finset.subset_univ _)).val (Memref.readAt_unit_zero (Elt F) cc0_stg0_0 zero3 _ D.x)
  unfold opPt
  refine Runs.within (X := xPt c D.x) (R := iprop(wqPt c D.wq ∗ woPt c D.wo ∗ kPt c D.k ∗ vPt c D.v)) ?_ ?_ h
  · iintro ⟨Hx, Hwq, Hwo, Hk, Hv⟩
    isplitl [Hx]; · iexact Hx
    isplitl [Hwq]; · iexact Hwq
    isplitl [Hwo]; · iexact Hwo
    isplitl [Hk]; · iexact Hk
    iexact Hv
  · iintro ⟨Hx, Hwq, Hwo, Hk, Hv⟩
    isplitl [Hx]; · iexact Hx
    isplitl [Hwq]; · iexact Hwq
    isplitl [Hwo]; · iexact Hwo
    isplitl [Hk]; · iexact Hk
    iexact Hv
theorem wq_load {hl} : Runs c (opPt c D) (Prog.lift (.load wqM (Rect.unit (s := S512x512) ![0, 0] S512x512.size inb_S512x512_S512x512_0_0).toLoadRect hl)) (opPt c D) D.wq := by
  have h : Runs c (wqPt c D.wq) (Prog.lift (.load wqM (Rect.unit (s := S512x512) ![0, 0] S512x512.size inb_S512x512_S512x512_0_0).toLoadRect hl)) (wqPt c D.wq) D.wq :=
    (Runs.load wqM Finset.univ fullShare D.wq (Finset.subset_univ _)).val (Memref.readAt_unit_zero (Elt F) cc0_stg1_0 zero2 _ D.wq)
  unfold opPt
  refine Runs.within (X := wqPt c D.wq) (R := iprop(xPt c D.x ∗ woPt c D.wo ∗ kPt c D.k ∗ vPt c D.v)) ?_ ?_ h
  · iintro ⟨Hx, Hwq, Hwo, Hk, Hv⟩
    isplitl [Hwq]; · iexact Hwq
    isplitl [Hx]; · iexact Hx
    isplitl [Hwo]; · iexact Hwo
    isplitl [Hk]; · iexact Hk
    iexact Hv
  · iintro ⟨Hwq, Hx, Hwo, Hk, Hv⟩
    isplitl [Hx]; · iexact Hx
    isplitl [Hwq]; · iexact Hwq
    isplitl [Hwo]; · iexact Hwo
    isplitl [Hk]; · iexact Hk
    iexact Hv
theorem wo_load {hl} : Runs c (opPt c D) (Prog.lift (.load woM (Rect.unit (s := S512x512) ![0, 0] S512x512.size inb_S512x512_S512x512_0_0).toLoadRect hl)) (opPt c D) D.wo := by
  have h : Runs c (woPt c D.wo) (Prog.lift (.load woM (Rect.unit (s := S512x512) ![0, 0] S512x512.size inb_S512x512_S512x512_0_0).toLoadRect hl)) (woPt c D.wo) D.wo :=
    (Runs.load woM Finset.univ fullShare D.wo (Finset.subset_univ _)).val (Memref.readAt_unit_zero (Elt F) cc0_stg2_0 zero2 _ D.wo)
  unfold opPt
  refine Runs.within (X := woPt c D.wo) (R := iprop(xPt c D.x ∗ wqPt c D.wq ∗ kPt c D.k ∗ vPt c D.v)) ?_ ?_ h
  · iintro ⟨Hx, Hwq, Hwo, Hk, Hv⟩
    isplitl [Hwo]; · iexact Hwo
    isplitl [Hx]; · iexact Hx
    isplitl [Hwq]; · iexact Hwq
    isplitl [Hk]; · iexact Hk
    iexact Hv
  · iintro ⟨Hwo, Hx, Hwq, Hk, Hv⟩
    isplitl [Hx]; · iexact Hx
    isplitl [Hwq]; · iexact Hwq
    isplitl [Hwo]; · iexact Hwo
    isplitl [Hk]; · iexact Hk
    iexact Hv
theorem k_load (n : Fin 16) {off : Fin 4 → ℕ} {inb} {hl} (ho : off = offK n) :
    Runs c (opPt c D) (Prog.lift (.load kM (Rect.unit (s := S2x128x8x64) off S1x128x1x64.size inb).toLoadRect hl)) (opPt c D) (kblk D.k n) := by
  subst ho
  have h : Runs c (kPt c D.k) (Prog.lift (.load kM (rectK n).toLoadRect hl)) (kPt c D.k) (kblk D.k n) :=
    (Runs.load kM Finset.univ fullShare D.k (Finset.subset_univ _)).val rfl
  unfold opPt
  refine Runs.within (X := kPt c D.k) (R := iprop(xPt c D.x ∗ wqPt c D.wq ∗ woPt c D.wo ∗ vPt c D.v)) ?_ ?_ h
  · iintro ⟨Hx, Hwq, Hwo, Hk, Hv⟩
    isplitl [Hk]; · iexact Hk
    isplitl [Hx]; · iexact Hx
    isplitl [Hwq]; · iexact Hwq
    isplitl [Hwo]; · iexact Hwo
    iexact Hv
  · iintro ⟨Hk, Hx, Hwq, Hwo, Hv⟩
    isplitl [Hx]; · iexact Hx
    isplitl [Hwq]; · iexact Hwq
    isplitl [Hwo]; · iexact Hwo
    isplitl [Hk]; · iexact Hk
    iexact Hv
theorem v_load (n : Fin 16) {off : Fin 4 → ℕ} {inb} {hl} (ho : off = offK n) :
    Runs c (opPt c D) (Prog.lift (.load vM (Rect.unit (s := S2x128x8x64) off S1x128x1x64.size inb).toLoadRect hl)) (opPt c D) (kblk D.v n) := by
  subst ho
  have h : Runs c (vPt c D.v) (Prog.lift (.load vM (rectK n).toLoadRect hl)) (vPt c D.v) (kblk D.v n) :=
    (Runs.load vM Finset.univ fullShare D.v (Finset.subset_univ _)).val rfl
  unfold opPt
  refine Runs.within (X := vPt c D.v) (R := iprop(xPt c D.x ∗ wqPt c D.wq ∗ woPt c D.wo ∗ kPt c D.k)) ?_ ?_ h
  · iintro ⟨Hx, Hwq, Hwo, Hk, Hv⟩
    isplitl [Hv]; · iexact Hv
    isplitl [Hx]; · iexact Hx
    isplitl [Hwq]; · iexact Hwq
    isplitl [Hwo]; · iexact Hwo
    iexact Hk
  · iintro ⟨Hv, Hx, Hwq, Hwo, Hk⟩
    isplitl [Hx]; · iexact Hx
    isplitl [Hwq]; · iexact Hwq
    isplitl [Hwo]; · iexact Hwo
    isplitl [Hk]; · iexact Hk
    iexact Hv

/-- One block of the attention stored. -/
theorem head_at (n : Fin 16) {off : Fin 2 → ℕ} {inb} {hl} {hx} {hm} {x : S128x64.Idx → Elt F .bf16} (ho : off = offH n) (hv : x = headV D.q D.k D.v n)
    {q : Prog (TpuEff nD τ sig (Elt F) Λ₀ .tc) β} (hq : Runs c iprop(opPt c D ∗ (Done c D (n.val + 1) ∗ R)) q P'' w) :
    Runs c iprop(opPt c D ∗ (Done c D n.val ∗ R))
      (Prog.lift (.load atM (Rect.unit (s := S256x512) off S128x64.size inb).toLoadRect hl) >>= fun _ =>
        Prog.lift (.store atM (Rect.unit (s := S256x512) off S128x64.size inb) x Finset.univ hx hm) >>= fun _ => q) P'' w := by
  subst ho hv
  refine Runs.pre (P := iprop((∃ f, ⌜∀ i, (blkOf i).val < n.val → f i = attnV D.q D.k D.v i⌝ ∗ atPt c f) ∗ (opPt c D ∗ R))) ?_ ?_
  · unfold Done
    iintro ⟨Ho, Hd, HR⟩
    isplitl [Hd]; · iexact Hd
    isplitl [Ho]; · iexact Ho
    iexact HR
  refine Runs.exL fun f => ?_
  refine Runs.pre sep_assoc.1 ?_
  refine Runs.fact fun hf => ?_
  refine Runs.dead atM Finset.univ fullShare f (Finset.subset_univ _) fun _ => ?_
  refine Runs.bind (Runs.frm _ (Runs.storeUniv atM f _ rfl)) ?_
  refine Runs.pre ?_ hq
  unfold Done
  iintro ⟨Hd, Ho, HR⟩
  isplitl [Ho]; · iexact Ho
  isplitl [Hd]
  · iexists ((atM.access (rectH n)).write (Elt F) f (headV D.q D.k D.v n) Finset.univ)
    isplitr
    · ipureintro
      intro i hi
      by_cases e : blkOf i = n
      · rw [attn_write_in n f _ i e]
        subst e
        rfl
      · rw [attn_write_out n f _ i e]
        exact hf i (Nat.lt_of_le_of_ne (Nat.le_of_lt_succ hi) fun e' => e (Fin.ext e'))
    iexact Hd
  iexact HR

theorem at_load {hl} (f : Vec F S256x512 .bf16) : Runs c (atPt c f) (Prog.lift (.load atM (Rect.unit (s := S256x512) ![0, 0] S256x512.size inb_S256x512_S256x512_0_0).toLoadRect hl)) (atPt c f) f :=
  (Runs.load atM Finset.univ fullShare f (Finset.subset_univ _)).val (Memref.readAt_unit_zero (Elt F) cc0_scratch3 zero2 _ f)

end

end Cert.KernelIdeal.Mha

end
-- ==== Proof.Compute.lean ====
/-
  The parts of the program that compute: the attention head by head, and the product with the output weights.
-/
module

public import proofs.«01_k».proof.Proof.Heads

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

variable (pv : Dev nD → Vec F S256x512 .f32) (κ : GSem nD τ sig → ℕ)
variable {c : Dev nD} {R : sProp (MT nD τ sig Unit (Elt F) ℕ UU ℕ)}

variable (D : Opnds F)

/-- The last signals, then the queries, and the scores of the first head. -/
theorem part4_run : Runs c iprop(Signal pv κ c 28 ∗ (opPt c D ∗ R)) (k0_part4_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (SemArray.scalar barS)) iprop(opPt c D ∗ (Signal pv κ c 32 ∗ R)) ⟨D.q, k0_pay2 (kblk D.v 0), k0_pay4 D.x D.wq (kblk D.k 0), k0_pay5 D.x D.wq (kblk D.k 0)⟩ := by
  unfold k0_part4_skel
  refine signal_at pv κ 28 (by decide) (ne_iff c ⟨28, by decide⟩) k0_dev29_eq ?_
  refine signal_at pv κ 29 (by decide) (ne_iff c ⟨29, by decide⟩) k0_dev30_eq ?_
  refine signal_at pv κ 30 (by decide) (ne_iff c ⟨30, by decide⟩) k0_dev31_eq ?_
  refine signal_at pv κ 31 (by decide) (ne_iff c ⟨31, by decide⟩) k0_dev32_eq ?_
  refine Runs.pre sep_left_comm.1 ?_
  refine Runs.bind (Runs.frm _ (x_load D)) ?_
  refine Runs.bind (Runs.frm _ (wq_load D)) ?_
  refine Runs.bind (Runs.frm _ (k_load D 0 rfl)) ?_
  refine Runs.bind (Runs.frm _ (v_load D 0 rfl)) ?_
  exact Runs.pure _ _

theorem part5_run : Runs c iprop(opPt c D ∗ (Done c D 0 ∗ R)) (k0_part5_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay2 (kblk D.v 0)) (k0_pay4 D.x D.wq (kblk D.k 0)) (k0_pay5 D.x D.wq (kblk D.k 0))) iprop(opPt c D ∗ (Done c D 2 ∗ R)) ⟨k0_pay8 D.q, k0_pay9 (kblk D.k 2)⟩ := by
  unfold k0_part5_skel
  refine head_at D 0 rfl rfl ?_
  refine Runs.bind (Runs.frm _ (k_load D 1 rfl)) ?_
  refine Runs.bind (Runs.frm _ (v_load D 1 rfl)) ?_
  refine head_at D 1 rfl rfl ?_
  refine Runs.bind (Runs.frm _ (k_load D 2 rfl)) ?_
  exact Runs.pure _ _

theorem part6_run : Runs c iprop(opPt c D ∗ (Done c D 2 ∗ R)) (k0_part6_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay8 D.q) (k0_pay9 (kblk D.k 2))) iprop(opPt c D ∗ (Done c D 3 ∗ R)) ⟨k0_pay11 (kblk D.v 3), k0_pay13 D.q (kblk D.k 3), k0_pay14 D.q (kblk D.k 3)⟩ := by
  unfold k0_part6_skel
  refine Runs.bind (Runs.frm _ (v_load D 2 rfl)) ?_
  refine head_at D 2 rfl rfl ?_
  refine Runs.bind (Runs.frm _ (k_load D 3 rfl)) ?_
  refine Runs.bind (Runs.frm _ (v_load D 3 rfl)) ?_
  exact Runs.pure _ _

theorem part7_run : Runs c iprop(opPt c D ∗ (Done c D 3 ∗ R)) (k0_part7_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay11 (kblk D.v 3)) (k0_pay13 D.q (kblk D.k 3)) (k0_pay14 D.q (kblk D.k 3))) iprop(opPt c D ∗ (Done c D 5 ∗ R)) ⟨k0_pay17 D.q, k0_pay18 (kblk D.k 5)⟩ := by
  unfold k0_part7_skel
  refine head_at D 3 rfl rfl ?_
  refine Runs.bind (Runs.frm _ (k_load D 4 rfl)) ?_
  refine Runs.bind (Runs.frm _ (v_load D 4 rfl)) ?_
  refine head_at D 4 rfl rfl ?_
  refine Runs.bind (Runs.frm _ (k_load D 5 rfl)) ?_
  exact Runs.pure _ _

theorem part8_run : Runs c iprop(opPt c D ∗ (Done c D 5 ∗ R)) (k0_part8_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay17 D.q) (k0_pay18 (kblk D.k 5))) iprop(opPt c D ∗ (Done c D 6 ∗ R)) ⟨k0_pay20 (kblk D.v 6), k0_pay22 D.q (kblk D.k 6), k0_pay23 D.q (kblk D.k 6)⟩ := by
  unfold k0_part8_skel
  refine Runs.bind (Runs.frm _ (v_load D 5 rfl)) ?_
  refine head_at D 5 rfl rfl ?_
  refine Runs.bind (Runs.frm _ (k_load D 6 rfl)) ?_
  refine Runs.bind (Runs.frm _ (v_load D 6 rfl)) ?_
  exact Runs.pure _ _

theorem part9_run : Runs c iprop(opPt c D ∗ (Done c D 6 ∗ R)) (k0_part9_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay20 (kblk D.v 6)) (k0_pay22 D.q (kblk D.k 6)) (k0_pay23 D.q (kblk D.k 6))) iprop(opPt c D ∗ (Done c D 8 ∗ R)) ⟨k0_pay26 D.q, k0_pay27 (kblk D.k 8)⟩ := by
  unfold k0_part9_skel
  refine head_at D 6 rfl rfl ?_
  refine Runs.bind (Runs.frm _ (k_load D 7 rfl)) ?_
  refine Runs.bind (Runs.frm _ (v_load D 7 rfl)) ?_
  refine head_at D 7 rfl rfl ?_
  refine Runs.bind (Runs.frm _ (k_load D 8 rfl)) ?_
  exact Runs.pure _ _

theorem part10_run : Runs c iprop(opPt c D ∗ (Done c D 8 ∗ R)) (k0_part10_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay26 D.q) (k0_pay27 (kblk D.k 8))) iprop(opPt c D ∗ (Done c D 9 ∗ R)) ⟨k0_pay29 (kblk D.v 9), k0_pay31 D.q (kblk D.k 9), k0_pay32 D.q (kblk D.k 9)⟩ := by
  unfold k0_part10_skel
  refine Runs.bind (Runs.frm _ (v_load D 8 rfl)) ?_
  refine head_at D 8 rfl rfl ?_
  refine Runs.bind (Runs.frm _ (k_load D 9 rfl)) ?_
  refine Runs.bind (Runs.frm _ (v_load D 9 rfl)) ?_
  exact Runs.pure _ _

theorem part11_run : Runs c iprop(opPt c D ∗ (Done c D 9 ∗ R)) (k0_part11_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay29 (kblk D.v 9)) (k0_pay31 D.q (kblk D.k 9)) (k0_pay32 D.q (kblk D.k 9))) iprop(opPt c D ∗ (Done c D 11 ∗ R)) ⟨k0_pay35 D.q, k0_pay36 (kblk D.k 11)⟩ := by
  unfold k0_part11_skel
  refine head_at D 9 rfl rfl ?_
  refine Runs.bind (Runs.frm _ (k_load D 10 rfl)) ?_
  refine Runs.bind (Runs.frm _ (v_load D 10 rfl)) ?_
  refine head_at D 10 rfl rfl ?_
  refine Runs.bind (Runs.frm _ (k_load D 11 rfl)) ?_
  exact Runs.pure _ _

theorem part12_run : Runs c iprop(opPt c D ∗ (Done c D 11 ∗ R)) (k0_part12_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay35 D.q) (k0_pay36 (kblk D.k 11))) iprop(opPt c D ∗ (Done c D 12 ∗ R)) ⟨k0_pay38 (kblk D.v 12), k0_pay40 D.q (kblk D.k 12), k0_pay41 D.q (kblk D.k 12)⟩ := by
  unfold k0_part12_skel
  refine Runs.bind (Runs.frm _ (v_load D 11 rfl)) ?_
  refine head_at D 11 rfl rfl ?_
  refine Runs.bind (Runs.frm _ (k_load D 12 rfl)) ?_
  refine Runs.bind (Runs.frm _ (v_load D 12 rfl)) ?_
  exact Runs.pure _ _

theorem part13_run : Runs c iprop(opPt c D ∗ (Done c D 12 ∗ R)) (k0_part13_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay38 (kblk D.v 12)) (k0_pay40 D.q (kblk D.k 12)) (k0_pay41 D.q (kblk D.k 12))) iprop(opPt c D ∗ (Done c D 14 ∗ R)) ⟨k0_pay44 D.q, k0_pay45 (kblk D.k 14)⟩ := by
  unfold k0_part13_skel
  refine head_at D 12 rfl rfl ?_
  refine Runs.bind (Runs.frm _ (k_load D 13 rfl)) ?_
  refine Runs.bind (Runs.frm _ (v_load D 13 rfl)) ?_
  refine head_at D 13 rfl rfl ?_
  refine Runs.bind (Runs.frm _ (k_load D 14 rfl)) ?_
  exact Runs.pure _ _

theorem part14_run : Runs c iprop(opPt c D ∗ (Done c D 14 ∗ R)) (k0_part14_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 D.q (k0_pay44 D.q) (k0_pay45 (kblk D.k 14))) iprop(opPt c D ∗ (Done c D 15 ∗ R)) ⟨k0_pay47 (kblk D.v 15), k0_pay49 D.q (kblk D.k 15), k0_pay50 D.q (kblk D.k 15)⟩ := by
  unfold k0_part14_skel
  refine Runs.bind (Runs.frm _ (v_load D 14 rfl)) ?_
  refine head_at D 14 rfl rfl ?_
  refine Runs.bind (Runs.frm _ (k_load D 15 rfl)) ?_
  refine Runs.bind (Runs.frm _ (v_load D 15 rfl)) ?_
  exact Runs.pure _ _

/-- What a copy of the first exchange needs besides its source and what the barrier hands over, and what is left of the latter for the second exchange. -/
def send1R (c j : Dev nD) : sProp 𝕄 :=
  iprop(inv pv κ (sCell 0 c j) ∗ inv pv κ (sCell 1 j c) ∗ dutyTok ER (sCell 0 c j) 0 0 ∗ reached ER (sCell 0 c j) 0 ∗ dutyTok ER (sCell 1 j c) 0 0)
def send2P (c j : Dev nD) : sProp 𝕄 := iprop((∃ f, osegPt j c f) ∗ reached ER (sCell 3 j c) 0)

theorem send1_ready (c j : Dev nD) : iprop(send1R pv κ c j ∗ psegPt c j (pv c) ∗ barPay c j) ⊢ iprop(send1A pv κ c j ∗ send2P c j) := by
  unfold send1R send2P send1A sendA barPay ownPay
  iintro ⟨⟨HI, HI', HT, HR, HT'⟩, Hp, Hs, Ho, HR1, HR3⟩
  isplitr [Ho HR3]
  · isplitl [HI]; · iexact HI
    isplitl [HI']; · iexact HI'
    isplitl [Hp]; · iexact Hp
    isplitl [Hs]; · iexact Hs
    isplitl [HT]; · iexact HT
    isplitl [HR]; · iexact HR
    isplitl [HT']; · iexact HT'
    iexact HR1
  isplitl [Ho]; · iexact Ho
  iexact HR3

theorem send1_all : iprop(bigSep (others c) (send1R pv κ c) ∗ bigSep (others c) (fun j => psegPt c j (pv c)) ∗ bigSep (others c) (barPay c))
    ⊢ iprop(bigSep (others c) (send1A pv κ c) ∗ bigSep (others c) (send2P c)) := by
  have h : bigSep (others c) (fun j => iprop(send1R pv κ c j ∗ psegPt c j (pv c) ∗ barPay c j)) ⊢ bigSep (others c) (fun j => iprop(send1A pv κ c j ∗ send2P c j)) :=
    bigSep_mono fun j _ => send1_ready pv κ c j
  have e : bigSep (others c) (fun j => iprop(send1A pv κ c j ∗ send2P c j)) = iprop(bigSep (others c) (send1A pv κ c) ∗ bigSep (others c) (send2P c)) := bigSep_sep _ _ _
  have e' : bigSep (others c) (fun j => iprop(psegPt c j (pv c) ∗ barPay c j)) = iprop(bigSep (others c) (fun j => psegPt c j (pv c)) ∗ bigSep (others c) (barPay c)) := bigSep_sep _ _ _
  have e'' : bigSep (others c) (fun j => iprop(send1R pv κ c j ∗ psegPt c j (pv c) ∗ barPay c j)) = iprop(bigSep (others c) (send1R pv κ c) ∗ bigSep (others c) (fun j => iprop(psegPt c j (pv c) ∗ barPay c j))) := bigSep_sep _ _ _
  rw [← e, ← e', ← e'']
  exact h

/-- The barrier's resources. -/
def barA (c : Dev nD) : sProp 𝕄 := iprop(inv pv κ (barCell c) ∗ cred (tallyAt (barCell c) () 31) ∗ atPos ER (barCell c) 0 ∅ 0 ∗ levAts L lv)

theorem part15_pre : iprop(opPt c D ∗ (Done c D 16 ∗ (((∃ f, partPt c f) ∗ (barA pv κ c ∗ due c (owe1 c)) ∗ bigSep (others c) (send1R pv κ c)) ∗ R)))
    ⊢ iprop(atPt c (attnV D.q D.k D.v) ∗ (opPt c D ∗ (∃ f, partPt c f) ∗ (barA pv κ c ∗ due c (owe1 c)) ∗ bigSep (others c) (send1R pv κ c) ∗ R)) := by
  refine (sep_mono_right (sep_mono_left (Done.last c D))).trans ?_
  iintro ⟨Ho, Ha, ⟨Hp, Hb, Hs⟩, HR⟩
  isplitl [Ha]; · iexact Ha
  isplitl [Ho]; · iexact Ho
  isplitl [Hp]; · iexact Hp
  isplitl [Hb]; · iexact Hb
  isplitl [Hs]; · iexact Hs
  iexact HR

theorem part15_mid {X Y Z : sProp (MT nD τ sig Unit (Elt F) ℕ UU ℕ)} : iprop(X ∗ (Y ∗ (∃ f, partPt c f) ∗ Z)) ⊢ iprop((∃ f, partPt (F := F) c f) ∗ (X ∗ Y ∗ Z)) := by
  iintro ⟨HX, HY, Hp, HZ⟩
  isplitl [Hp]; · iexact Hp
  isplitl [HX]; · iexact HX
  isplitl [HY]; · iexact HY
  iexact HZ

theorem part15_bar {X Y A B Z : sProp (MT nD τ sig Unit (Elt F) ℕ UU ℕ)} : iprop(A ∗ (X ∗ Y ∗ B ∗ Z)) ⊢ iprop(B ∗ (A ∗ X ∗ Y ∗ Z)) := by
  iintro ⟨HA, HX, HY, HB, HZ⟩
  isplitl [HB]; · iexact HB
  isplitl [HA]; · iexact HA
  isplitl [HX]; · iexact HX
  isplitl [HY]; · iexact HY
  iexact HZ

theorem part15_post : iprop(((atPos ER (barCell c) 1 ∅ 0 ∗ bigSep (others c) (barPay (F := F) c)) ∗ due c (owe1 c)) ∗ (partPt c (pv c) ∗ atPt c (attnV D.q D.k D.v) ∗ opPt c D ∗ bigSep (others c) (send1R pv κ c) ∗ R))
    ⊢ iprop(Send1 pv κ c 0 ∗ ((atPt c (attnV D.q D.k D.v) ∗ opPt c D ∗ psegPt c c (pv c) ∗ bigSep (others c) (send2P c) ∗ atPos ER (barCell c) 1 ∅ 0) ∗ R)) := by
  refine BIBase.Entails.trans ?_ (sep_mono_left Pass.first)
  rw [part_split, own_split c]
  iintro ⟨⟨⟨Hba, Hb⟩, HO⟩, ⟨Hp, Hps⟩, Ha, Ho, Hs, HR⟩
  ihave Hsp := (send1_all pv κ) $$ [Hs Hps Hb]
  · isplitl [Hs]; · iexact Hs
    isplitl [Hps]; · iexact Hps
    iexact Hb
  icases Hsp with ⟨Hs1, Hs2⟩
  isplitl [Hs1 HO]
  · isplitl [Hs1]; · iexact Hs1
    iexact HO
  isplitr [HR]
  · isplitl [Ha]; · iexact Ha
    isplitl [Ho]; · iexact Ho
    isplitl [Hp]; · iexact Hp
    isplitl [Hs2]; · iexact Hs2
    iexact Hba
  iexact HR

/-- The last block, the product with the output weights, the barrier, the first copies. -/
theorem part15_run (hpv : pv c = D.part) :
    Runs c iprop(opPt c D ∗ (Done c D 15 ∗ (((∃ f, partPt c f) ∗ (barA pv κ c ∗ due c (owe1 c)) ∗ bigSep (others c) (send1R pv κ c)) ∗ R))) (k0_part15_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (SemArray.scalar barS) (k0_pay47 (kblk D.v 15)) (k0_pay49 D.q (kblk D.k 15)) (k0_pay50 D.q (kblk D.k 15)))
    iprop(Send1 pv κ c 4 ∗ ((atPt c (attnV D.q D.k D.v) ∗ opPt c D ∗ psegPt c c (pv c) ∗ bigSep (others c) (send2P c) ∗ atPos ER (barCell c) 1 ∅ 0) ∗ R)) (Scalar.extui (Scalar.cmpi .ne (meWord c) 4#32 : BitVec 1) : BitVec 32) := by
  unfold k0_part15_skel
  refine head_at D 15 rfl rfl ?_
  refine Runs.pre (part15_pre pv κ D) ?_
  refine Runs.bind (Runs.frm _ (at_load _)) ?_
  refine Runs.pre sep_left_comm.1 ?_
  refine Runs.bind (Runs.frm _ (wo_load D)) ?_
  refine Runs.pre (sep_left_comm.1.trans part15_mid) ?_
  refine Runs.exL fun f => ?_
  refine Runs.dead partM Finset.univ fullShare f (Finset.subset_univ _) fun _ => ?_
  refine Runs.bind (Runs.frm _ (part_store f _)) ?_
  rw [show k0_pay52 (attnV D.q D.k D.v) D.wo = pv c from hpv.symm]
  refine Runs.pre part15_bar ?_
  refine Runs.bind (Runs.frm _ (barrier_run pv κ)) ?_
  refine Runs.pre (part15_post pv κ D) ?_
  refine send1_at pv κ 0 (by decide) (ne_iff c ⟨0, by decide⟩) k0_dev33_eq (fun _ => sem_own 0 ⟨0, by decide⟩ rfl) (fun _ => sem_own 1 c (off_sem c)) (fun _ => partAt_eq ⟨0, by decide⟩ rfl) (fun _ => rsAt_eq c (off_slot c)) ?_
  refine send1_at pv κ 1 (by decide) (ne_iff c ⟨1, by decide⟩) k0_dev34_eq (fun _ => sem_own 0 ⟨1, by decide⟩ rfl) (fun _ => sem_own 1 c (off_sem c)) (fun _ => partAt_eq ⟨1, by decide⟩ rfl) (fun _ => rsAt_eq c (off_slot c)) ?_
  refine send1_at pv κ 2 (by decide) (ne_iff c ⟨2, by decide⟩) k0_dev35_eq (fun _ => sem_own 0 ⟨2, by decide⟩ rfl) (fun _ => sem_own 1 c (off_sem c)) (fun _ => partAt_eq ⟨2, by decide⟩ rfl) (fun _ => rsAt_eq c (off_slot c)) ?_
  refine send1_at pv κ 3 (by decide) (ne_iff c ⟨3, by decide⟩) k0_dev36_eq (fun _ => sem_own 0 ⟨3, by decide⟩ rfl) (fun _ => sem_own 1 c (off_sem c)) (fun _ => partAt_eq ⟨3, by decide⟩ rfl) (fun _ => rsAt_eq c (off_slot c)) ?_
  exact Runs.pure _ _

end Cert.KernelIdeal.Mha

end
-- ==== Proof.Sends.lean ====
/-
  The parts of the program that only signal barriers or only start copies.
-/
module

public import proofs.«01_k».proof.Proof.Buffers

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

variable (pv : Dev nD → Vec F S256x512 .f32) (κ : GSem nD τ sig → ℕ)
variable {c : Dev nD} {R : sProp (MT nD τ sig Unit (Elt F) ℕ UU ℕ)}

/-- The first part also finds out which device this is. -/
theorem part1_run : Runs c iprop(Signal pv κ c 0 ∗ R) (k0_part1_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) iprop(Signal pv κ c 8 ∗ R) ⟨c, meWord c, SemArray.scalar barS⟩ := by
  unfold k0_part1_skel
  refine Runs.bind Runs.deviceId ?_
  refine signal_at pv κ 0 (by decide) (ne_iff c ⟨0, by decide⟩) k0_dev1_eq ?_
  refine signal_at pv κ 1 (by decide) (ne_iff c ⟨1, by decide⟩) k0_dev2_eq ?_
  refine signal_at pv κ 2 (by decide) (ne_iff c ⟨2, by decide⟩) k0_dev3_eq ?_
  refine signal_at pv κ 3 (by decide) (ne_iff c ⟨3, by decide⟩) k0_dev4_eq ?_
  refine signal_at pv κ 4 (by decide) (ne_iff c ⟨4, by decide⟩) k0_dev5_eq ?_
  refine signal_at pv κ 5 (by decide) (ne_iff c ⟨5, by decide⟩) k0_dev6_eq ?_
  refine signal_at pv κ 6 (by decide) (ne_iff c ⟨6, by decide⟩) k0_dev7_eq ?_
  refine signal_at pv κ 7 (by decide) (ne_iff c ⟨7, by decide⟩) k0_dev8_eq ?_
  exact Runs.pure _ _

theorem part2_run : Runs c iprop(Signal pv κ c 8 ∗ R) (k0_part2_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (SemArray.scalar barS)) iprop(Signal pv κ c 18 ∗ R) ⟨⟩ := by
  unfold k0_part2_skel
  refine signal_at pv κ 8 (by decide) (ne_iff c ⟨8, by decide⟩) k0_dev9_eq ?_
  refine signal_at pv κ 9 (by decide) (ne_iff c ⟨9, by decide⟩) k0_dev10_eq ?_
  refine signal_at pv κ 10 (by decide) (ne_iff c ⟨10, by decide⟩) k0_dev11_eq ?_
  refine signal_at pv κ 11 (by decide) (ne_iff c ⟨11, by decide⟩) k0_dev12_eq ?_
  refine signal_at pv κ 12 (by decide) (ne_iff c ⟨12, by decide⟩) k0_dev13_eq ?_
  refine signal_at pv κ 13 (by decide) (ne_iff c ⟨13, by decide⟩) k0_dev14_eq ?_
  refine signal_at pv κ 14 (by decide) (ne_iff c ⟨14, by decide⟩) k0_dev15_eq ?_
  refine signal_at pv κ 15 (by decide) (ne_iff c ⟨15, by decide⟩) k0_dev16_eq ?_
  refine signal_at pv κ 16 (by decide) (ne_iff c ⟨16, by decide⟩) k0_dev17_eq ?_
  refine signal_at pv κ 17 (by decide) (ne_iff c ⟨17, by decide⟩) k0_dev18_eq ?_
  exact Runs.pure _ _

theorem part3_run : Runs c iprop(Signal pv κ c 18 ∗ R) (k0_part3_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (SemArray.scalar barS)) iprop(Signal pv κ c 28 ∗ R) ⟨⟩ := by
  unfold k0_part3_skel
  refine signal_at pv κ 18 (by decide) (ne_iff c ⟨18, by decide⟩) k0_dev19_eq ?_
  refine signal_at pv κ 19 (by decide) (ne_iff c ⟨19, by decide⟩) k0_dev20_eq ?_
  refine signal_at pv κ 20 (by decide) (ne_iff c ⟨20, by decide⟩) k0_dev21_eq ?_
  refine signal_at pv κ 21 (by decide) (ne_iff c ⟨21, by decide⟩) k0_dev22_eq ?_
  refine signal_at pv κ 22 (by decide) (ne_iff c ⟨22, by decide⟩) k0_dev23_eq ?_
  refine signal_at pv κ 23 (by decide) (ne_iff c ⟨23, by decide⟩) k0_dev24_eq ?_
  refine signal_at pv κ 24 (by decide) (ne_iff c ⟨24, by decide⟩) k0_dev25_eq ?_
  refine signal_at pv κ 25 (by decide) (ne_iff c ⟨25, by decide⟩) k0_dev26_eq ?_
  refine signal_at pv κ 26 (by decide) (ne_iff c ⟨26, by decide⟩) k0_dev27_eq ?_
  refine signal_at pv κ 27 (by decide) (ne_iff c ⟨27, by decide⟩) k0_dev28_eq ?_
  exact Runs.pure _ _

theorem part16_run : Runs c iprop(Send1 pv κ c 4 ∗ R) (k0_part16_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 4#32 : BitVec 1) : BitVec 32)) iprop(Send1 pv κ c 13 ∗ R) ⟨⟩ := by
  unfold k0_part16_skel
  refine send1_at pv κ 4 (by decide) (ne_iff c ⟨4, by decide⟩) k0_dev37_eq (fun _ => sem_own 0 ⟨4, by decide⟩ rfl) (fun _ => sem_own 1 c (off_sem c)) (fun _ => partAt_eq ⟨4, by decide⟩ rfl) (fun _ => rsAt_eq c (off_slot c)) ?_
  refine send1_at pv κ 5 (by decide) (ne_iff c ⟨5, by decide⟩) k0_dev38_eq (fun _ => sem_own 0 ⟨5, by decide⟩ rfl) (fun _ => sem_own 1 c (off_sem c)) (fun _ => partAt_eq ⟨5, by decide⟩ rfl) (fun _ => rsAt_eq c (off_slot c)) ?_
  refine send1_at pv κ 6 (by decide) (ne_iff c ⟨6, by decide⟩) k0_dev39_eq (fun _ => sem_own 0 ⟨6, by decide⟩ rfl) (fun _ => sem_own 1 c (off_sem c)) (fun _ => partAt_eq ⟨6, by decide⟩ rfl) (fun _ => rsAt_eq c (off_slot c)) ?_
  refine send1_at pv κ 7 (by decide) (ne_iff c ⟨7, by decide⟩) k0_dev40_eq (fun _ => sem_own 0 ⟨7, by decide⟩ rfl) (fun _ => sem_own 1 c (off_sem c)) (fun _ => partAt_eq ⟨7, by decide⟩ rfl) (fun _ => rsAt_eq c (off_slot c)) ?_
  refine send1_at pv κ 8 (by decide) (ne_iff c ⟨8, by decide⟩) k0_dev41_eq (fun _ => sem_own 0 ⟨8, by decide⟩ rfl) (fun _ => sem_own 1 c (off_sem c)) (fun _ => partAt_eq ⟨8, by decide⟩ rfl) (fun _ => rsAt_eq c (off_slot c)) ?_
  refine send1_at pv κ 9 (by decide) (ne_iff c ⟨9, by decide⟩) k0_dev42_eq (fun _ => sem_own 0 ⟨9, by decide⟩ rfl) (fun _ => sem_own 1 c (off_sem c)) (fun _ => partAt_eq ⟨9, by decide⟩ rfl) (fun _ => rsAt_eq c (off_slot c)) ?_
  refine send1_at pv κ 10 (by decide) (ne_iff c ⟨10, by decide⟩) k0_dev43_eq (fun _ => sem_own 0 ⟨10, by decide⟩ rfl) (fun _ => sem_own 1 c (off_sem c)) (fun _ => partAt_eq ⟨10, by decide⟩ rfl) (fun _ => rsAt_eq c (off_slot c)) ?_
  refine send1_at pv κ 11 (by decide) (ne_iff c ⟨11, by decide⟩) k0_dev44_eq (fun _ => sem_own 0 ⟨11, by decide⟩ rfl) (fun _ => sem_own 1 c (off_sem c)) (fun _ => partAt_eq ⟨11, by decide⟩ rfl) (fun _ => rsAt_eq c (off_slot c)) ?_
  refine send1_at pv κ 12 (by decide) (ne_iff c ⟨12, by decide⟩) k0_dev45_eq (fun _ => sem_own 0 ⟨12, by decide⟩ rfl) (fun _ => sem_own 1 c (off_sem c)) (fun _ => partAt_eq ⟨12, by decide⟩ rfl) (fun _ => rsAt_eq c (off_slot c)) ?_
  exact Runs.pure _ _

theorem part17_run : Runs c iprop(Send1 pv κ c 13 ∗ R) (k0_part17_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c)) iprop(Send1 pv κ c 21 ∗ R) (Scalar.extui (Scalar.cmpi .ne (meWord c) 21#32 : BitVec 1) : BitVec 32) := by
  unfold k0_part17_skel
  refine send1_at pv κ 13 (by decide) (ne_iff c ⟨13, by decide⟩) k0_dev46_eq (fun _ => sem_own 0 ⟨13, by decide⟩ rfl) (fun _ => sem_own 1 c (off_sem c)) (fun _ => partAt_eq ⟨13, by decide⟩ rfl) (fun _ => rsAt_eq c (off_slot c)) ?_
  refine send1_at pv κ 14 (by decide) (ne_iff c ⟨14, by decide⟩) k0_dev47_eq (fun _ => sem_own 0 ⟨14, by decide⟩ rfl) (fun _ => sem_own 1 c (off_sem c)) (fun _ => partAt_eq ⟨14, by decide⟩ rfl) (fun _ => rsAt_eq c (off_slot c)) ?_
  refine send1_at pv κ 15 (by decide) (ne_iff c ⟨15, by decide⟩) k0_dev48_eq (fun _ => sem_own 0 ⟨15, by decide⟩ rfl) (fun _ => sem_own 1 c (off_sem c)) (fun _ => partAt_eq ⟨15, by decide⟩ rfl) (fun _ => rsAt_eq c (off_slot c)) ?_
  refine send1_at pv κ 16 (by decide) (ne_iff c ⟨16, by decide⟩) k0_dev49_eq (fun _ => sem_own 0 ⟨16, by decide⟩ rfl) (fun _ => sem_own 1 c (off_sem c)) (fun _ => partAt_eq ⟨16, by decide⟩ rfl) (fun _ => rsAt_eq c (off_slot c)) ?_
  refine send1_at pv κ 17 (by decide) (ne_iff c ⟨17, by decide⟩) k0_dev50_eq (fun _ => sem_own 0 ⟨17, by decide⟩ rfl) (fun _ => sem_own 1 c (off_sem c)) (fun _ => partAt_eq ⟨17, by decide⟩ rfl) (fun _ => rsAt_eq c (off_slot c)) ?_
  refine send1_at pv κ 18 (by decide) (ne_iff c ⟨18, by decide⟩) k0_dev51_eq (fun _ => sem_own 0 ⟨18, by decide⟩ rfl) (fun _ => sem_own 1 c (off_sem c)) (fun _ => partAt_eq ⟨18, by decide⟩ rfl) (fun _ => rsAt_eq c (off_slot c)) ?_
  refine send1_at pv κ 19 (by decide) (ne_iff c ⟨19, by decide⟩) k0_dev52_eq (fun _ => sem_own 0 ⟨19, by decide⟩ rfl) (fun _ => sem_own 1 c (off_sem c)) (fun _ => partAt_eq ⟨19, by decide⟩ rfl) (fun _ => rsAt_eq c (off_slot c)) ?_
  refine send1_at pv κ 20 (by decide) (ne_iff c ⟨20, by decide⟩) k0_dev53_eq (fun _ => sem_own 0 ⟨20, by decide⟩ rfl) (fun _ => sem_own 1 c (off_sem c)) (fun _ => partAt_eq ⟨20, by decide⟩ rfl) (fun _ => rsAt_eq c (off_slot c)) ?_
  exact Runs.pure _ _

theorem part18_run : Runs c iprop(Send1 pv κ c 21 ∗ R) (k0_part18_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 21#32 : BitVec 1) : BitVec 32)) iprop(Send1 pv κ c 30 ∗ R) 30#32 := by
  unfold k0_part18_skel
  refine send1_at pv κ 21 (by decide) (ne_iff c ⟨21, by decide⟩) k0_dev54_eq (fun _ => sem_own 0 ⟨21, by decide⟩ rfl) (fun _ => sem_own 1 c (off_sem c)) (fun _ => partAt_eq ⟨21, by decide⟩ rfl) (fun _ => rsAt_eq c (off_slot c)) ?_
  refine send1_at pv κ 22 (by decide) (ne_iff c ⟨22, by decide⟩) k0_dev55_eq (fun _ => sem_own 0 ⟨22, by decide⟩ rfl) (fun _ => sem_own 1 c (off_sem c)) (fun _ => partAt_eq ⟨22, by decide⟩ rfl) (fun _ => rsAt_eq c (off_slot c)) ?_
  refine send1_at pv κ 23 (by decide) (ne_iff c ⟨23, by decide⟩) k0_dev56_eq (fun _ => sem_own 0 ⟨23, by decide⟩ rfl) (fun _ => sem_own 1 c (off_sem c)) (fun _ => partAt_eq ⟨23, by decide⟩ rfl) (fun _ => rsAt_eq c (off_slot c)) ?_
  refine send1_at pv κ 24 (by decide) (ne_iff c ⟨24, by decide⟩) k0_dev57_eq (fun _ => sem_own 0 ⟨24, by decide⟩ rfl) (fun _ => sem_own 1 c (off_sem c)) (fun _ => partAt_eq ⟨24, by decide⟩ rfl) (fun _ => rsAt_eq c (off_slot c)) ?_
  refine send1_at pv κ 25 (by decide) (ne_iff c ⟨25, by decide⟩) k0_dev58_eq (fun _ => sem_own 0 ⟨25, by decide⟩ rfl) (fun _ => sem_own 1 c (off_sem c)) (fun _ => partAt_eq ⟨25, by decide⟩ rfl) (fun _ => rsAt_eq c (off_slot c)) ?_
  refine send1_at pv κ 26 (by decide) (ne_iff c ⟨26, by decide⟩) k0_dev59_eq (fun _ => sem_own 0 ⟨26, by decide⟩ rfl) (fun _ => sem_own 1 c (off_sem c)) (fun _ => partAt_eq ⟨26, by decide⟩ rfl) (fun _ => rsAt_eq c (off_slot c)) ?_
  refine send1_at pv κ 27 (by decide) (ne_iff c ⟨27, by decide⟩) k0_dev60_eq (fun _ => sem_own 0 ⟨27, by decide⟩ rfl) (fun _ => sem_own 1 c (off_sem c)) (fun _ => partAt_eq ⟨27, by decide⟩ rfl) (fun _ => rsAt_eq c (off_slot c)) ?_
  refine send1_at pv κ 28 (by decide) (ne_iff c ⟨28, by decide⟩) k0_dev61_eq (fun _ => sem_own 0 ⟨28, by decide⟩ rfl) (fun _ => sem_own 1 c (off_sem c)) (fun _ => partAt_eq ⟨28, by decide⟩ rfl) (fun _ => rsAt_eq c (off_slot c)) ?_
  refine send1_at pv κ 29 (by decide) (ne_iff c ⟨29, by decide⟩) k0_dev62_eq (fun _ => sem_own 0 ⟨29, by decide⟩ rfl) (fun _ => sem_own 1 c (off_sem c)) (fun _ => partAt_eq ⟨29, by decide⟩ rfl) (fun _ => rsAt_eq c (off_slot c)) ?_
  exact Runs.pure _ _

theorem part25_run : Runs c iprop(Send2 pv κ c 0 ∗ R) (k0_part25_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c)) iprop(Send2 pv κ c 5 ∗ R) ⟨⟩ := by
  unfold k0_part25_skel
  refine send2_at pv κ 0 (by decide) (ne_iff c ⟨0, by decide⟩) k0_dev65_eq (fun _ => sem_own 2 ⟨0, by decide⟩ rfl) (fun _ => sem_own 3 c (off_sem c)) (fun _ => outAt_eq c (off_out c)) ?_
  refine send2_at pv κ 1 (by decide) (ne_iff c ⟨1, by decide⟩) k0_dev66_eq (fun _ => sem_own 2 ⟨1, by decide⟩ rfl) (fun _ => sem_own 3 c (off_sem c)) (fun _ => outAt_eq c (off_out c)) ?_
  refine send2_at pv κ 2 (by decide) (ne_iff c ⟨2, by decide⟩) k0_dev67_eq (fun _ => sem_own 2 ⟨2, by decide⟩ rfl) (fun _ => sem_own 3 c (off_sem c)) (fun _ => outAt_eq c (off_out c)) ?_
  refine send2_at pv κ 3 (by decide) (ne_iff c ⟨3, by decide⟩) k0_dev68_eq (fun _ => sem_own 2 ⟨3, by decide⟩ rfl) (fun _ => sem_own 3 c (off_sem c)) (fun _ => outAt_eq c (off_out c)) ?_
  refine send2_at pv κ 4 (by decide) (ne_iff c ⟨4, by decide⟩) k0_dev69_eq (fun _ => sem_own 2 ⟨4, by decide⟩ rfl) (fun _ => sem_own 3 c (off_sem c)) (fun _ => outAt_eq c (off_out c)) ?_
  exact Runs.pure _ _

theorem part26_run : Runs c iprop(Send2 pv κ c 5 ∗ R) (k0_part26_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c)) iprop(Send2 pv κ c 14 ∗ R) (Scalar.extui (Scalar.cmpi .ne (meWord c) 14#32 : BitVec 1) : BitVec 32) := by
  unfold k0_part26_skel
  refine send2_at pv κ 5 (by decide) (ne_iff c ⟨5, by decide⟩) k0_dev70_eq (fun _ => sem_own 2 ⟨5, by decide⟩ rfl) (fun _ => sem_own 3 c (off_sem c)) (fun _ => outAt_eq c (off_out c)) ?_
  refine send2_at pv κ 6 (by decide) (ne_iff c ⟨6, by decide⟩) k0_dev71_eq (fun _ => sem_own 2 ⟨6, by decide⟩ rfl) (fun _ => sem_own 3 c (off_sem c)) (fun _ => outAt_eq c (off_out c)) ?_
  refine send2_at pv κ 7 (by decide) (ne_iff c ⟨7, by decide⟩) k0_dev72_eq (fun _ => sem_own 2 ⟨7, by decide⟩ rfl) (fun _ => sem_own 3 c (off_sem c)) (fun _ => outAt_eq c (off_out c)) ?_
  refine send2_at pv κ 8 (by decide) (ne_iff c ⟨8, by decide⟩) k0_dev73_eq (fun _ => sem_own 2 ⟨8, by decide⟩ rfl) (fun _ => sem_own 3 c (off_sem c)) (fun _ => outAt_eq c (off_out c)) ?_
  refine send2_at pv κ 9 (by decide) (ne_iff c ⟨9, by decide⟩) k0_dev74_eq (fun _ => sem_own 2 ⟨9, by decide⟩ rfl) (fun _ => sem_own 3 c (off_sem c)) (fun _ => outAt_eq c (off_out c)) ?_
  refine send2_at pv κ 10 (by decide) (ne_iff c ⟨10, by decide⟩) k0_dev75_eq (fun _ => sem_own 2 ⟨10, by decide⟩ rfl) (fun _ => sem_own 3 c (off_sem c)) (fun _ => outAt_eq c (off_out c)) ?_
  refine send2_at pv κ 11 (by decide) (ne_iff c ⟨11, by decide⟩) k0_dev76_eq (fun _ => sem_own 2 ⟨11, by decide⟩ rfl) (fun _ => sem_own 3 c (off_sem c)) (fun _ => outAt_eq c (off_out c)) ?_
  refine send2_at pv κ 12 (by decide) (ne_iff c ⟨12, by decide⟩) k0_dev77_eq (fun _ => sem_own 2 ⟨12, by decide⟩ rfl) (fun _ => sem_own 3 c (off_sem c)) (fun _ => outAt_eq c (off_out c)) ?_
  refine send2_at pv κ 13 (by decide) (ne_iff c ⟨13, by decide⟩) k0_dev78_eq (fun _ => sem_own 2 ⟨13, by decide⟩ rfl) (fun _ => sem_own 3 c (off_sem c)) (fun _ => outAt_eq c (off_out c)) ?_
  exact Runs.pure _ _

theorem part27_run : Runs c iprop(Send2 pv κ c 14 ∗ R) (k0_part27_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 14#32 : BitVec 1) : BitVec 32)) iprop(Send2 pv κ c 23 ∗ R) ⟨⟩ := by
  unfold k0_part27_skel
  refine send2_at pv κ 14 (by decide) (ne_iff c ⟨14, by decide⟩) k0_dev79_eq (fun _ => sem_own 2 ⟨14, by decide⟩ rfl) (fun _ => sem_own 3 c (off_sem c)) (fun _ => outAt_eq c (off_out c)) ?_
  refine send2_at pv κ 15 (by decide) (ne_iff c ⟨15, by decide⟩) k0_dev80_eq (fun _ => sem_own 2 ⟨15, by decide⟩ rfl) (fun _ => sem_own 3 c (off_sem c)) (fun _ => outAt_eq c (off_out c)) ?_
  refine send2_at pv κ 16 (by decide) (ne_iff c ⟨16, by decide⟩) k0_dev81_eq (fun _ => sem_own 2 ⟨16, by decide⟩ rfl) (fun _ => sem_own 3 c (off_sem c)) (fun _ => outAt_eq c (off_out c)) ?_
  refine send2_at pv κ 17 (by decide) (ne_iff c ⟨17, by decide⟩) k0_dev82_eq (fun _ => sem_own 2 ⟨17, by decide⟩ rfl) (fun _ => sem_own 3 c (off_sem c)) (fun _ => outAt_eq c (off_out c)) ?_
  refine send2_at pv κ 18 (by decide) (ne_iff c ⟨18, by decide⟩) k0_dev83_eq (fun _ => sem_own 2 ⟨18, by decide⟩ rfl) (fun _ => sem_own 3 c (off_sem c)) (fun _ => outAt_eq c (off_out c)) ?_
  refine send2_at pv κ 19 (by decide) (ne_iff c ⟨19, by decide⟩) k0_dev84_eq (fun _ => sem_own 2 ⟨19, by decide⟩ rfl) (fun _ => sem_own 3 c (off_sem c)) (fun _ => outAt_eq c (off_out c)) ?_
  refine send2_at pv κ 20 (by decide) (ne_iff c ⟨20, by decide⟩) k0_dev85_eq (fun _ => sem_own 2 ⟨20, by decide⟩ rfl) (fun _ => sem_own 3 c (off_sem c)) (fun _ => outAt_eq c (off_out c)) ?_
  refine send2_at pv κ 21 (by decide) (ne_iff c ⟨21, by decide⟩) k0_dev86_eq (fun _ => sem_own 2 ⟨21, by decide⟩ rfl) (fun _ => sem_own 3 c (off_sem c)) (fun _ => outAt_eq c (off_out c)) ?_
  refine send2_at pv κ 22 (by decide) (ne_iff c ⟨22, by decide⟩) k0_dev87_eq (fun _ => sem_own 2 ⟨22, by decide⟩ rfl) (fun _ => sem_own 3 c (off_sem c)) (fun _ => outAt_eq c (off_out c)) ?_
  exact Runs.pure _ _

theorem part28_run : Runs c iprop(Send2 pv κ c 23 ∗ R) (k0_part28_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c)) iprop(Send2 pv κ c 31 ∗ R) (Scalar.extui (Scalar.cmpi .ne (meWord c) 31#32 : BitVec 1) : BitVec 32) := by
  unfold k0_part28_skel
  refine send2_at pv κ 23 (by decide) (ne_iff c ⟨23, by decide⟩) k0_dev88_eq (fun _ => sem_own 2 ⟨23, by decide⟩ rfl) (fun _ => sem_own 3 c (off_sem c)) (fun _ => outAt_eq c (off_out c)) ?_
  refine send2_at pv κ 24 (by decide) (ne_iff c ⟨24, by decide⟩) k0_dev89_eq (fun _ => sem_own 2 ⟨24, by decide⟩ rfl) (fun _ => sem_own 3 c (off_sem c)) (fun _ => outAt_eq c (off_out c)) ?_
  refine send2_at pv κ 25 (by decide) (ne_iff c ⟨25, by decide⟩) k0_dev90_eq (fun _ => sem_own 2 ⟨25, by decide⟩ rfl) (fun _ => sem_own 3 c (off_sem c)) (fun _ => outAt_eq c (off_out c)) ?_
  refine send2_at pv κ 26 (by decide) (ne_iff c ⟨26, by decide⟩) k0_dev91_eq (fun _ => sem_own 2 ⟨26, by decide⟩ rfl) (fun _ => sem_own 3 c (off_sem c)) (fun _ => outAt_eq c (off_out c)) ?_
  refine send2_at pv κ 27 (by decide) (ne_iff c ⟨27, by decide⟩) k0_dev92_eq (fun _ => sem_own 2 ⟨27, by decide⟩ rfl) (fun _ => sem_own 3 c (off_sem c)) (fun _ => outAt_eq c (off_out c)) ?_
  refine send2_at pv κ 28 (by decide) (ne_iff c ⟨28, by decide⟩) k0_dev93_eq (fun _ => sem_own 2 ⟨28, by decide⟩ rfl) (fun _ => sem_own 3 c (off_sem c)) (fun _ => outAt_eq c (off_out c)) ?_
  refine send2_at pv κ 29 (by decide) (ne_iff c ⟨29, by decide⟩) k0_dev94_eq (fun _ => sem_own 2 ⟨29, by decide⟩ rfl) (fun _ => sem_own 3 c (off_sem c)) (fun _ => outAt_eq c (off_out c)) ?_
  refine send2_at pv κ 30 (by decide) (ne_iff c ⟨30, by decide⟩) k0_dev95_eq (fun _ => sem_own 2 ⟨30, by decide⟩ rfl) (fun _ => sem_own 3 c (off_sem c)) (fun _ => outAt_eq c (off_out c)) ?_
  exact Runs.pure _ _

end Cert.KernelIdeal.Mha

end
-- ==== Proof.Waits.lean ====
/-
  The parts of the program that only wait for copies.
-/
module

public import proofs.«01_k».proof.Proof.Buffers

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

variable (pv : Dev nD → Vec F S256x512 .f32) (κ : GSem nD τ sig → ℕ)
variable {c : Dev nD} {R : sProp (MT nD τ sig Unit (Elt F) ℕ UU ℕ)}

theorem part20_run : Runs c iprop(Wait pv κ 1 (owe2 c) c 3 ∗ R) (k0_part20_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c) (Scalar.extui (Scalar.cmpi .ne (meWord c) 3#32 : BitVec 1) : BitVec 32) (0#32 : BitVec 32)) iprop(Wait pv κ 1 (owe2 c) c 10 ∗ R) (Scalar.extui (Scalar.cmpi .ne (meWord c) 10#32 : BitVec 1) : BitVec 32) := by
  unfold k0_part20_skel
  refine wait_at pv κ 1 (owe2 c) (mayWait_recv1 c) 3 (by decide) (ne_iff c ⟨3, by decide⟩) (fun _ => sem_own 1 ⟨3, by decide⟩ rfl) (fun _ => amount_slot _ _) ?_
  refine wait_at pv κ 1 (owe2 c) (mayWait_recv1 c) 4 (by decide) (ne_iff c ⟨4, by decide⟩) (fun _ => sem_own 1 ⟨4, by decide⟩ rfl) (fun _ => amount_slot _ _) ?_
  refine wait_at pv κ 1 (owe2 c) (mayWait_recv1 c) 5 (by decide) (ne_iff c ⟨5, by decide⟩) (fun _ => sem_own 1 ⟨5, by decide⟩ rfl) (fun _ => amount_slot _ _) ?_
  refine wait_at pv κ 1 (owe2 c) (mayWait_recv1 c) 6 (by decide) (ne_iff c ⟨6, by decide⟩) (fun _ => sem_own 1 ⟨6, by decide⟩ rfl) (fun _ => amount_slot _ _) ?_
  refine wait_at pv κ 1 (owe2 c) (mayWait_recv1 c) 7 (by decide) (ne_iff c ⟨7, by decide⟩) (fun _ => sem_own 1 ⟨7, by decide⟩ rfl) (fun _ => amount_slot _ _) ?_
  refine wait_at pv κ 1 (owe2 c) (mayWait_recv1 c) 8 (by decide) (ne_iff c ⟨8, by decide⟩) (fun _ => sem_own 1 ⟨8, by decide⟩ rfl) (fun _ => amount_slot _ _) ?_
  refine wait_at pv κ 1 (owe2 c) (mayWait_recv1 c) 9 (by decide) (ne_iff c ⟨9, by decide⟩) (fun _ => sem_own 1 ⟨9, by decide⟩ rfl) (fun _ => amount_slot _ _) ?_
  exact Runs.pure _ _

theorem part21_run : Runs c iprop(Wait pv κ 1 (owe2 c) c 10 ∗ R) (k0_part21_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c) (Scalar.extui (Scalar.cmpi .ne (meWord c) 10#32 : BitVec 1) : BitVec 32)) iprop(Wait pv κ 1 (owe2 c) c 17 ∗ R) 17#32 := by
  unfold k0_part21_skel
  refine wait_at pv κ 1 (owe2 c) (mayWait_recv1 c) 10 (by decide) (ne_iff c ⟨10, by decide⟩) (fun _ => sem_own 1 ⟨10, by decide⟩ rfl) (fun _ => amount_slot _ _) ?_
  refine wait_at pv κ 1 (owe2 c) (mayWait_recv1 c) 11 (by decide) (ne_iff c ⟨11, by decide⟩) (fun _ => sem_own 1 ⟨11, by decide⟩ rfl) (fun _ => amount_slot _ _) ?_
  refine wait_at pv κ 1 (owe2 c) (mayWait_recv1 c) 12 (by decide) (ne_iff c ⟨12, by decide⟩) (fun _ => sem_own 1 ⟨12, by decide⟩ rfl) (fun _ => amount_slot _ _) ?_
  refine wait_at pv κ 1 (owe2 c) (mayWait_recv1 c) 13 (by decide) (ne_iff c ⟨13, by decide⟩) (fun _ => sem_own 1 ⟨13, by decide⟩ rfl) (fun _ => amount_slot _ _) ?_
  refine wait_at pv κ 1 (owe2 c) (mayWait_recv1 c) 14 (by decide) (ne_iff c ⟨14, by decide⟩) (fun _ => sem_own 1 ⟨14, by decide⟩ rfl) (fun _ => amount_slot _ _) ?_
  refine wait_at pv κ 1 (owe2 c) (mayWait_recv1 c) 15 (by decide) (ne_iff c ⟨15, by decide⟩) (fun _ => sem_own 1 ⟨15, by decide⟩ rfl) (fun _ => amount_slot _ _) ?_
  refine wait_at pv κ 1 (owe2 c) (mayWait_recv1 c) 16 (by decide) (ne_iff c ⟨16, by decide⟩) (fun _ => sem_own 1 ⟨16, by decide⟩ rfl) (fun _ => amount_slot _ _) ?_
  exact Runs.pure _ _

theorem part22_run : Runs c iprop(Wait pv κ 1 (owe2 c) c 17 ∗ R) (k0_part22_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c) (17#32 : BitVec 32)) iprop(Wait pv κ 1 (owe2 c) c 23 ∗ R) ⟨(Scalar.extui (Scalar.cmpi .ne (meWord c) 23#32 : BitVec 1) : BitVec 32), 0#32⟩ := by
  unfold k0_part22_skel
  refine wait_at pv κ 1 (owe2 c) (mayWait_recv1 c) 17 (by decide) (ne_iff c ⟨17, by decide⟩) (fun _ => sem_own 1 ⟨17, by decide⟩ rfl) (fun _ => amount_slot _ _) ?_
  refine wait_at pv κ 1 (owe2 c) (mayWait_recv1 c) 18 (by decide) (ne_iff c ⟨18, by decide⟩) (fun _ => sem_own 1 ⟨18, by decide⟩ rfl) (fun _ => amount_slot _ _) ?_
  refine wait_at pv κ 1 (owe2 c) (mayWait_recv1 c) 19 (by decide) (ne_iff c ⟨19, by decide⟩) (fun _ => sem_own 1 ⟨19, by decide⟩ rfl) (fun _ => amount_slot _ _) ?_
  refine wait_at pv κ 1 (owe2 c) (mayWait_recv1 c) 20 (by decide) (ne_iff c ⟨20, by decide⟩) (fun _ => sem_own 1 ⟨20, by decide⟩ rfl) (fun _ => amount_slot _ _) ?_
  refine wait_at pv κ 1 (owe2 c) (mayWait_recv1 c) 21 (by decide) (ne_iff c ⟨21, by decide⟩) (fun _ => sem_own 1 ⟨21, by decide⟩ rfl) (fun _ => amount_slot _ _) ?_
  refine wait_at pv κ 1 (owe2 c) (mayWait_recv1 c) 22 (by decide) (ne_iff c ⟨22, by decide⟩) (fun _ => sem_own 1 ⟨22, by decide⟩ rfl) (fun _ => amount_slot _ _) ?_
  exact Runs.pure _ _

theorem part23_run : Runs c iprop(Wait pv κ 1 (owe2 c) c 23 ∗ R) (k0_part23_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c) (Scalar.extui (Scalar.cmpi .ne (meWord c) 23#32 : BitVec 1) : BitVec 32) (0#32 : BitVec 32)) iprop(Wait pv κ 1 (owe2 c) c 30 ∗ R) (Scalar.extui (Scalar.cmpi .ne (meWord c) 30#32 : BitVec 1) : BitVec 32) := by
  unfold k0_part23_skel
  refine wait_at pv κ 1 (owe2 c) (mayWait_recv1 c) 23 (by decide) (ne_iff c ⟨23, by decide⟩) (fun _ => sem_own 1 ⟨23, by decide⟩ rfl) (fun _ => amount_slot _ _) ?_
  refine wait_at pv κ 1 (owe2 c) (mayWait_recv1 c) 24 (by decide) (ne_iff c ⟨24, by decide⟩) (fun _ => sem_own 1 ⟨24, by decide⟩ rfl) (fun _ => amount_slot _ _) ?_
  refine wait_at pv κ 1 (owe2 c) (mayWait_recv1 c) 25 (by decide) (ne_iff c ⟨25, by decide⟩) (fun _ => sem_own 1 ⟨25, by decide⟩ rfl) (fun _ => amount_slot _ _) ?_
  refine wait_at pv κ 1 (owe2 c) (mayWait_recv1 c) 26 (by decide) (ne_iff c ⟨26, by decide⟩) (fun _ => sem_own 1 ⟨26, by decide⟩ rfl) (fun _ => amount_slot _ _) ?_
  refine wait_at pv κ 1 (owe2 c) (mayWait_recv1 c) 27 (by decide) (ne_iff c ⟨27, by decide⟩) (fun _ => sem_own 1 ⟨27, by decide⟩ rfl) (fun _ => amount_slot _ _) ?_
  refine wait_at pv κ 1 (owe2 c) (mayWait_recv1 c) 28 (by decide) (ne_iff c ⟨28, by decide⟩) (fun _ => sem_own 1 ⟨28, by decide⟩ rfl) (fun _ => amount_slot _ _) ?_
  refine wait_at pv κ 1 (owe2 c) (mayWait_recv1 c) 29 (by decide) (ne_iff c ⟨29, by decide⟩) (fun _ => sem_own 1 ⟨29, by decide⟩ rfl) (fun _ => amount_slot _ _) ?_
  exact Runs.pure _ _

theorem part30_run : Runs c iprop(Wait pv κ 0 0 c 7 ∗ R) (k0_part30_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (7#32 : BitVec 32)) iprop(Wait pv κ 0 0 c 15 ∗ R) ⟨(Scalar.extui (Scalar.cmpi .ne (meWord c) 15#32 : BitVec 1) : BitVec 32), 0#32⟩ := by
  unfold k0_part30_skel
  refine wait_at pv κ 0 0 (mayWait_none c 0) 7 (by decide) (ne_iff c ⟨7, by decide⟩) (fun _ => sem_own 0 ⟨7, by decide⟩ rfl) (fun _ => amount_pseg _ _) ?_
  refine wait_at pv κ 0 0 (mayWait_none c 0) 8 (by decide) (ne_iff c ⟨8, by decide⟩) (fun _ => sem_own 0 ⟨8, by decide⟩ rfl) (fun _ => amount_pseg _ _) ?_
  refine wait_at pv κ 0 0 (mayWait_none c 0) 9 (by decide) (ne_iff c ⟨9, by decide⟩) (fun _ => sem_own 0 ⟨9, by decide⟩ rfl) (fun _ => amount_pseg _ _) ?_
  refine wait_at pv κ 0 0 (mayWait_none c 0) 10 (by decide) (ne_iff c ⟨10, by decide⟩) (fun _ => sem_own 0 ⟨10, by decide⟩ rfl) (fun _ => amount_pseg _ _) ?_
  refine wait_at pv κ 0 0 (mayWait_none c 0) 11 (by decide) (ne_iff c ⟨11, by decide⟩) (fun _ => sem_own 0 ⟨11, by decide⟩ rfl) (fun _ => amount_pseg _ _) ?_
  refine wait_at pv κ 0 0 (mayWait_none c 0) 12 (by decide) (ne_iff c ⟨12, by decide⟩) (fun _ => sem_own 0 ⟨12, by decide⟩ rfl) (fun _ => amount_pseg _ _) ?_
  refine wait_at pv κ 0 0 (mayWait_none c 0) 13 (by decide) (ne_iff c ⟨13, by decide⟩) (fun _ => sem_own 0 ⟨13, by decide⟩ rfl) (fun _ => amount_pseg _ _) ?_
  refine wait_at pv κ 0 0 (mayWait_none c 0) 14 (by decide) (ne_iff c ⟨14, by decide⟩) (fun _ => sem_own 0 ⟨14, by decide⟩ rfl) (fun _ => amount_pseg _ _) ?_
  exact Runs.pure _ _

theorem part31_run : Runs c iprop(Wait pv κ 0 0 c 15 ∗ R) (k0_part31_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 15#32 : BitVec 1) : BitVec 32) (0#32 : BitVec 32)) iprop(Wait pv κ 0 0 c 24 ∗ R) (Scalar.cmpi .ne (meWord c) 24#32 : BitVec 1) := by
  unfold k0_part31_skel
  refine wait_at pv κ 0 0 (mayWait_none c 0) 15 (by decide) (ne_iff c ⟨15, by decide⟩) (fun _ => sem_own 0 ⟨15, by decide⟩ rfl) (fun _ => amount_pseg _ _) ?_
  refine wait_at pv κ 0 0 (mayWait_none c 0) 16 (by decide) (ne_iff c ⟨16, by decide⟩) (fun _ => sem_own 0 ⟨16, by decide⟩ rfl) (fun _ => amount_pseg _ _) ?_
  refine wait_at pv κ 0 0 (mayWait_none c 0) 17 (by decide) (ne_iff c ⟨17, by decide⟩) (fun _ => sem_own 0 ⟨17, by decide⟩ rfl) (fun _ => amount_pseg _ _) ?_
  refine wait_at pv κ 0 0 (mayWait_none c 0) 18 (by decide) (ne_iff c ⟨18, by decide⟩) (fun _ => sem_own 0 ⟨18, by decide⟩ rfl) (fun _ => amount_pseg _ _) ?_
  refine wait_at pv κ 0 0 (mayWait_none c 0) 19 (by decide) (ne_iff c ⟨19, by decide⟩) (fun _ => sem_own 0 ⟨19, by decide⟩ rfl) (fun _ => amount_pseg _ _) ?_
  refine wait_at pv κ 0 0 (mayWait_none c 0) 20 (by decide) (ne_iff c ⟨20, by decide⟩) (fun _ => sem_own 0 ⟨20, by decide⟩ rfl) (fun _ => amount_pseg _ _) ?_
  refine wait_at pv κ 0 0 (mayWait_none c 0) 21 (by decide) (ne_iff c ⟨21, by decide⟩) (fun _ => sem_own 0 ⟨21, by decide⟩ rfl) (fun _ => amount_pseg _ _) ?_
  refine wait_at pv κ 0 0 (mayWait_none c 0) 22 (by decide) (ne_iff c ⟨22, by decide⟩) (fun _ => sem_own 0 ⟨22, by decide⟩ rfl) (fun _ => amount_pseg _ _) ?_
  refine wait_at pv κ 0 0 (mayWait_none c 0) 23 (by decide) (ne_iff c ⟨23, by decide⟩) (fun _ => sem_own 0 ⟨23, by decide⟩ rfl) (fun _ => amount_pseg _ _) ?_
  exact Runs.pure _ _

theorem part32_run : Runs c iprop(Wait pv κ 0 0 c 24 ∗ R) (k0_part32_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.cmpi .ne (meWord c) 24#32 : BitVec 1)) iprop(Wait pv κ 0 0 c 32 ∗ R) (Scalar.extui (Scalar.cmpi .ne (meWord c) 0#32 : BitVec 1) : BitVec 32) := by
  unfold k0_part32_skel
  refine wait_at pv κ 0 0 (mayWait_none c 0) 24 (by decide) (ne_iff c ⟨24, by decide⟩) (fun _ => sem_own 0 ⟨24, by decide⟩ rfl) (fun _ => amount_pseg _ _) ?_
  refine wait_at pv κ 0 0 (mayWait_none c 0) 25 (by decide) (ne_iff c ⟨25, by decide⟩) (fun _ => sem_own 0 ⟨25, by decide⟩ rfl) (fun _ => amount_pseg _ _) ?_
  refine wait_at pv κ 0 0 (mayWait_none c 0) 26 (by decide) (ne_iff c ⟨26, by decide⟩) (fun _ => sem_own 0 ⟨26, by decide⟩ rfl) (fun _ => amount_pseg _ _) ?_
  refine wait_at pv κ 0 0 (mayWait_none c 0) 27 (by decide) (ne_iff c ⟨27, by decide⟩) (fun _ => sem_own 0 ⟨27, by decide⟩ rfl) (fun _ => amount_pseg _ _) ?_
  refine wait_at pv κ 0 0 (mayWait_none c 0) 28 (by decide) (ne_iff c ⟨28, by decide⟩) (fun _ => sem_own 0 ⟨28, by decide⟩ rfl) (fun _ => amount_pseg _ _) ?_
  refine wait_at pv κ 0 0 (mayWait_none c 0) 29 (by decide) (ne_iff c ⟨29, by decide⟩) (fun _ => sem_own 0 ⟨29, by decide⟩ rfl) (fun _ => amount_pseg _ _) ?_
  refine wait_at pv κ 0 0 (mayWait_none c 0) 30 (by decide) (ne_iff c ⟨30, by decide⟩) (fun _ => sem_own 0 ⟨30, by decide⟩ rfl) (fun _ => amount_pseg _ _) ?_
  refine wait_at pv κ 0 0 (mayWait_none c 0) 31 (by decide) (ne_iff c ⟨31, by decide⟩) (fun _ => sem_own 0 ⟨31, by decide⟩ rfl) (fun _ => amount_pseg _ _) ?_
  exact Runs.pure _ _

theorem part33_run : Runs c iprop(Wait pv κ 3 0 c 0 ∗ R) (k0_part33_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c) (Scalar.extui (Scalar.cmpi .ne (meWord c) 0#32 : BitVec 1) : BitVec 32)) iprop(Wait pv κ 3 0 c 7 ∗ R) (Scalar.extui (Scalar.cmpi .ne (meWord c) 7#32 : BitVec 1) : BitVec 32) := by
  unfold k0_part33_skel
  refine wait_at pv κ 3 0 (mayWait_none c 3) 0 (by decide) (ne_iff c ⟨0, by decide⟩) (fun _ => sem_own 3 ⟨0, by decide⟩ rfl) (fun _ => amount_oseg _ _) ?_
  refine wait_at pv κ 3 0 (mayWait_none c 3) 1 (by decide) (ne_iff c ⟨1, by decide⟩) (fun _ => sem_own 3 ⟨1, by decide⟩ rfl) (fun _ => amount_oseg _ _) ?_
  refine wait_at pv κ 3 0 (mayWait_none c 3) 2 (by decide) (ne_iff c ⟨2, by decide⟩) (fun _ => sem_own 3 ⟨2, by decide⟩ rfl) (fun _ => amount_oseg _ _) ?_
  refine wait_at pv κ 3 0 (mayWait_none c 3) 3 (by decide) (ne_iff c ⟨3, by decide⟩) (fun _ => sem_own 3 ⟨3, by decide⟩ rfl) (fun _ => amount_oseg _ _) ?_
  refine wait_at pv κ 3 0 (mayWait_none c 3) 4 (by decide) (ne_iff c ⟨4, by decide⟩) (fun _ => sem_own 3 ⟨4, by decide⟩ rfl) (fun _ => amount_oseg _ _) ?_
  refine wait_at pv κ 3 0 (mayWait_none c 3) 5 (by decide) (ne_iff c ⟨5, by decide⟩) (fun _ => sem_own 3 ⟨5, by decide⟩ rfl) (fun _ => amount_oseg _ _) ?_
  refine wait_at pv κ 3 0 (mayWait_none c 3) 6 (by decide) (ne_iff c ⟨6, by decide⟩) (fun _ => sem_own 3 ⟨6, by decide⟩ rfl) (fun _ => amount_oseg _ _) ?_
  exact Runs.pure _ _

theorem part34_run : Runs c iprop(Wait pv κ 3 0 c 7 ∗ R) (k0_part34_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c) (Scalar.extui (Scalar.cmpi .ne (meWord c) 7#32 : BitVec 1) : BitVec 32)) iprop(Wait pv κ 3 0 c 14 ∗ R) ⟨⟩ := by
  unfold k0_part34_skel
  refine wait_at pv κ 3 0 (mayWait_none c 3) 7 (by decide) (ne_iff c ⟨7, by decide⟩) (fun _ => sem_own 3 ⟨7, by decide⟩ rfl) (fun _ => amount_oseg _ _) ?_
  refine wait_at pv κ 3 0 (mayWait_none c 3) 8 (by decide) (ne_iff c ⟨8, by decide⟩) (fun _ => sem_own 3 ⟨8, by decide⟩ rfl) (fun _ => amount_oseg _ _) ?_
  refine wait_at pv κ 3 0 (mayWait_none c 3) 9 (by decide) (ne_iff c ⟨9, by decide⟩) (fun _ => sem_own 3 ⟨9, by decide⟩ rfl) (fun _ => amount_oseg _ _) ?_
  refine wait_at pv κ 3 0 (mayWait_none c 3) 10 (by decide) (ne_iff c ⟨10, by decide⟩) (fun _ => sem_own 3 ⟨10, by decide⟩ rfl) (fun _ => amount_oseg _ _) ?_
  refine wait_at pv κ 3 0 (mayWait_none c 3) 11 (by decide) (ne_iff c ⟨11, by decide⟩) (fun _ => sem_own 3 ⟨11, by decide⟩ rfl) (fun _ => amount_oseg _ _) ?_
  refine wait_at pv κ 3 0 (mayWait_none c 3) 12 (by decide) (ne_iff c ⟨12, by decide⟩) (fun _ => sem_own 3 ⟨12, by decide⟩ rfl) (fun _ => amount_oseg _ _) ?_
  refine wait_at pv κ 3 0 (mayWait_none c 3) 13 (by decide) (ne_iff c ⟨13, by decide⟩) (fun _ => sem_own 3 ⟨13, by decide⟩ rfl) (fun _ => amount_oseg _ _) ?_
  exact Runs.pure _ _

theorem part35_run : Runs c iprop(Wait pv κ 3 0 c 14 ∗ R) (k0_part35_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c)) iprop(Wait pv κ 3 0 c 20 ∗ R) (Scalar.extui (Scalar.cmpi .ne (meWord c) 20#32 : BitVec 1) : BitVec 32) := by
  unfold k0_part35_skel
  refine wait_at pv κ 3 0 (mayWait_none c 3) 14 (by decide) (ne_iff c ⟨14, by decide⟩) (fun _ => sem_own 3 ⟨14, by decide⟩ rfl) (fun _ => amount_oseg _ _) ?_
  refine wait_at pv κ 3 0 (mayWait_none c 3) 15 (by decide) (ne_iff c ⟨15, by decide⟩) (fun _ => sem_own 3 ⟨15, by decide⟩ rfl) (fun _ => amount_oseg _ _) ?_
  refine wait_at pv κ 3 0 (mayWait_none c 3) 16 (by decide) (ne_iff c ⟨16, by decide⟩) (fun _ => sem_own 3 ⟨16, by decide⟩ rfl) (fun _ => amount_oseg _ _) ?_
  refine wait_at pv κ 3 0 (mayWait_none c 3) 17 (by decide) (ne_iff c ⟨17, by decide⟩) (fun _ => sem_own 3 ⟨17, by decide⟩ rfl) (fun _ => amount_oseg _ _) ?_
  refine wait_at pv κ 3 0 (mayWait_none c 3) 18 (by decide) (ne_iff c ⟨18, by decide⟩) (fun _ => sem_own 3 ⟨18, by decide⟩ rfl) (fun _ => amount_oseg _ _) ?_
  refine wait_at pv κ 3 0 (mayWait_none c 3) 19 (by decide) (ne_iff c ⟨19, by decide⟩) (fun _ => sem_own 3 ⟨19, by decide⟩ rfl) (fun _ => amount_oseg _ _) ?_
  exact Runs.pure _ _

theorem part36_run : Runs c iprop(Wait pv κ 3 0 c 20 ∗ R) (k0_part36_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 (meWord c) (Scalar.extui (Scalar.cmpi .ne (meWord c) 20#32 : BitVec 1) : BitVec 32)) iprop(Wait pv κ 3 0 c 27 ∗ R) (Scalar.extui (Scalar.cmpi .ne (meWord c) 27#32 : BitVec 1) : BitVec 32) := by
  unfold k0_part36_skel
  refine wait_at pv κ 3 0 (mayWait_none c 3) 20 (by decide) (ne_iff c ⟨20, by decide⟩) (fun _ => sem_own 3 ⟨20, by decide⟩ rfl) (fun _ => amount_oseg _ _) ?_
  refine wait_at pv κ 3 0 (mayWait_none c 3) 21 (by decide) (ne_iff c ⟨21, by decide⟩) (fun _ => sem_own 3 ⟨21, by decide⟩ rfl) (fun _ => amount_oseg _ _) ?_
  refine wait_at pv κ 3 0 (mayWait_none c 3) 22 (by decide) (ne_iff c ⟨22, by decide⟩) (fun _ => sem_own 3 ⟨22, by decide⟩ rfl) (fun _ => amount_oseg _ _) ?_
  refine wait_at pv κ 3 0 (mayWait_none c 3) 23 (by decide) (ne_iff c ⟨23, by decide⟩) (fun _ => sem_own 3 ⟨23, by decide⟩ rfl) (fun _ => amount_oseg _ _) ?_
  refine wait_at pv κ 3 0 (mayWait_none c 3) 24 (by decide) (ne_iff c ⟨24, by decide⟩) (fun _ => sem_own 3 ⟨24, by decide⟩ rfl) (fun _ => amount_oseg _ _) ?_
  refine wait_at pv κ 3 0 (mayWait_none c 3) 25 (by decide) (ne_iff c ⟨25, by decide⟩) (fun _ => sem_own 3 ⟨25, by decide⟩ rfl) (fun _ => amount_oseg _ _) ?_
  refine wait_at pv κ 3 0 (mayWait_none c 3) 26 (by decide) (ne_iff c ⟨26, by decide⟩) (fun _ => sem_own 3 ⟨26, by decide⟩ rfl) (fun _ => amount_oseg _ _) ?_
  exact Runs.pure _ _

theorem part38_run : Runs c iprop(Wait pv κ 2 0 c 1 ∗ R) (k0_part38_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 1#32 : BitVec 1) : BitVec 32)) iprop(Wait pv κ 2 0 c 10 ∗ R) 10#32 := by
  unfold k0_part38_skel
  refine wait_at pv κ 2 0 (mayWait_none c 2) 1 (by decide) (ne_iff c ⟨1, by decide⟩) (fun _ => sem_own 2 ⟨1, by decide⟩ rfl) (fun _ => rfl) ?_
  refine wait_at pv κ 2 0 (mayWait_none c 2) 2 (by decide) (ne_iff c ⟨2, by decide⟩) (fun _ => sem_own 2 ⟨2, by decide⟩ rfl) (fun _ => rfl) ?_
  refine wait_at pv κ 2 0 (mayWait_none c 2) 3 (by decide) (ne_iff c ⟨3, by decide⟩) (fun _ => sem_own 2 ⟨3, by decide⟩ rfl) (fun _ => rfl) ?_
  refine wait_at pv κ 2 0 (mayWait_none c 2) 4 (by decide) (ne_iff c ⟨4, by decide⟩) (fun _ => sem_own 2 ⟨4, by decide⟩ rfl) (fun _ => rfl) ?_
  refine wait_at pv κ 2 0 (mayWait_none c 2) 5 (by decide) (ne_iff c ⟨5, by decide⟩) (fun _ => sem_own 2 ⟨5, by decide⟩ rfl) (fun _ => rfl) ?_
  refine wait_at pv κ 2 0 (mayWait_none c 2) 6 (by decide) (ne_iff c ⟨6, by decide⟩) (fun _ => sem_own 2 ⟨6, by decide⟩ rfl) (fun _ => rfl) ?_
  refine wait_at pv κ 2 0 (mayWait_none c 2) 7 (by decide) (ne_iff c ⟨7, by decide⟩) (fun _ => sem_own 2 ⟨7, by decide⟩ rfl) (fun _ => rfl) ?_
  refine wait_at pv κ 2 0 (mayWait_none c 2) 8 (by decide) (ne_iff c ⟨8, by decide⟩) (fun _ => sem_own 2 ⟨8, by decide⟩ rfl) (fun _ => rfl) ?_
  refine wait_at pv κ 2 0 (mayWait_none c 2) 9 (by decide) (ne_iff c ⟨9, by decide⟩) (fun _ => sem_own 2 ⟨9, by decide⟩ rfl) (fun _ => rfl) ?_
  exact Runs.pure _ _

theorem part39_run : Runs c iprop(Wait pv κ 2 0 c 10 ∗ R) (k0_part39_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (10#32 : BitVec 32)) iprop(Wait pv κ 2 0 c 18 ∗ R) ⟨(Scalar.extui (Scalar.cmpi .ne (meWord c) 18#32 : BitVec 1) : BitVec 32), 0#32⟩ := by
  unfold k0_part39_skel
  refine wait_at pv κ 2 0 (mayWait_none c 2) 10 (by decide) (ne_iff c ⟨10, by decide⟩) (fun _ => sem_own 2 ⟨10, by decide⟩ rfl) (fun _ => rfl) ?_
  refine wait_at pv κ 2 0 (mayWait_none c 2) 11 (by decide) (ne_iff c ⟨11, by decide⟩) (fun _ => sem_own 2 ⟨11, by decide⟩ rfl) (fun _ => rfl) ?_
  refine wait_at pv κ 2 0 (mayWait_none c 2) 12 (by decide) (ne_iff c ⟨12, by decide⟩) (fun _ => sem_own 2 ⟨12, by decide⟩ rfl) (fun _ => rfl) ?_
  refine wait_at pv κ 2 0 (mayWait_none c 2) 13 (by decide) (ne_iff c ⟨13, by decide⟩) (fun _ => sem_own 2 ⟨13, by decide⟩ rfl) (fun _ => rfl) ?_
  refine wait_at pv κ 2 0 (mayWait_none c 2) 14 (by decide) (ne_iff c ⟨14, by decide⟩) (fun _ => sem_own 2 ⟨14, by decide⟩ rfl) (fun _ => rfl) ?_
  refine wait_at pv κ 2 0 (mayWait_none c 2) 15 (by decide) (ne_iff c ⟨15, by decide⟩) (fun _ => sem_own 2 ⟨15, by decide⟩ rfl) (fun _ => rfl) ?_
  refine wait_at pv κ 2 0 (mayWait_none c 2) 16 (by decide) (ne_iff c ⟨16, by decide⟩) (fun _ => sem_own 2 ⟨16, by decide⟩ rfl) (fun _ => rfl) ?_
  refine wait_at pv κ 2 0 (mayWait_none c 2) 17 (by decide) (ne_iff c ⟨17, by decide⟩) (fun _ => sem_own 2 ⟨17, by decide⟩ rfl) (fun _ => rfl) ?_
  exact Runs.pure _ _

theorem part40_run : Runs c iprop(Wait pv κ 2 0 c 18 ∗ R) (k0_part40_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 18#32 : BitVec 1) : BitVec 32) (0#32 : BitVec 32)) iprop(Wait pv κ 2 0 c 27 ∗ R) (Scalar.cmpi .ne (meWord c) 27#32 : BitVec 1) := by
  unfold k0_part40_skel
  refine wait_at pv κ 2 0 (mayWait_none c 2) 18 (by decide) (ne_iff c ⟨18, by decide⟩) (fun _ => sem_own 2 ⟨18, by decide⟩ rfl) (fun _ => rfl) ?_
  refine wait_at pv κ 2 0 (mayWait_none c 2) 19 (by decide) (ne_iff c ⟨19, by decide⟩) (fun _ => sem_own 2 ⟨19, by decide⟩ rfl) (fun _ => rfl) ?_
  refine wait_at pv κ 2 0 (mayWait_none c 2) 20 (by decide) (ne_iff c ⟨20, by decide⟩) (fun _ => sem_own 2 ⟨20, by decide⟩ rfl) (fun _ => rfl) ?_
  refine wait_at pv κ 2 0 (mayWait_none c 2) 21 (by decide) (ne_iff c ⟨21, by decide⟩) (fun _ => sem_own 2 ⟨21, by decide⟩ rfl) (fun _ => rfl) ?_
  refine wait_at pv κ 2 0 (mayWait_none c 2) 22 (by decide) (ne_iff c ⟨22, by decide⟩) (fun _ => sem_own 2 ⟨22, by decide⟩ rfl) (fun _ => rfl) ?_
  refine wait_at pv κ 2 0 (mayWait_none c 2) 23 (by decide) (ne_iff c ⟨23, by decide⟩) (fun _ => sem_own 2 ⟨23, by decide⟩ rfl) (fun _ => rfl) ?_
  refine wait_at pv κ 2 0 (mayWait_none c 2) 24 (by decide) (ne_iff c ⟨24, by decide⟩) (fun _ => sem_own 2 ⟨24, by decide⟩ rfl) (fun _ => rfl) ?_
  refine wait_at pv κ 2 0 (mayWait_none c 2) 25 (by decide) (ne_iff c ⟨25, by decide⟩) (fun _ => sem_own 2 ⟨25, by decide⟩ rfl) (fun _ => rfl) ?_
  refine wait_at pv κ 2 0 (mayWait_none c 2) 26 (by decide) (ne_iff c ⟨26, by decide⟩) (fun _ => sem_own 2 ⟨26, by decide⟩ rfl) (fun _ => rfl) ?_
  exact Runs.pure _ _

end Cert.KernelIdeal.Mha

end
-- ==== Proof.Mixed.lean ====
/-
  The parts of the program in which one pass ends and another begins, with the local copies and the sum of the received blocks between them.
-/
module

public import proofs.«01_k».proof.Proof.Buffers

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

variable (pv : Dev nD → Vec F S256x512 .f32) (κ : GSem nD τ sig → ℕ)
variable {c : Dev nD} {R : sProp (MT nD τ sig Unit (Elt F) ℕ UU ℕ)}

theorem part19_run : Runs c iprop(Send1 pv κ c 30 ∗ ((copyA pv κ 0 c ∗ bigSep (others c) (waitA pv κ 1 c)) ∗ R)) (k0_part19_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (30#32 : BitVec 32))
    iprop(Wait pv κ 1 (owe2 c) c 3 ∗ ((cred (tallyAt (cCell 0 c) () N) ∗ bigSep (others c) (sendB 0 c)) ∗ R)) ⟨(Scalar.extui (Scalar.cmpi .ne (meWord c) 3#32 : BitVec 1) : BitVec 32), 0#32⟩ := by
  unfold k0_part19_skel
  refine send1_at pv κ 30 (by decide) (ne_iff c ⟨30, by decide⟩) k0_dev63_eq (fun _ => sem_own 0 ⟨30, by decide⟩ rfl) (fun _ => sem_own 1 c (off_sem c)) (fun _ => partAt_eq ⟨30, by decide⟩ rfl) (fun _ => rsAt_eq c (off_slot c)) ?_
  refine send1_at pv κ 31 (by decide) (ne_iff c ⟨31, by decide⟩) k0_dev64_eq (fun _ => sem_own 0 ⟨31, by decide⟩ rfl) (fun _ => sem_own 1 c (off_sem c)) (fun _ => partAt_eq ⟨31, by decide⟩ rfl) (fun _ => rsAt_eq c (off_slot c)) ?_
  refine Runs.pre Pass.turn ?_
  refine Runs.bind (Runs.frm _ (copy0_run pv κ (sem_copy 0 rfl) (partAt_eq c (off_part c)) (rsAt_eq c (off_slot c)))) ?_
  refine Runs.pre (Pass.turned (B := waitB pv 1 c)) ?_
  refine wait_at pv κ 1 (owe2 c) (mayWait_recv1 c) 0 (by decide) (ne_iff c ⟨0, by decide⟩) (fun _ => sem_own 1 ⟨0, by decide⟩ rfl) (fun _ => amount_slot _ _) ?_
  refine wait_at pv κ 1 (owe2 c) (mayWait_recv1 c) 1 (by decide) (ne_iff c ⟨1, by decide⟩) (fun _ => sem_own 1 ⟨1, by decide⟩ rfl) (fun _ => amount_slot _ _) ?_
  refine wait_at pv κ 1 (owe2 c) (mayWait_recv1 c) 2 (by decide) (ne_iff c ⟨2, by decide⟩) (fun _ => sem_own 1 ⟨2, by decide⟩ rfl) (fun _ => amount_slot _ _) ?_
  exact Runs.pure _ _

theorem part29_run : Runs c iprop(Send2 pv κ c 31 ∗ ((copyA pv κ 1 c ∗ bigSep (others c) (waitA pv κ 0 c)) ∗ R)) (k0_part29_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 31#32 : BitVec 1) : BitVec 32))
    iprop(Wait pv κ 0 0 c 7 ∗ ((cred (tallyAt (cCell 1 c) () N) ∗ bigSep (others c) (sendB 2 c)) ∗ R)) 7#32 := by
  unfold k0_part29_skel
  refine send2_at pv κ 31 (by decide) (ne_iff c ⟨31, by decide⟩) k0_dev96_eq (fun _ => sem_own 2 ⟨31, by decide⟩ rfl) (fun _ => sem_own 3 c (off_sem c)) (fun _ => outAt_eq c (off_out c)) ?_
  refine Runs.pre Pass.turn ?_
  refine Runs.bind (Runs.frm _ (copy1_run pv κ (sem_copy 1 rfl) (outAt_eq c (off_out c)))) ?_
  refine Runs.pre (Pass.turned (B := waitB pv 0 c)) ?_
  refine wait_at pv κ 0 0 (mayWait_none c 0) 0 (by decide) (ne_iff c ⟨0, by decide⟩) (fun _ => sem_own 0 ⟨0, by decide⟩ rfl) (fun _ => amount_pseg _ _) ?_
  refine wait_at pv κ 0 0 (mayWait_none c 0) 1 (by decide) (ne_iff c ⟨1, by decide⟩) (fun _ => sem_own 0 ⟨1, by decide⟩ rfl) (fun _ => amount_pseg _ _) ?_
  refine wait_at pv κ 0 0 (mayWait_none c 0) 2 (by decide) (ne_iff c ⟨2, by decide⟩) (fun _ => sem_own 0 ⟨2, by decide⟩ rfl) (fun _ => amount_pseg _ _) ?_
  refine wait_at pv κ 0 0 (mayWait_none c 0) 3 (by decide) (ne_iff c ⟨3, by decide⟩) (fun _ => sem_own 0 ⟨3, by decide⟩ rfl) (fun _ => amount_pseg _ _) ?_
  refine wait_at pv κ 0 0 (mayWait_none c 0) 4 (by decide) (ne_iff c ⟨4, by decide⟩) (fun _ => sem_own 0 ⟨4, by decide⟩ rfl) (fun _ => amount_pseg _ _) ?_
  refine wait_at pv κ 0 0 (mayWait_none c 0) 5 (by decide) (ne_iff c ⟨5, by decide⟩) (fun _ => sem_own 0 ⟨5, by decide⟩ rfl) (fun _ => amount_pseg _ _) ?_
  refine wait_at pv κ 0 0 (mayWait_none c 0) 6 (by decide) (ne_iff c ⟨6, by decide⟩) (fun _ => sem_own 0 ⟨6, by decide⟩ rfl) (fun _ => amount_pseg _ _) ?_
  exact Runs.pure _ _

theorem part37_run : Runs c iprop(Wait pv κ 3 0 c 27 ∗ ((copyWaitA pv κ 1 c ∗ bigSep (others c) (waitA pv κ 2 c)) ∗ R)) (k0_part37_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 27#32 : BitVec 1) : BitVec 32))
    iprop(Wait pv κ 2 0 c 1 ∗ ((copyWaitB pv 1 c ∗ bigSep (others c) (waitB pv 3 c)) ∗ R)) (Scalar.extui (Scalar.cmpi .ne (meWord c) 1#32 : BitVec 1) : BitVec 32) := by
  unfold k0_part37_skel
  refine wait_at pv κ 3 0 (mayWait_none c 3) 27 (by decide) (ne_iff c ⟨27, by decide⟩) (fun _ => sem_own 3 ⟨27, by decide⟩ rfl) (fun _ => amount_oseg _ _) ?_
  refine wait_at pv κ 3 0 (mayWait_none c 3) 28 (by decide) (ne_iff c ⟨28, by decide⟩) (fun _ => sem_own 3 ⟨28, by decide⟩ rfl) (fun _ => amount_oseg _ _) ?_
  refine wait_at pv κ 3 0 (mayWait_none c 3) 29 (by decide) (ne_iff c ⟨29, by decide⟩) (fun _ => sem_own 3 ⟨29, by decide⟩ rfl) (fun _ => amount_oseg _ _) ?_
  refine wait_at pv κ 3 0 (mayWait_none c 3) 30 (by decide) (ne_iff c ⟨30, by decide⟩) (fun _ => sem_own 3 ⟨30, by decide⟩ rfl) (fun _ => amount_oseg _ _) ?_
  refine wait_at pv κ 3 0 (mayWait_none c 3) 31 (by decide) (ne_iff c ⟨31, by decide⟩) (fun _ => sem_own 3 ⟨31, by decide⟩ rfl) (fun _ => amount_oseg _ _) ?_
  refine Runs.pre Pass.leave ?_
  refine Runs.bind (Runs.frm _ (copyWait_run pv κ 1 0 (mayWait_none' c 1) (sem_copy 1 rfl) (amount_oseg _ _))) ?_
  refine Runs.pre (Pass.enter (B := waitB pv 2 c)) ?_
  refine wait_at pv κ 2 0 (mayWait_none c 2) 0 (by decide) (ne_iff c ⟨0, by decide⟩) (fun _ => sem_own 2 ⟨0, by decide⟩ rfl) (fun _ => rfl) ?_
  exact Runs.pure _ _

/-- The last waits of the first exchange; the sum of the blocks received. -/
theorem part24_run : Runs c iprop(Wait pv κ 1 (owe2 c) c 30 ∗ ((copyWaitA pv κ 0 c ∗ ∃ f, stgPt c f) ∗ R)) (k0_part24_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (meWord c) (Scalar.extui (Scalar.cmpi .ne (meWord c) 30#32 : BitVec 1) : BitVec 32)) iprop(summed pv c ∗ R) ⟨⟩ := by
  unfold k0_part24_skel
  refine wait_at pv κ 1 (owe2 c) (mayWait_recv1 c) 30 (by decide) (ne_iff c ⟨30, by decide⟩) (fun _ => sem_own 1 ⟨30, by decide⟩ rfl) (fun _ => amount_slot _ _) ?_
  refine wait_at pv κ 1 (owe2 c) (mayWait_recv1 c) 31 (by decide) (ne_iff c ⟨31, by decide⟩) (fun _ => sem_own 1 ⟨31, by decide⟩ rfl) (fun _ => amount_slot _ _) ?_
  refine Runs.pre Pass.leave ?_
  refine Runs.bind (Runs.frm _ (copyWait_run pv κ 0 (owe2 c) (mayWait_copy0 c) (sem_copy 0 rfl) (amount_slot _ _))) ?_
  refine Runs.pre (received pv) ?_
  refine Runs.bind (Runs.frm _ (rs_load _)) ?_
  refine Runs.pre sep_left_comm.1 ?_
  refine Runs.exL fun f => ?_
  refine Runs.dead stM Finset.univ fullShare f (Finset.subset_univ _) fun _ => ?_
  refine Runs.bind (Runs.frm _ (stg_store f _)) ?_
  refine Runs.pre (summed_intro pv) ?_
  exact Runs.pure _ _

end Cert.KernelIdeal.Mha

end
-- ==== Proof.Body.lean ====
/-
  The whole program of a device: what it holds at its start, between the passes, and at its end.
-/
module

public import proofs.«01_k».proof.Proof.Compute
public import proofs.«01_k».proof.Proof.Sends
public import proofs.«01_k».proof.Proof.Waits
public import proofs.«01_k».proof.Proof.Mixed

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

variable (pv : Dev nD → Vec F S256x512 .f32) (κ : GSem nD τ sig → ℕ)
variable {c : Dev nD} {R : sProp (MT nD τ sig Unit (Elt F) ℕ UU ℕ)}

variable (D : Opnds F)

/-- What a copy of the second exchange needs besides its source and its place. -/
def send2R (c j : Dev nD) : sProp 𝕄 :=
  iprop(inv pv κ (sCell 2 c j) ∗ inv pv κ (sCell 3 j c) ∗ dutyTok ER (sCell 2 c j) 0 0 ∗ reached ER (sCell 2 c j) 0 ∗ dutyTok ER (sCell 3 j c) 0 0)
/-- What a local copy needs besides its source and its place, and what waiting for it needs besides its credit. -/
def copyR (i : Fin 2) (c : Dev nD) : sProp 𝕄 := iprop(inv pv κ (cCell i c) ∗ dutyTok ER (cCell i c) 0 0 ∗ reached ER (cCell i c) 0)
def copyP (i : Fin 2) (c : Dev nD) : sProp 𝕄 := iprop(inv pv κ (cCell i c) ∗ atPos ER (cCell i c) 0 ∅ 0 ∗ levAts L lv)
/-- What a wait needs besides its credit. -/
def waitP (a : Fin 4) (c j : Dev nD) : sProp 𝕄 := iprop(inv pv κ (sCell a c j) ∗ atPos ER (sCell a c j) 0 ∅ 0 ∗ levAts L lv)

theorem copyA0_intro : iprop(copyR pv κ 0 c ∗ psegPt c c (pv c) ∗ ∃ f, slotPt c c f) ⊢ copyA pv κ 0 c := by
  unfold copyR copyA copyPre
  iintro ⟨⟨HI, HT, HR⟩, Hp, Hs⟩
  isplitl [HI]; · iexact HI
  isplitl [Hp Hs]
  · isplitl [Hp]; · iexact Hp
    iexact Hs
  isplitl [HT]; · iexact HT
  iexact HR
theorem copyA1_intro : iprop(copyR pv κ 1 c ∗ stPt c (leafOf c) (stV pv c) ∗ ∃ f, osegPt c c f) ⊢ copyA pv κ 1 c := by
  unfold copyR copyA copyPre
  iintro ⟨⟨HI, HT, HR⟩, Hp, Hs⟩
  isplitl [HI]; · iexact HI
  isplitl [Hp Hs]
  · isplitl [Hp]; · iexact Hp
    iexact Hs
  isplitl [HT]; · iexact HT
  iexact HR
theorem copyW_intro (i : Fin 2) : iprop(copyP pv κ i c ∗ cred (tallyAt (cCell i c) () N)) ⊢ copyWaitA pv κ i c := by
  unfold copyP copyWaitA
  iintro ⟨⟨HI, Ha, Hl⟩, Hc⟩
  isplitl [HI]; · iexact HI
  isplitl [Hc]; · iexact Hc
  isplitl [Ha]; · iexact Ha
  iexact Hl
theorem waitA_intro (a : Fin 4) : iprop(bigSep (others c) (waitP pv κ a c) ∗ bigSep (others c) (sendB a c)) ⊢ bigSep (others c) (waitA pv κ a c) := by
  have e : bigSep (others c) (fun j => iprop(waitP pv κ a c j ∗ sendB a c j)) = iprop(bigSep (others c) (waitP pv κ a c) ∗ bigSep (others c) (sendB a c)) := bigSep_sep _ _ _
  rw [← e]
  refine bigSep_mono fun j _ => ?_
  show iprop((inv pv κ (sCell a c j) ∗ atPos ER (sCell a c j) 0 ∅ 0 ∗ levAts L lv) ∗ cred (tallyAt (sCell a c j) () N)) ⊢ waitA pv κ a c j
  unfold waitA
  iintro ⟨⟨HI, Ha, Hl⟩, Hc⟩
  isplitl [HI]; · iexact HI
  isplitl [Hc]; · iexact Hc
  isplitl [Ha]; · iexact Ha
  iexact Hl
theorem send2_all : iprop(bigSep (others c) (send2R pv κ c) ∗ bigSep (others c) (fun j => stPt c (leafOf j) (stV pv c)) ∗ bigSep (others c) (send2P c))
    ⊢ bigSep (others c) (send2A pv κ c) := by
  have e : bigSep (others c) (fun j => iprop(stPt c (leafOf j) (stV pv c) ∗ send2P c j)) = iprop(bigSep (others c) (fun j => stPt c (leafOf j) (stV pv c)) ∗ bigSep (others c) (send2P c)) := bigSep_sep _ _ _
  have e' : bigSep (others c) (fun j => iprop(send2R pv κ c j ∗ stPt c (leafOf j) (stV pv c) ∗ send2P c j))
    = iprop(bigSep (others c) (send2R pv κ c) ∗ bigSep (others c) (fun j => iprop(stPt c (leafOf j) (stV pv c) ∗ send2P c j))) := bigSep_sep _ _ _
  rw [← e, ← e']
  refine bigSep_mono fun j _ => ?_
  show iprop(send2R pv κ c j ∗ ownPay pv 2 c j ∗ send2P c j) ⊢ send2A pv κ c j
  unfold send2R send2P send2A sendA
  iintro ⟨⟨HI, HI', HT, HR, HT'⟩, Hs, Ho, HR'⟩
  isplitl [HI]; · iexact HI
  isplitl [HI']; · iexact HI'
  isplitl [Hs]; · iexact Hs
  isplitl [Ho]; · iexact Ho
  isplitl [HT]; · iexact HT
  isplitl [HR]; · iexact HR
  isplitl [HT']; · iexact HT'
  iexact HR'
theorem Wait_last (a : Fin 4) : Wait pv κ a 0 c 32 ⊢ iprop(bigSep (others c) (waitB pv a c) ∗ due c 0) := Pass.last
theorem Wait_first (a : Fin 4) : iprop(bigSep (others c) (waitA pv κ a c) ∗ due c 0) ⊢ Wait pv κ a 0 c 0 := by
  refine BIBase.Entails.trans ?_ Pass.first
  rw [Finset.sum_const_zero, add_zero]
theorem Send2_first : iprop(bigSep (others c) (send2A pv κ c) ∗ due c (owe2 c)) ⊢ Send2 pv κ c 0 := by
  refine BIBase.Entails.trans ?_ Pass.first
  rw [zero_add]
  rfl

/-- What a device holds when its program begins. -/
def bodyPre (c : Dev nD) : sProp 𝕄 := iprop((bigSep (others c) (sigA pv κ c) ∗ due c (O₀ c)) ∗ (opPt c D ∗ ((∃ f, atPt c f) ∗ (∃ f, partPt c f) ∗ barA pv κ c ∗ bigSep (others c) (send1R pv κ c) ∗ (∃ f, stgPt c f) ∗ (∃ f, slotPt c c f) ∗ (∃ f, osegPt c c f) ∗ bigSep (others c) (send2R pv κ c) ∗ copyR pv κ 0 c ∗ copyR pv κ 1 c ∗ copyP pv κ 0 c ∗ copyP pv κ 1 c ∗ bigSep (others c) (waitA pv κ 1 c) ∗ bigSep (others c) (waitA pv κ 3 c) ∗ bigSep (others c) (waitP pv κ 0 c) ∗ bigSep (others c) (waitP pv κ 2 c))))
/-- What it holds when its program ends: all it has sent and received, every semaphore waited for. -/
def bodyPost (c : Dev nD) : sProp 𝕄 := iprop((due c 0 ∗ opPt c D ∗ atPt c (attnV D.q D.k D.v) ∗ partPt c (pv c) ∗ rsPt c (rsV pv c) ∗ stgPt c (stV pv c) ∗ outPt c (outV pv)) ∗ (atPos ER (barCell c) 1 ∅ 0 ∗ atPos ER (cCell 0 c) 1 ∅ 0 ∗ atPos ER (cCell 1 c) 1 ∅ 0 ∗ bigSep (others c) (fun j => atPos ER (sCell 0 c j) 1 ∅ 0) ∗ bigSep (others c) (fun j => atPos ER (sCell 1 c j) 1 ∅ 0) ∗ bigSep (others c) (fun j => atPos ER (sCell 2 c j) 1 ∅ 0) ∗ bigSep (others c) (fun j => atPos ER (sCell 3 c j) 1 ∅ 0)))

theorem stage_start : bodyPre pv κ D c ⊢ iprop(Signal pv κ c 0 ∗ (opPt c D ∗ ((∃ f, atPt c f) ∗ (∃ f, partPt c f) ∗ barA pv κ c ∗ bigSep (others c) (send1R pv κ c) ∗ (∃ f, stgPt c f) ∗ (∃ f, slotPt c c f) ∗ (∃ f, osegPt c c f) ∗ bigSep (others c) (send2R pv κ c) ∗ copyR pv κ 0 c ∗ copyR pv κ 1 c ∗ copyP pv κ 0 c ∗ copyP pv κ 1 c ∗ bigSep (others c) (waitA pv κ 1 c) ∗ bigSep (others c) (waitA pv κ 3 c) ∗ bigSep (others c) (waitP pv κ 0 c) ∗ bigSep (others c) (waitP pv κ 2 c)))) := sep_mono_left Pass.first

theorem stage_signalled : iprop(opPt c D ∗ (Signal pv κ c 32 ∗ ((∃ f, atPt c f) ∗ (∃ f, partPt c f) ∗ barA pv κ c ∗ bigSep (others c) (send1R pv κ c) ∗ (∃ f, stgPt c f) ∗ (∃ f, slotPt c c f) ∗ (∃ f, osegPt c c f) ∗ bigSep (others c) (send2R pv κ c) ∗ copyR pv κ 0 c ∗ copyR pv κ 1 c ∗ copyP pv κ 0 c ∗ copyP pv κ 1 c ∗ bigSep (others c) (waitA pv κ 1 c) ∗ bigSep (others c) (waitA pv κ 3 c) ∗ bigSep (others c) (waitP pv κ 0 c) ∗ bigSep (others c) (waitP pv κ 2 c))))
    ⊢ iprop(opPt c D ∗ (Done c D 0 ∗ (((∃ f, partPt c f) ∗ (barA pv κ c ∗ due c (owe1 c)) ∗ bigSep (others c) (send1R pv κ c)) ∗ ((∃ f, stgPt c f) ∗ (∃ f, slotPt c c f) ∗ (∃ f, osegPt c c f) ∗ bigSep (others c) (send2R pv κ c) ∗ copyR pv κ 0 c ∗ copyR pv κ 1 c ∗ copyP pv κ 0 c ∗ copyP pv κ 1 c ∗ bigSep (others c) (waitA pv κ 1 c) ∗ bigSep (others c) (waitA pv κ 3 c) ∗ bigSep (others c) (waitP pv κ 0 c) ∗ bigSep (others c) (waitP pv κ 2 c))))) := by
  iintro ⟨Hop, ⟨HSig32, ⟨HatE, HpartE, Hbar, Hs1R, HstgE, HslotE, HosegE, Hs2R, HcR0, HcR1, HcP0, HcP1, HwA1, HwA3, HwP0, HwP2⟩⟩⟩
  ihave Hl := (show Signal pv κ c 32 ⊢ iprop(bigSep (others c) (fun _ => iprop(emp)) ∗ due c (owe1 c)) from Pass.last) $$ HSig32
  icases Hl with ⟨-, Hdue1⟩
  ihave HDone0 := (Done.first c D) $$ [HatE]
  · iexact HatE
  isplitl [Hop]; · iexact Hop
  isplitl [HDone0]; · iexact HDone0
  isplitl [HpartE Hbar Hdue1 Hs1R]
  · isplitl [HpartE]; · iexact HpartE
    isplitl [Hbar Hdue1]
    · isplitl [Hbar]; · iexact Hbar
      iexact Hdue1
    iexact Hs1R
  isplitl [HstgE]; · iexact HstgE
  isplitl [HslotE]; · iexact HslotE
  isplitl [HosegE]; · iexact HosegE
  isplitl [Hs2R]; · iexact Hs2R
  isplitl [HcR0]; · iexact HcR0
  isplitl [HcR1]; · iexact HcR1
  isplitl [HcP0]; · iexact HcP0
  isplitl [HcP1]; · iexact HcP1
  isplitl [HwA1]; · iexact HwA1
  isplitl [HwA3]; · iexact HwA3
  isplitl [HwP0]; · iexact HwP0
  iexact HwP2

theorem stage_first : iprop(Send1 pv κ c 30 ∗ ((atPt c (attnV D.q D.k D.v) ∗ opPt c D ∗ psegPt c c (pv c) ∗ bigSep (others c) (send2P c) ∗ atPos ER (barCell c) 1 ∅ 0) ∗ ((∃ f, stgPt c f) ∗ (∃ f, slotPt c c f) ∗ (∃ f, osegPt c c f) ∗ bigSep (others c) (send2R pv κ c) ∗ copyR pv κ 0 c ∗ copyR pv κ 1 c ∗ copyP pv κ 0 c ∗ copyP pv κ 1 c ∗ bigSep (others c) (waitA pv κ 1 c) ∗ bigSep (others c) (waitA pv κ 3 c) ∗ bigSep (others c) (waitP pv κ 0 c) ∗ bigSep (others c) (waitP pv κ 2 c))))
    ⊢ iprop(Send1 pv κ c 30 ∗ ((copyA pv κ 0 c ∗ bigSep (others c) (waitA pv κ 1 c)) ∗ (atPt c (attnV D.q D.k D.v) ∗ opPt c D ∗ bigSep (others c) (send2P c) ∗ atPos ER (barCell c) 1 ∅ 0 ∗ (∃ f, stgPt c f) ∗ (∃ f, osegPt c c f) ∗ bigSep (others c) (send2R pv κ c) ∗ copyR pv κ 1 c ∗ copyP pv κ 0 c ∗ copyP pv κ 1 c ∗ bigSep (others c) (waitA pv κ 3 c) ∗ bigSep (others c) (waitP pv κ 0 c) ∗ bigSep (others c) (waitP pv κ 2 c)))) := by
  iintro ⟨HS1, ⟨⟨Hat, Hop, Hpcc, Hs2P, HaB⟩, ⟨HstgE, HslotE, HosegE, Hs2R, HcR0, HcR1, HcP0, HcP1, HwA1, HwA3, HwP0, HwP2⟩⟩⟩
  ihave HcopyA0 := (copyA0_intro pv κ) $$ [HcR0 Hpcc HslotE]
  · isplitl [HcR0]; · iexact HcR0
    isplitl [Hpcc]; · iexact Hpcc
    iexact HslotE
  isplitl [HS1]; · iexact HS1
  isplitl [HcopyA0 HwA1]
  · isplitl [HcopyA0]; · iexact HcopyA0
    iexact HwA1
  isplitl [Hat]; · iexact Hat
  isplitl [Hop]; · iexact Hop
  isplitl [Hs2P]; · iexact Hs2P
  isplitl [HaB]; · iexact HaB
  isplitl [HstgE]; · iexact HstgE
  isplitl [HosegE]; · iexact HosegE
  isplitl [Hs2R]; · iexact Hs2R
  isplitl [HcR1]; · iexact HcR1
  isplitl [HcP0]; · iexact HcP0
  isplitl [HcP1]; · iexact HcP1
  isplitl [HwA3]; · iexact HwA3
  isplitl [HwP0]; · iexact HwP0
  iexact HwP2

theorem stage_waiting : iprop(Wait pv κ 1 (owe2 c) c 30 ∗ ((cred (tallyAt (cCell 0 c) () N) ∗ bigSep (others c) (sendB 0 c)) ∗ (atPt c (attnV D.q D.k D.v) ∗ opPt c D ∗ bigSep (others c) (send2P c) ∗ atPos ER (barCell c) 1 ∅ 0 ∗ (∃ f, stgPt c f) ∗ (∃ f, osegPt c c f) ∗ bigSep (others c) (send2R pv κ c) ∗ copyR pv κ 1 c ∗ copyP pv κ 0 c ∗ copyP pv κ 1 c ∗ bigSep (others c) (waitA pv κ 3 c) ∗ bigSep (others c) (waitP pv κ 0 c) ∗ bigSep (others c) (waitP pv κ 2 c))))
    ⊢ iprop(Wait pv κ 1 (owe2 c) c 30 ∗ ((copyWaitA pv κ 0 c ∗ (∃ f, stgPt c f)) ∗ (bigSep (others c) (waitA pv κ 0 c) ∗ atPt c (attnV D.q D.k D.v) ∗ opPt c D ∗ bigSep (others c) (send2P c) ∗ atPos ER (barCell c) 1 ∅ 0 ∗ (∃ f, osegPt c c f) ∗ bigSep (others c) (send2R pv κ c) ∗ copyR pv κ 1 c ∗ copyP pv κ 1 c ∗ bigSep (others c) (waitA pv κ 3 c) ∗ bigSep (others c) (waitP pv κ 2 c)))) := by
  iintro ⟨HW1, ⟨⟨HcrC0, HsB0⟩, ⟨Hat, Hop, Hs2P, HaB, HstgE, HosegE, Hs2R, HcR1, HcP0, HcP1, HwA3, HwP0, HwP2⟩⟩⟩
  ihave HcW0 := (copyW_intro pv κ 0) $$ [HcP0 HcrC0]
  · isplitl [HcP0]; · iexact HcP0
    iexact HcrC0
  ihave HwA0 := (waitA_intro pv κ 0) $$ [HwP0 HsB0]
  · isplitl [HwP0]; · iexact HwP0
    iexact HsB0
  isplitl [HW1]; · iexact HW1
  isplitl [HcW0 HstgE]
  · isplitl [HcW0]; · iexact HcW0
    iexact HstgE
  isplitl [HwA0]; · iexact HwA0
  isplitl [Hat]; · iexact Hat
  isplitl [Hop]; · iexact Hop
  isplitl [Hs2P]; · iexact Hs2P
  isplitl [HaB]; · iexact HaB
  isplitl [HosegE]; · iexact HosegE
  isplitl [Hs2R]; · iexact Hs2R
  isplitl [HcR1]; · iexact HcR1
  isplitl [HcP1]; · iexact HcP1
  isplitl [HwA3]; · iexact HwA3
  iexact HwP2

theorem stage_second : iprop(summed pv c ∗ (bigSep (others c) (waitA pv κ 0 c) ∗ atPt c (attnV D.q D.k D.v) ∗ opPt c D ∗ bigSep (others c) (send2P c) ∗ atPos ER (barCell c) 1 ∅ 0 ∗ (∃ f, osegPt c c f) ∗ bigSep (others c) (send2R pv κ c) ∗ copyR pv κ 1 c ∗ copyP pv κ 1 c ∗ bigSep (others c) (waitA pv κ 3 c) ∗ bigSep (others c) (waitP pv κ 2 c)))
    ⊢ iprop(Send2 pv κ c 0 ∗ ((copyA pv κ 1 c ∗ bigSep (others c) (waitA pv κ 0 c)) ∗ (atPt c (attnV D.q D.k D.v) ∗ opPt c D ∗ atPos ER (barCell c) 1 ∅ 0 ∗ rsPt c (rsV pv c) ∗ psegPt c c (pv c) ∗ bigSep (others c) (fun j => atPos ER (sCell 1 c j) 1 ∅ 0) ∗ atPos ER (cCell 0 c) 1 ∅ 0 ∗ copyP pv κ 1 c ∗ bigSep (others c) (waitA pv κ 3 c) ∗ bigSep (others c) (waitP pv κ 2 c)))) := by
  unfold summed
  rw [stg_split, own_split c (fun s => stPt c (leafOf s) (stV pv c))]
  iintro ⟨⟨Hdue2, Hrs, ⟨Hstcc, Hsts⟩, Hpcc, HaW1, HaC0⟩, ⟨HwA0, Hat, Hop, Hs2P, HaB, HosegE, Hs2R, HcR1, HcP1, HwA3, HwP2⟩⟩
  ihave Hs2A := (send2_all pv κ) $$ [Hs2R Hsts Hs2P]
  · isplitl [Hs2R]; · iexact Hs2R
    isplitl [Hsts]; · iexact Hsts
    iexact Hs2P
  ihave HS20 := (Send2_first pv κ) $$ [Hs2A Hdue2]
  · isplitl [Hs2A]; · iexact Hs2A
    iexact Hdue2
  ihave HcopyA1 := (copyA1_intro pv κ) $$ [HcR1 Hstcc HosegE]
  · isplitl [HcR1]; · iexact HcR1
    isplitl [Hstcc]; · iexact Hstcc
    iexact HosegE
  isplitl [HS20]; · iexact HS20
  isplitl [HcopyA1 HwA0]
  · isplitl [HcopyA1]; · iexact HcopyA1
    iexact HwA0
  isplitl [Hat]; · iexact Hat
  isplitl [Hop]; · iexact Hop
  isplitl [HaB]; · iexact HaB
  isplitl [Hrs]; · iexact Hrs
  isplitl [Hpcc]; · iexact Hpcc
  isplitl [HaW1]; · iexact HaW1
  isplitl [HaC0]; · iexact HaC0
  isplitl [HcP1]; · iexact HcP1
  isplitl [HwA3]; · iexact HwA3
  iexact HwP2

theorem stage_sent : iprop(Wait pv κ 0 0 c 32 ∗ ((cred (tallyAt (cCell 1 c) () N) ∗ bigSep (others c) (sendB 2 c)) ∗ (atPt c (attnV D.q D.k D.v) ∗ opPt c D ∗ atPos ER (barCell c) 1 ∅ 0 ∗ rsPt c (rsV pv c) ∗ psegPt c c (pv c) ∗ bigSep (others c) (fun j => atPos ER (sCell 1 c j) 1 ∅ 0) ∗ atPos ER (cCell 0 c) 1 ∅ 0 ∗ copyP pv κ 1 c ∗ bigSep (others c) (waitA pv κ 3 c) ∗ bigSep (others c) (waitP pv κ 2 c))))
    ⊢ iprop(Wait pv κ 3 0 c 0 ∗ ((copyWaitA pv κ 1 c ∗ bigSep (others c) (waitA pv κ 2 c)) ∗ (atPt c (attnV D.q D.k D.v) ∗ opPt c D ∗ atPos ER (barCell c) 1 ∅ 0 ∗ rsPt c (rsV pv c) ∗ psegPt c c (pv c) ∗ bigSep (others c) (fun j => atPos ER (sCell 1 c j) 1 ∅ 0) ∗ atPos ER (cCell 0 c) 1 ∅ 0 ∗ bigSep (others c) (waitB pv 0 c)))) := by
  iintro ⟨HW0, ⟨⟨HcrC1, HsB2⟩, ⟨Hat, Hop, HaB, Hrs, Hpcc, HaW1, HaC0, HcP1, HwA3, HwP2⟩⟩⟩
  ihave HcW1 := (copyW_intro pv κ 1) $$ [HcP1 HcrC1]
  · isplitl [HcP1]; · iexact HcP1
    iexact HcrC1
  ihave HwA2 := (waitA_intro pv κ 2) $$ [HwP2 HsB2]
  · isplitl [HwP2]; · iexact HwP2
    iexact HsB2
  ihave Hl := (Wait_last pv κ 0) $$ HW0
  icases Hl with ⟨HwB0, Hduez⟩
  ihave HW3 := (Wait_first pv κ 3) $$ [HwA3 Hduez]
  · isplitl [HwA3]; · iexact HwA3
    iexact Hduez
  isplitl [HW3]; · iexact HW3
  isplitl [HcW1 HwA2]
  · isplitl [HcW1]; · iexact HcW1
    iexact HwA2
  isplitl [Hat]; · iexact Hat
  isplitl [Hop]; · iexact Hop
  isplitl [HaB]; · iexact HaB
  isplitl [Hrs]; · iexact Hrs
  isplitl [Hpcc]; · iexact Hpcc
  isplitl [HaW1]; · iexact HaW1
  isplitl [HaC0]; · iexact HaC0
  iexact HwB0

theorem stage_end : iprop(Wait pv κ 2 0 c 32 ∗ ((copyWaitB pv 1 c ∗ bigSep (others c) (waitB pv 3 c)) ∗ (atPt c (attnV D.q D.k D.v) ∗ opPt c D ∗ atPos ER (barCell c) 1 ∅ 0 ∗ rsPt c (rsV pv c) ∗ psegPt c c (pv c) ∗ bigSep (others c) (fun j => atPos ER (sCell 1 c j) 1 ∅ 0) ∗ atPos ER (cCell 0 c) 1 ∅ 0 ∗ bigSep (others c) (waitB pv 0 c))))
    ⊢ bodyPost pv D c := by
  unfold bodyPost copyWaitB copyPay
  rw [waitB_split, waitB_split, part_split, own_split c (fun s => psegPt c s (pv c)), stg_split, own_split c (fun s => stPt c (leafOf s) (stV pv c)), out_split, own_split c (fun s => osegPt c s (outV pv))]
  iintro ⟨HW2, ⟨⟨⟨HaC1, ⟨Hocc, Hstcc⟩⟩, ⟨HaW3, Hosegs⟩⟩, ⟨Hat, Hop, HaB, Hrs, Hpcc, HaW1, HaC0, ⟨HaW0, Hpsegs⟩⟩⟩⟩
  ihave Hl := (Wait_last pv κ 2) $$ HW2
  rw [waitB_split]
  icases Hl with ⟨⟨HaW2, Hsts⟩, Hduez⟩
  isplitl [Hduez Hop Hat Hpcc Hpsegs Hrs Hstcc Hsts Hocc Hosegs]
  · isplitl [Hduez]; · iexact Hduez
    isplitl [Hop]; · iexact Hop
    isplitl [Hat]; · iexact Hat
    isplitl [Hpcc Hpsegs]
    · isplitl [Hpcc]; · iexact Hpcc
      iexact Hpsegs
    isplitl [Hrs]; · iexact Hrs
    isplitl [Hstcc Hsts]
    · isplitl [Hstcc]; · iexact Hstcc
      iexact Hsts
    isplitl [Hocc]; · iexact Hocc
    iexact Hosegs
  isplitl [HaB]; · iexact HaB
  isplitl [HaC0]; · iexact HaC0
  isplitl [HaC1]; · iexact HaC1
  isplitl [HaW0]; · iexact HaW0
  isplitl [HaW1]; · iexact HaW1
  isplitl [HaW2]; · iexact HaW2
  iexact HaW3

set_option maxHeartbeats 4000000 in
/-- All but its last two waits. -/
theorem part41_run (hpv : pv c = D.part) : Runs c (bodyPre pv κ D c) (k0_part41_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) iprop(Wait pv κ 2 0 c 30 ∗ ((copyWaitB pv 1 c ∗ bigSep (others c) (waitB pv 3 c)) ∗ (atPt c (attnV D.q D.k D.v) ∗ opPt c D ∗ atPos ER (barCell c) 1 ∅ 0 ∗ rsPt c (rsV pv c) ∗ psegPt c c (pv c) ∗ bigSep (others c) (fun j => atPos ER (sCell 1 c j) 1 ∅ 0) ∗ atPos ER (cCell 0 c) 1 ∅ 0 ∗ bigSep (others c) (waitB pv 0 c)))) ⟨c, meWord c, 30#32⟩ := by
  unfold k0_part41_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  refine Runs.pre (stage_start pv κ D) ?_
  refine Runs.bind (part1_run pv κ) ?_
  refine Runs.bind (part2_run pv κ) ?_
  refine Runs.bind (part3_run pv κ) ?_
  refine Runs.bind (part4_run pv κ D) ?_
  refine Runs.pre (stage_signalled pv κ D) ?_
  refine Runs.bind (part5_run D) ?_
  refine Runs.bind (part6_run D) ?_
  refine Runs.bind (part7_run D) ?_
  refine Runs.bind (part8_run D) ?_
  refine Runs.bind (part9_run D) ?_
  refine Runs.bind (part10_run D) ?_
  refine Runs.bind (part11_run D) ?_
  refine Runs.bind (part12_run D) ?_
  refine Runs.bind (part13_run D) ?_
  refine Runs.bind (part14_run D) ?_
  refine Runs.bind (part15_run pv κ D hpv) ?_
  refine Runs.bind (part16_run pv κ) ?_
  refine Runs.bind (part17_run pv κ) ?_
  refine Runs.bind (part18_run pv κ) ?_
  refine Runs.pre (stage_first pv κ D) ?_
  refine Runs.bind (part19_run pv κ) ?_
  refine Runs.bind (part20_run pv κ) ?_
  refine Runs.bind (part21_run pv κ) ?_
  refine Runs.bind (part22_run pv κ) ?_
  refine Runs.bind (part23_run pv κ) ?_
  refine Runs.pre (stage_waiting pv κ D) ?_
  refine Runs.bind (part24_run pv κ) ?_
  refine Runs.pre (stage_second pv κ D) ?_
  refine Runs.bind (part25_run pv κ) ?_
  refine Runs.bind (part26_run pv κ) ?_
  refine Runs.bind (part27_run pv κ) ?_
  refine Runs.bind (part28_run pv κ) ?_
  refine Runs.bind (part29_run pv κ) ?_
  refine Runs.bind (part30_run pv κ) ?_
  refine Runs.bind (part31_run pv κ) ?_
  refine Runs.bind (part32_run pv κ) ?_
  refine Runs.pre (stage_sent pv κ D) ?_
  refine Runs.bind (part33_run pv κ) ?_
  refine Runs.bind (part34_run pv κ) ?_
  refine Runs.bind (part35_run pv κ) ?_
  refine Runs.bind (part36_run pv κ) ?_
  refine Runs.bind (part37_run pv κ) ?_
  refine Runs.bind (part38_run pv κ) ?_
  refine Runs.bind (part39_run pv κ) ?_
  refine Runs.bind (part40_run pv κ) ?_
  refine wait_at pv κ 2 0 (mayWait_none c 2) 27 (by decide) (ne_iff c ⟨27, by decide⟩) (fun _ => sem_own 2 ⟨27, by decide⟩ rfl) (fun _ => rfl) ?_
  refine wait_at pv κ 2 0 (mayWait_none c 2) 28 (by decide) (ne_iff c ⟨28, by decide⟩) (fun _ => sem_own 2 ⟨28, by decide⟩ rfl) (fun _ => rfl) ?_
  refine wait_at pv κ 2 0 (mayWait_none c 2) 29 (by decide) (ne_iff c ⟨29, by decide⟩) (fun _ => sem_own 2 ⟨29, by decide⟩ rfl) (fun _ => rfl) ?_
  exact Runs.pure _ _

/-- The whole program of a device. -/
theorem body_run (hpv : pv c = D.part) : Runs c (bodyPre pv κ D c) (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (bodyPost pv D c) ⟨⟩ := by
  rw [cc0_body_eq_skeleton]
  unfold cc0_body_skel
  rw [k0_part41_eq_skeleton]
  refine Runs.bind (part41_run pv κ D hpv) ?_
  refine wait_at pv κ 2 0 (mayWait_none c 2) 30 (by decide) (ne_iff c ⟨30, by decide⟩) (fun _ => sem_own 2 ⟨30, by decide⟩ rfl) (fun _ => rfl) ?_
  refine wait_at pv κ 2 0 (mayWait_none c 2) 31 (by decide) (ne_iff c ⟨31, by decide⟩) (fun _ => sem_own 2 ⟨31, by decide⟩ rfl) (fun _ => rfl) ?_
  refine Runs.pre (stage_end pv κ D) ?_
  exact Runs.pure _ _

end Cert.KernelIdeal.Mha

end
-- ==== Proof.Held.lean ====
/-
  What a device holds when its program begins, and its semaphores when it ends.
-/
module

public import proofs.«01_k».proof.Proof.Body

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen

variable {F : FTy → Type} [FloatOps F]

local notation "𝕄" => MT nD τ sig Unit (Elt F) ℕ UU ℕ

variable (pv : Dev nD → Vec F S256x512 .f32) (κ : GSem nD τ sig → ℕ)
variable {c : Dev nD} {R : sProp (MT nD τ sig Unit (Elt F) ℕ UU ℕ)}
variable (D : Opnds F)

/-! ## Families -/

theorem bigSep_mem {I : Type} [DecidableEq I] {s : Finset I} {i : I} (Φ : I → sProp 𝕄) (hi : i ∈ s) : (bigSep s Φ : sProp 𝕄) ⊢ Φ i := BI.bigSep_elim hi
theorem bigSep_two {I : Type} {s : Finset I} {Φ Ψ : I → sProp 𝕄} : iprop(bigSep s Φ ∗ bigSep s Ψ) ⊢ (bigSep s fun i => iprop(Φ i ∗ Ψ i) : sProp 𝕄) :=
  Entails.of_eq (BI.bigSep_sep _ _ _).symm

/-! ## The families of a device's semaphores, taken apart -/

theorem fin4_eq (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem fin2_eq (Φ : Fin 2 → sProp 𝕄) : bigSep Finset.univ Φ = iprop(Φ 0 ∗ Φ 1) :=
  bigSep_univ_eq_bigSepL [(0 : Fin 2), 1] (by decide) (by decide) Φ

theorem own_eq (Φ : Own → sProp 𝕄) : bigSep Finset.univ Φ
    = iprop(((bigSep Finset.univ fun j => Φ (.inl (0, j))) ∗ (bigSep Finset.univ fun j => Φ (.inl (1, j))) ∗ (bigSep Finset.univ fun j => Φ (.inl (2, j)))
        ∗ (bigSep Finset.univ fun j => Φ (.inl (3, j)))) ∗ (Φ (.inr 0) ∗ Φ (.inr 1))) := by
  refine (BI.bigSep_univ_sum Φ).trans ?_
  rw [fin2_eq (fun b => Φ (.inr b)), BI.bigSep_univ_prod (fun x : Fin 4 × Dev nD => Φ (.inl x)), fin4_eq (fun a => bigSep Finset.univ fun j => Φ (.inl (a, j)))]
  rfl
/-- The same with the device's own place of each family set apart. -/
theorem own_eq' (c : Dev nD) (Φ : Own → sProp 𝕄) : bigSep Finset.univ Φ
    = iprop(((Φ (.inl (0, c)) ∗ bigSep (others c) fun j => Φ (.inl (0, j))) ∗ (Φ (.inl (1, c)) ∗ bigSep (others c) fun j => Φ (.inl (1, j)))
        ∗ (Φ (.inl (2, c)) ∗ bigSep (others c) fun j => Φ (.inl (2, j))) ∗ (Φ (.inl (3, c)) ∗ bigSep (others c) fun j => Φ (.inl (3, j)))) ∗ (Φ (.inr 0) ∗ Φ (.inr 1))) := by
  rw [own_eq, own_split c (fun j => Φ (.inl (0, j))), own_split c (fun j => Φ (.inl (1, j))), own_split c (fun j => Φ (.inl (2, j))), own_split c (fun j => Φ (.inl (3, j)))]

/-! ## What every device may consult -/

def barEmb : Dev nD ↪ GSem nD τ sig := ⟨fun c => barCell c, fun _ _ h => congrArg (fun g : GSem nD τ sig => g.1.1) h⟩
def ownEmb : Dev nD × Own ↪ GSem nD τ sig :=
  ⟨fun x => ownCell x.1 x.2, fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- Every semaphore's invariant, and that every barrier is at its round. -/
def records : sProp 𝕄 := iprop((bigSep (barCells ∪ ownCells) fun g => inv pv κ g) ∗ bigSep barCells fun g => reached ER g 0)
instance records_persistent : BI.Persistent (records (F := F) pv κ) := by unfold records; infer_instance
/-- With a device's own semaphores at their round, and the order of the waits. -/
def pers (c : Dev nD) : sProp 𝕄 := iprop(records pv κ ∗ (bigSep Finset.univ fun k : Own => reached ER (ownCell c k) 0) ∗ levAts L lv)
instance pers_persistent (c : Dev nD) : BI.Persistent (pers (F := F) pv κ c) := by unfold pers; infer_instance

theorem records_bar (c : Dev nD) : records pv κ ⊢ inv pv κ (barCell c) := by
  unfold records
  iintro ⟨H, -⟩
  iapply (bigSep_mem (fun g => inv pv κ g) (Finset.mem_union_left _ (Finset.mem_map_of_mem barEmb (Finset.mem_univ c)))) $$ H
theorem records_own (c : Dev nD) (k : Own) : records pv κ ⊢ inv pv κ (ownCell c k) := by
  unfold records
  iintro ⟨H, -⟩
  iapply (bigSep_mem (fun g => inv pv κ g) (Finset.mem_union_right _ (Finset.mem_map_of_mem ownEmb (Finset.mem_univ (c, k))))) $$ H
theorem records_reached (c : Dev nD) : records pv κ ⊢ reached ER (barCell c) 0 := by
  unfold records
  iintro ⟨-, H⟩
  iapply (bigSep_mem (fun g => (reached ER g 0 : sProp 𝕄)) (Finset.mem_map_of_mem barEmb (Finset.mem_univ c))) $$ H
variable (c)
theorem pers_bar (j : Dev nD) : pers pv κ c ⊢ inv pv κ (barCell j) := by
  unfold pers
  iintro ⟨H, -⟩
  iapply (records_bar pv κ j) $$ H
theorem pers_own (j : Dev nD) (k : Own) : pers pv κ c ⊢ inv pv κ (ownCell j k) := by
  unfold pers
  iintro ⟨H, -⟩
  iapply (records_own pv κ j k) $$ H
theorem pers_reached (j : Dev nD) : pers pv κ c ⊢ reached ER (barCell j) 0 := by
  unfold pers
  iintro ⟨H, -⟩
  iapply (records_reached pv κ j) $$ H
theorem pers_at (k : Own) : pers pv κ c ⊢ reached ER (ownCell c k) 0 := by
  unfold pers
  iintro ⟨-, H, -⟩
  iapply (bigSep_mem (fun k : Own => (reached ER (ownCell c k) 0 : sProp 𝕄)) (Finset.mem_univ k)) $$ H
theorem pers_lev : pers pv κ c ⊢ iprop(levAts L lv ∗ emp) := by
  unfold pers
  iintro ⟨-, -, H⟩
  isplitl [H]; · iexact H
  iempintro
theorem pers_s (a : Fin 4) (j i : Dev nD) : pers pv κ c ⊢ inv pv κ (sCell a j i) := pers_own pv κ c j (.inl (a, i))
theorem pers_c (i : Fin 2) : pers pv κ c ⊢ inv pv κ (cCell i c) := pers_own pv κ c c (.inr i)
theorem pers_sat (a : Fin 4) (j : Dev nD) : pers pv κ c ⊢ reached ER (sCell a c j) 0 := pers_at pv κ c (.inl (a, j))
theorem pers_cat (i : Fin 2) : pers pv κ c ⊢ reached ER (cCell i c) 0 := pers_at pv κ c (.inr i)
variable {c}

/-! ## What is a device's alone -/

/-- The rights to pay: other devices' barriers, the copies the device makes. -/
def toks (c : Dev nD) : sProp 𝕄 :=
  iprop((bigSep Finset.univ fun j => dutyTok ER (barCell j) 0 c) ∗ (bigSep Finset.univ fun j => dutyTok ER (sCell 0 c j) 0 0) ∗ (bigSep Finset.univ fun j => dutyTok ER (sCell 1 j c) 0 0)
    ∗ (bigSep Finset.univ fun j => dutyTok ER (sCell 2 c j) 0 0) ∗ (bigSep Finset.univ fun j => dutyTok ER (sCell 3 j c) 0 0) ∗ dutyTok ER (cCell 0 c) 0 0 ∗ dutyTok ER (cCell 1 c) 0 0)
/-- What the launch lets it wait for. -/
def creds (c : Dev nD) : sProp 𝕄 :=
  iprop(cred (tallyAt (barCell c) () 31) ∗ (bigSep (others c) fun j => cred (tallyAt (sCell 1 c j) () N)) ∗ bigSep (others c) fun j => cred (tallyAt (sCell 3 c j) () N))
/-- Its barrier and its own semaphores at the beginning, with the above. -/
def lin (c : Dev nD) : sProp 𝕄 :=
  iprop(atPos ER (barCell c) 0 ∅ 0 ∗ (bigSep Finset.univ fun k : Own => atPos ER (ownCell c k) 0 ∅ 0) ∗ toks c ∗ creds c)
/-- The copy semaphores a device keeps for itself are not used. -/
def idle (c : Dev nD) : sProp 𝕄 :=
  iprop(atPos ER (sCell 0 c c) 0 ∅ 0 ∗ atPos ER (sCell 1 c c) 0 ∅ 0 ∗ atPos ER (sCell 2 c c) 0 ∅ 0 ∗ atPos ER (sCell 3 c c) 0 ∅ 0)

theorem sig_all : iprop(pers pv κ c ∗ bigSep (others c) (fun j => iprop(dutyTok ER (barCell j) 0 c ∗ (∃ f, slotPt c j f) ∗ (∃ f, osegPt c j f))))
    ⊢ bigSep (others c) (sigA pv κ c) := by
  refine bigSep_with_persistent fun j _ => ?_
  unfold sigA barPay
  iintro ⟨#HP, HT, Hs, Ho⟩
  isplitr; · iapply (pers_bar pv κ c j); iexact HP
  isplitl [HT]; · iexact HT
  isplitr; · iapply (pers_reached pv κ c j); iexact HP
  isplitl [Hs]; · iexact Hs
  isplitl [Ho]; · iexact Ho
  isplitr; · iapply (pers_sat pv κ c 1 j); iexact HP
  iapply (pers_sat pv κ c 3 j); iexact HP
theorem send1R_all : iprop(pers pv κ c ∗ bigSep (others c) (fun j => iprop(dutyTok ER (sCell 0 c j) 0 0 ∗ dutyTok ER (sCell 1 j c) 0 0)))
    ⊢ bigSep (others c) (send1R pv κ c) := by
  refine bigSep_with_persistent fun j _ => ?_
  unfold send1R
  iintro ⟨#HP, HT, HT'⟩
  isplitr; · iapply (pers_s pv κ c 0 c j); iexact HP
  isplitr; · iapply (pers_s pv κ c 1 j c); iexact HP
  isplitl [HT]; · iexact HT
  isplitr; · iapply (pers_sat pv κ c 0 j); iexact HP
  iexact HT'
theorem send2R_all : iprop(pers pv κ c ∗ bigSep (others c) (fun j => iprop(dutyTok ER (sCell 2 c j) 0 0 ∗ dutyTok ER (sCell 3 j c) 0 0)))
    ⊢ bigSep (others c) (send2R pv κ c) := by
  refine bigSep_with_persistent fun j _ => ?_
  unfold send2R
  iintro ⟨#HP, HT, HT'⟩
  isplitr; · iapply (pers_s pv κ c 2 c j); iexact HP
  isplitr; · iapply (pers_s pv κ c 3 j c); iexact HP
  isplitl [HT]; · iexact HT
  isplitr; · iapply (pers_sat pv κ c 2 j); iexact HP
  iexact HT'
theorem waitA_all (a : Fin 4) : iprop(pers pv κ c ∗ bigSep (others c) (fun j => iprop(cred (tallyAt (sCell a c j) () N) ∗ atPos ER (sCell a c j) 0 ∅ 0)))
    ⊢ bigSep (others c) (waitA pv κ a c) := by
  refine bigSep_with_persistent fun j _ => ?_
  unfold waitA
  iintro ⟨#HP, HC, HA⟩
  isplitr; · iapply (pers_s pv κ c a c j); iexact HP
  isplitl [HC]; · iexact HC
  isplitl [HA]; · iexact HA
  ihave Hl := (pers_lev pv κ c) $$ HP
  icases Hl with ⟨Hl, -⟩
  iexact Hl
theorem waitP_all (a : Fin 4) : iprop(pers pv κ c ∗ bigSep (others c) (fun j => atPos ER (sCell a c j) 0 ∅ 0))
    ⊢ bigSep (others c) (waitP pv κ a c) := by
  refine bigSep_with_persistent fun j _ => ?_
  unfold waitP
  iintro ⟨#HP, HA⟩
  isplitr; · iapply (pers_s pv κ c a c j); iexact HP
  isplitl [HA]; · iexact HA
  ihave Hl := (pers_lev pv κ c) $$ HP
  icases Hl with ⟨Hl, -⟩
  iexact Hl
theorem copyR_all (i : Fin 2) : iprop(pers pv κ c ∗ dutyTok ER (cCell i c) 0 0) ⊢ copyR pv κ i c := by
  unfold copyR
  iintro ⟨#HP, HT⟩
  isplitr; · iapply (pers_c pv κ c i); iexact HP
  isplitl [HT]; · iexact HT
  iapply (pers_cat pv κ c i); iexact HP
theorem copyP_all (i : Fin 2) : iprop(pers pv κ c ∗ atPos ER (cCell i c) 0 ∅ 0) ⊢ copyP pv κ i c := by
  unfold copyP
  iintro ⟨#HP, HA⟩
  isplitr; · iapply (pers_c pv κ c i); iexact HP
  isplitl [HA]; · iexact HA
  ihave Hl := (pers_lev pv κ c) $$ HP
  icases Hl with ⟨Hl, -⟩
  iexact Hl
theorem barA_all : iprop(pers pv κ c ∗ cred (tallyAt (barCell c) () 31) ∗ atPos ER (barCell c) 0 ∅ 0) ⊢ barA pv κ c := by
  unfold barA
  iintro ⟨#HP, HC, HA⟩
  isplitr; · iapply (pers_bar pv κ c c); iexact HP
  isplitl [HC]; · iexact HC
  isplitl [HA]; · iexact HA
  ihave Hl := (pers_lev pv κ c) $$ HP
  icases Hl with ⟨Hl, -⟩
  iexact Hl

/-- A buffer cut into its pieces, the device's own one apart. -/
theorem slots_ex (f : Vec F S32x8x512 .f32) : rsPt c f ⊢ iprop((∃ f, slotPt c c f) ∗ bigSep (others c) (fun j => iprop(∃ f, slotPt c j f))) := by
  rw [rs_split, own_split c (fun s => slotPt c s f)]
  refine BI.sep_mono ?_ (bigSep_mono fun j _ => ?_)
  · show slotPt c c f ⊢ iprop(∃ f, slotPt c c f)
    iintro H
    iexists f
    iexact H
  · show slotPt c j f ⊢ iprop(∃ f, slotPt c j f)
    iintro H
    iexists f
    iexact H
theorem osegs_ex (f : Vec F S2x128x512 .f32) : outPt c f ⊢ iprop((∃ f, osegPt c c f) ∗ bigSep (others c) (fun j => iprop(∃ f, osegPt c j f))) := by
  rw [out_split, own_split c (fun s => osegPt c s f)]
  refine BI.sep_mono ?_ (bigSep_mono fun j _ => ?_)
  · show osegPt c c f ⊢ iprop(∃ f, osegPt c c f)
    iintro H
    iexists f
    iexact H
  · show osegPt c j f ⊢ iprop(∃ f, osegPt c j f)
    iintro H
    iexists f
    iexact H

/-- The buffers of a device at the start of its program. -/
def bufs (c : Dev nD) : sProp 𝕄 := iprop((∃ f, partPt c f) ∗ (∃ f, rsPt c f) ∗ (∃ f, stgPt c f) ∗ (∃ f, atPt c f) ∗ (∃ f, outPt c f))

theorem enter : iprop(pers pv κ c ∗ lin c ∗ due c (O₀ c) ∗ opPt c D ∗ bufs c) ⊢ iprop(bodyPre pv κ D c ∗ idle c) := by
  unfold lin toks creds bufs bodyPre idle
  rw [own_eq' c (fun k => atPos ER (ownCell c k) 0 ∅ 0), own_split c (fun j => dutyTok ER (barCell j) 0 c), own_split c (fun j => dutyTok ER (sCell 0 c j) 0 0),
    own_split c (fun j => dutyTok ER (sCell 1 j c) 0 0), own_split c (fun j => dutyTok ER (sCell 2 c j) 0 0), own_split c (fun j => dutyTok ER (sCell 3 j c) 0 0)]
  iintro ⟨#HP, ⟨HaB, ⟨⟨⟨Hi0, Ha0⟩, ⟨Hi1, Ha1⟩, ⟨Hi2, Ha2⟩, ⟨Hi3, Ha3⟩⟩, Hc0, Hc1⟩, ⟨⟨-, HtB⟩, ⟨-, Ht0⟩, ⟨-, Ht1⟩, ⟨-, Ht2⟩, ⟨-, Ht3⟩, Htc0, Htc1⟩, HcB, HcR1, HcR3⟩, Hdue, Hop,
    Hpart, ⟨%frs, Hrs⟩, Hstg, Hat, ⟨%fo, Hout⟩⟩
  ihave Hs := (slots_ex frs) $$ Hrs
  icases Hs with ⟨Hslot, Hslots⟩
  ihave Ho := (osegs_ex fo) $$ Hout
  icases Ho with ⟨Hoseg, Hosegs⟩
  isplitr [Hi0 Hi1 Hi2 Hi3]
  · isplitl [HtB Hslots Hosegs Hdue]
    · isplitl [HtB Hslots Hosegs]
      · iapply (sig_all pv κ)
        isplitr; · iexact HP
        iapply bigSep_two; isplitl [HtB]; · iexact HtB
        iapply bigSep_two; isplitl [Hslots]; · iexact Hslots
        iexact Hosegs
      · iexact Hdue
    isplitl [Hop]; · iexact Hop
    isplitl [Hat]; · iexact Hat
    isplitl [Hpart]; · iexact Hpart
    isplitl [HcB HaB]
    · iapply (barA_all pv κ)
      isplitr; · iexact HP
      isplitl [HcB]; · iexact HcB
      iexact HaB
    isplitl [Ht0 Ht1]
    · iapply (send1R_all pv κ)
      isplitr; · iexact HP
      iapply bigSep_two; isplitl [Ht0]; · iexact Ht0
      iexact Ht1
    isplitl [Hstg]; · iexact Hstg
    isplitl [Hslot]; · iexact Hslot
    isplitl [Hoseg]; · iexact Hoseg
    isplitl [Ht2 Ht3]
    · iapply (send2R_all pv κ)
      isplitr; · iexact HP
      iapply bigSep_two; isplitl [Ht2]; · iexact Ht2
      iexact Ht3
    isplitl [Htc0]
    · iapply (copyR_all pv κ 0)
      isplitr; · iexact HP
      iexact Htc0
    isplitl [Htc1]
    · iapply (copyR_all pv κ 1)
      isplitr; · iexact HP
      iexact Htc1
    isplitl [Hc0]
    · iapply (copyP_all pv κ 0)
      isplitr; · iexact HP
      iexact Hc0
    isplitl [Hc1]
    · iapply (copyP_all pv κ 1)
      isplitr; · iexact HP
      iexact Hc1
    isplitl [HcR1 Ha1]
    · iapply (waitA_all pv κ 1)
      isplitr; · iexact HP
      iapply bigSep_two; isplitl [HcR1]; · iexact HcR1
      iexact Ha1
    isplitl [HcR3 Ha3]
    · iapply (waitA_all pv κ 3)
      isplitr; · iexact HP
      iapply bigSep_two; isplitl [HcR3]; · iexact HcR3
      iexact Ha3
    isplitl [Ha0]
    · iapply (waitP_all pv κ 0)
      isplitr; · iexact HP
      iexact Ha0
    · iapply (waitP_all pv κ 2)
      isplitr; · iexact HP
      iexact Ha2
  isplitl [Hi0]; · iexact Hi0
  isplitl [Hi1]; · iexact Hi1
  isplitl [Hi2]; · iexact Hi2
  iexact Hi3

/-! ## The semaphores at the end -/

/-- The round a semaphore of a device ends at. -/
def endRound (c : Dev nD) : Own → ℕ
  | .inl (_, j) => if j = c then 0 else 1
  | .inr _ => 1

theorem end_duties (k : Own) : ∀ r, endRound c k ≤ r → (Rd pv).duties (ownCell c k) r = ∅ := fun r hr => by
  match k with
  | .inl (a, j) =>
    by_cases h : j = c
    · subst h
      by_cases h0 : r = 0
      · subst h0; exact duties_own_self pv j a
      · exact duties_later pv _ r (Nat.one_le_iff_ne_zero.mpr h0)
    · refine duties_later pv _ r ?_
      have e : endRound c (.inl (a, j)) = 1 := if_neg h
      rw [e] at hr
      exact hr
  | .inr i => exact duties_later pv _ r hr

theorem end_at : iprop((bigSep (others c) (fun j => atPos ER (sCell 0 c j) 1 ∅ 0) ∗ bigSep (others c) (fun j => atPos ER (sCell 1 c j) 1 ∅ 0)
      ∗ bigSep (others c) (fun j => atPos ER (sCell 2 c j) 1 ∅ 0) ∗ bigSep (others c) (fun j => atPos ER (sCell 3 c j) 1 ∅ 0))
      ∗ idle (F := F) c ∗ atPos ER (cCell 0 c) 1 ∅ 0 ∗ atPos ER (cCell 1 c) 1 ∅ 0)
    ⊢ bigSep Finset.univ fun k : Own => atPos ER (ownCell c k) (endRound c k) ∅ 0 := by
  have e0 (a : Fin 4) : endRound c (.inl (a, c)) = 0 := if_pos rfl
  have e1 (a : Fin 4) : (bigSep (others c) fun j => (atPos ER (ownCell c (.inl (a, j))) (endRound c (.inl (a, j))) ∅ 0 : sProp 𝕄))
      = bigSep (others c) fun j => atPos ER (sCell a c j) 1 ∅ 0 := BI.bigSep_congr fun j hj => by
    rw [show endRound c (.inl (a, j)) = 1 from if_neg (Finset.ne_of_mem_erase hj)]
  rw [own_eq' c, e0, e0, e0, e0, e1, e1, e1, e1]
  unfold idle
  iintro ⟨⟨H0, H1, H2, H3⟩, ⟨Hi0, Hi1, Hi2, Hi3⟩, Hc0, Hc1⟩
  isplitr [Hc0 Hc1]
  · isplitl [H0 Hi0]
    · isplitl [Hi0]; · iexact Hi0
      iexact H0
    isplitl [H1 Hi1]
    · isplitl [Hi1]; · iexact Hi1
      iexact H1
    isplitl [H2 Hi2]
    · isplitl [Hi2]; · iexact Hi2
      iexact H2
    isplitl [Hi3]; · iexact Hi3
    iexact H3
  isplitl [Hc0]; · iexact Hc0
  iexact Hc1

theorem pers_owns : pers pv κ c ⊢ bigSep Finset.univ fun k : Own => inv pv κ (ownCell c k) := by
  have h : iprop(pers pv κ c ∗ bigSep Finset.univ (fun _ : Own => (BI.emp : sProp 𝕄))) ⊢ bigSep Finset.univ fun k : Own => inv pv κ (ownCell c k) :=
    bigSep_with_persistent fun k _ => by
      iintro ⟨HP, -⟩
      iapply (pers_own pv κ c c k) $$ HP
  rw [BI.bigSep_emp_const] at h
  iintro HP
  iapply h
  isplitl [HP]; · iexact HP
  iempintro

theorem close_bar : iprop(inv pv κ (barCell c) ∗ atPos ER (barCell c) 1 ∅ 0) ⊢ (|={Set.univ}=> semVal (barCell c) 0 : sProp 𝕄) :=
  cell_close ER (Rd pv) (Set.mem_univ _) (fun h => h) (duties_later pv _)
theorem close_own : (bigSep Finset.univ fun k : Own => iprop(inv pv κ (ownCell c k) ∗ atPos ER (ownCell c k) (endRound c k) ∅ 0))
    ⊢ (|={Set.univ}=> bigSep Finset.univ fun k : Own => semVal (ownCell c k) 0 : sProp 𝕄) :=
  cells_close ER (Rd pv) Finset.univ (fun k : Own => ownCell c k) (fun k => κ (ownCell c k)) (fun _ _ => Set.mem_univ _) (fun _ _ h => h) (endRound c)
    (fun k _ => end_duties pv k)

/-- Every semaphore is given back at zero. -/
theorem leave : iprop(pers pv κ c ∗ bodyPost pv D c ∗ idle c)
    ⊢ iprop(|={Set.univ}=> ((due c 0 ∗ opPt c D ∗ atPt c (attnV D.q D.k D.v) ∗ partPt c (pv c) ∗ rsPt c (rsV pv c) ∗ stgPt c (stV pv c) ∗ outPt c (outV pv))
      ∗ semVal (barCell c) 0 ∗ bigSep Finset.univ fun k : Own => semVal (ownCell c k) 0)) := by
  unfold bodyPost
  iintro ⟨#HP, ⟨HB, HaB, Hc0, Hc1, H0, H1, H2, H3⟩, Hi⟩
  imod (close_bar pv κ) $$ [HaB] with HvB
  · isplitr; · iapply (pers_bar pv κ c c); iexact HP
    iexact HaB
  imod (close_own pv κ) $$ [Hc0 Hc1 H0 H1 H2 H3 Hi] with Hv
  · iapply bigSep_two
    isplitr; · iapply (pers_owns pv κ); iexact HP
    iapply (end_at (F := F))
    isplitl [H0 H1 H2 H3]
    · isplitl [H0]; · iexact H0
      isplitl [H1]; · iexact H1
      isplitl [H2]; · iexact H2
      iexact H3
    isplitl [Hi]; · iexact Hi
    isplitl [Hc0]; · iexact Hc0
    iexact Hc1
  imodintro
  isplitl [HB]; · iexact HB
  isplitl [HvB]; · iexact HvB
  iexact Hv

end Cert.KernelIdeal.Mha

end
-- ==== Proof.Region.lean ====
/-
  The kernel as one region of the program: what it is entered with and what it leaves.
-/
module

public import proofs.«01_k».proof.Proof.Held
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The region's data -/

/-- What a device's kernel is called on. -/
def opnds (c : Dev nD) : Opnds F := ⟨V1 m c main_arg0, V1 m c main_arg1, V1 m c main_arg4, V1 m c main_v9, V1 m c main_v14⟩
/-- The partial product each device forms. -/
def pvOf (c : Dev nD) : Vec F S256x512 .f32 := (opnds m c).part
/-- What the kernel leaves in its result. -/
def outs : Outs (F := F) := fun _ r c => Function.update (fun r => m ((c : Thread nD τ).loc r)) main_v15 (outV (pvOf m)) r

theorem outs_eq (J : ℕ) (c : Dev nD) : outs m J main_v15 c = outV (pvOf m) := Function.update_self _ _ _

/-- What the launch gives a device for the protocol, the semaphores of the kernel not yet opened. -/
def Tk (c : Dev nD) : sProp 𝕄 :=
  iprop(∃ κ, records (pvOf m) κ ∗ atPos ER (barCell c) 0 ∅ 0 ∗ (bigSep Finset.univ fun k : Own => openTok ER (ownCell c k)) ∗ toks c ∗ creds c)
/-- The same with them open. -/
def Xk (c : Dev nD) : sProp 𝕄 := iprop(∃ κ, pers (pvOf m) κ c ∗ lin c)
def Yk (c : Dev nD) : sProp 𝕄 := semVal (barCell c) 0

/-- The kernel's own buffers, and the generator's register. -/
def rest (c : Dev nD) : sProp 𝕄 := iprop(Pipeline.scopedRest spec0 c ∗ ∃ r, prngReg c r)

def dat0 (c : Dev nD) : Dat τ (Elt F) Unit ℕ UU ℕ cfg0 c where
  A w := V1 m c (Proc.devRef .tc (Pipeline.arrRef spec0 w))
  after := fun
    | 0 => fun _ => (opnds m c).x
    | 1 => fun _ => (opnds m c).wq
    | 2 => fun _ => (opnds m c).wo
    | 3 => fun _ => (opnds m c).k
    | 4 => fun _ => (opnds m c).v
    | 5 => fun _ => outV (pvOf m)
    | ⟨_ + 6, h⟩ => absurd h (Nat.not_lt.2 (Nat.le_add_left _ _))
  Φ t := if t.val = 0 then iprop(rest c ∗ Xk m c) else iprop(rest c ∗ Pipeline.ownSems0 osem c ∗ Yk c)
  q _ := fullShare
  owed t := if t.val = 0 then O₀ c else 0

def pdats : (p : Fin 1) → (c : Dev nD) → Dat τ (Elt F) Unit ℕ UU ℕ (cfgs p) c
  | 0 => dat0 m

theorem Φ_first (c : Dev nD) : (dat0 m c).Φ (Fin.castSucc t0_0) = iprop(rest c ∗ Xk m c) := rfl
theorem Φ_last (c : Dev nD) : (dat0 m c).Φ (Fin.succ t0_0) = iprop(rest c ∗ Pipeline.ownSems0 osem c ∗ Yk c) := rfl
theorem owed_first (c : Dev nD) : (dat0 m c).owed (Fin.castSucc t0_0) = O₀ c := by
  show (if (Fin.castSucc t0_0 : Fin (cfg0.N + 1)).val = 0 then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]
theorem owed_succ (c : Dev nD) : (dat0 m c).owed (Fin.succ t0_0) = 0 := by
  show (if (Fin.succ t0_0 : Fin (cfg0.N + 1)).val = 0 then O₀ c else 0) = 0
  exact if_neg (Nat.succ_ne_zero _)

/-! ## The windows: each is the whole of its array -/

theorem at_zero (x i : ℕ) : 0 * x + 1 * i = i := by rw [Nat.zero_mul, Nat.zero_add, Nat.one_mul]
theorem before0_0 (c : Dev nD) (d) : (dat0 m c).before 0 t0_0 d = (opnds m c).x := by
  unfold Dat.before; rw [if_pos (fetch0_0 t0_0)]
  exact funext fun i => congrArg (V1 m c main_arg0) (funext fun a => Fin.ext (by fin_cases a <;> exact at_zero _ _))
theorem before0_1 (c : Dev nD) (d) : (dat0 m c).before 1 t0_0 d = (opnds m c).wq := by
  unfold Dat.before; rw [if_pos (fetch0_1 t0_0)]
  exact funext fun i => congrArg (V1 m c main_arg1) (funext fun a => Fin.ext (by fin_cases a <;> exact at_zero _ _))
theorem before0_2 (c : Dev nD) (d) : (dat0 m c).before 2 t0_0 d = (opnds m c).wo := by
  unfold Dat.before; rw [if_pos (fetch0_2 t0_0)]
  exact funext fun i => congrArg (V1 m c main_arg4) (funext fun a => Fin.ext (by fin_cases a <;> exact at_zero _ _))
theorem before0_3 (c : Dev nD) (d) : (dat0 m c).before 3 t0_0 d = (opnds m c).k := by
  unfold Dat.before; rw [if_pos (fetch0_3 t0_0)]
  exact funext fun i => congrArg (V1 m c main_v9) (funext fun a => Fin.ext (by fin_cases a <;> exact at_zero _ _))
theorem before0_4 (c : Dev nD) (d) : (dat0 m c).before 4 t0_0 d = (opnds m c).v := by
  unfold Dat.before; rw [if_pos (fetch0_4 t0_0)]
  exact funext fun i => congrArg (V1 m c main_v14) (funext fun a => Fin.ext (by fin_cases a <;> exact at_zero _ _))
theorem arrAt0_end (c : Dev nD) : (dat0 m c).arrAt 5 cfg0.N = outV (pvOf m) := by
  show (dat0 m c).arrAt 5 (0 + 1) = _
  unfold Dat.arrAt
  rw [dif_pos (by rw [show cfg0.N = 1 from N_0]; decide), if_pos (flush0_5 _)]
  have e (i : S2x128x512.Idx) : ((cfg0.win 5).blk t0_0).view.emb i = i := funext fun a => Fin.ext (by fin_cases a <;> exact at_zero _ _)
  funext i
  refine (congrArg _ (e i).symm).trans ?_
  exact View.write_emb_of_mem (v := ((cfg0.win 5).blk t0_0).view) _ _ (Finset.mem_univ i)

/-! ## The kernel's run -/

theorem owesAt_intro (c : Dev nD) (t : Fin (cfg0.N + 1)) (O : CellTallies nD τ sig Unit) (h0 : (dat0 m c).owed t = O) :
    due c O ⊢ ((dat0 m c).owesAt () t : sProp 𝕄) := by
  unfold due Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ due c O := by
  unfold due Dat.owesAt Pipeline.owesWithin; rw [h0]
  iintro ⟨%W, -, HO⟩; iexists W; iexact HO

/-- The kernel's buffers that no window stages, and its output's staging buffer. -/
theorem bufs_intro (c : Dev nD) (f : Vec F S2x128x512 .f32) : iprop(Pipeline.scopedRest spec0 c ∗ outPt c f) ⊢ bufs c := by
  rw [scopedRest0_eq]
  unfold bufs
  iintro ⟨⟨Hp, Hr, Hs, Ha⟩, Ho⟩
  isplitl [Hp]; · iexact Hp
  isplitl [Hr]; · iexact Hr
  isplitl [Hs]; · iexact Hs
  isplitl [Ha]; · iexact Ha
  iexists f; iexact Ho

theorem rest_intro (c : Dev nD) (a p r s) : iprop(atPt c a ∗ partPt (F := F) c p ∗ rsPt c r ∗ stgPt c s) ⊢ Pipeline.scopedRest spec0 c := by
  rw [scopedRest0_eq]
  iintro ⟨Ha, Hp, Hr, Hs⟩
  isplitl [Hp]; · iexists p; iexact Hp
  isplitl [Hr]; · iexists r; iexact Hr
  isplitl [Hs]; · iexists s; iexact Hs
  iexists a; iexact Ha

/-- What the body leaves, in the region's terms. -/
def exitP (c : Dev nD) : sProp 𝕄 :=
  iprop((rest c ∗ Pipeline.ownSems0 osem c ∗ Yk c) ∗ due c 0 ∗ opPt c (opnds m c) ∗ outPt c (outV (pvOf m)))

theorem kernel_run (c : Dev nD) (f : Vec F S2x128x512 .f32) :
    Runs c iprop((rest c ∗ Xk m c) ∗ due c (O₀ c) ∗ opPt c (opnds m c) ∗ outPt c f) (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (exitP m c) ⟨⟩ := by
  refine Runs.pre (P := iprop(∃ κ, (bodyPre (pvOf m) κ (opnds m c) c ∗ (pers (pvOf m) κ c ∗ idle c ∗ ∃ r, prngReg c r)))) ?_ (Runs.ex fun κ => ?_)
  · unfold rest Xk
    iintro ⟨⟨⟨Hrest, Hreg⟩, ⟨%κ, #HP, Hl⟩⟩, Hd, Hop, Ho⟩
    iexists κ
    ihave Hb := (bufs_intro c f) $$ [Hrest Ho]
    · isplitl [Hrest]; · iexact Hrest
      iexact Ho
    ihave He := (enter (pvOf m) κ (opnds m c)) $$ [Hl Hd Hop Hb]
    · isplitr; · iexact HP
      isplitl [Hl]; · iexact Hl
      isplitl [Hd]; · iexact Hd
      isplitl [Hop]; · iexact Hop
      iexact Hb
    icases He with ⟨HB, Hi⟩
    isplitl [HB]; · iexact HB
    isplitr; · iexact HP
    isplitl [Hi]; · iexact Hi
    iexact Hreg
  · refine Runs.updPost (Runs.frm _ (body_run (pvOf m) κ (opnds m c) rfl)) ?_
    iintro ⟨HB, #HP, Hi, Hreg⟩
    imod (leave (pvOf m) κ (opnds m c)) $$ [HB Hi] with ⟨⟨Hd, Hop, Ha, Hp, Hr, Hs, Ho⟩, Hb, Hv⟩
    · isplitr; · iexact HP
      isplitl [HB]; · iexact HB
      iexact Hi
    imodintro
    unfold exitP rest Yk Pipeline.ownSems0
    isplitr [Hd Hop Ho]
    · isplitl [Ha Hp Hr Hs Hreg]
      · isplitr [Hreg]
        · iapply (rest_intro c (attnV (opnds m c).q (opnds m c).k (opnds m c).v) (pvOf m c) (rsV (pvOf m) c) (stV (pvOf m) c))
          isplitl [Ha]; · iexact Ha
          isplitl [Hp]; · iexact Hp
          isplitl [Hr]; · iexact Hr
          iexact Hs
        iexact Hreg
      isplitl [Hv]; · iexact Hv
      iexact Hb
    isplitl [Hd]; · iexact Hd
    isplitl [Hop]; · iexact Hop
    iexact Ho

theorem body0 (c : Dev nD) : BodyObligation (dat0 m c) (defs₀ (F := F)) 𝒱₀ () Set.univ := fun t => by
  obtain rfl := fin_N0 t
  rw [bigSep_W0, bigSep_W0, Φ_first, Φ_last]
  show iprop((rest c ∗ Xk m c) ∗ (dat0 m c).owesAt () (Fin.castSucc t0_0)
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d))
      ∗ (∃ d, owns (c : Thread nD τ) (Memref.whole cc0_stg4_0) fullShare ((dat0 m c).before 4 t0_0 d))
      ∗ (∃ d, owns (c : Thread nD τ) (Memref.whole cc0_stg5_0) fullShare ((dat0 m c).before 5 t0_0 d)))
    ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) fun _ =>
      iprop((rest c ∗ Pipeline.ownSems0 osem c ∗ Yk c) ∗ (dat0 m c).owesAt () (Fin.succ t0_0)
      ∗ owns (c : Thread nD τ) (Memref.whole cc0_stg0_0) fullShare (opnds m c).x
      ∗ owns (c : Thread nD τ) (Memref.whole cc0_stg1_0) fullShare (opnds m c).wq
      ∗ owns (c : Thread nD τ) (Memref.whole cc0_stg2_0) fullShare (opnds m c).wo
      ∗ owns (c : Thread nD τ) (Memref.whole cc0_stg3_0) fullShare (opnds m c).k
      ∗ owns (c : Thread nD τ) (Memref.whole cc0_stg4_0) fullShare (opnds m c).v
      ∗ owns (c : Thread nD τ) (Memref.whole cc0_stg5_0) fullShare (outV (pvOf m)))
  simp only [before0_0, before0_1, before0_2, before0_3, before0_4, owns_whole]
  have h : iprop((rest c ∗ Pipeline.ownSems0 osem c ∗ Yk c) ∗ due c 0 ∗ opPt c (opnds m c) ∗ outPt c (outV (pvOf m)))
      ⊢ iprop((rest c ∗ Pipeline.ownSems0 osem c ∗ Yk c) ∗ (dat0 m c).owesAt () (Fin.succ t0_0)
      ∗ ((c : Thread nD τ).loc cc0_stg0_0 ↦{fullShare} (opnds m c).x)
      ∗ ((c : Thread nD τ).loc cc0_stg1_0 ↦{fullShare} (opnds m c).wq)
      ∗ ((c : Thread nD τ).loc cc0_stg2_0 ↦{fullShare} (opnds m c).wo)
      ∗ ((c : Thread nD τ).loc cc0_stg3_0 ↦{fullShare} (opnds m c).k)
      ∗ ((c : Thread nD τ).loc cc0_stg4_0 ↦{fullShare} (opnds m c).v)
      ∗ ((c : Thread nD τ).loc cc0_stg5_0 ↦{fullShare} (outV (pvOf m)))) := by
    unfold opPt
    iintro ⟨HR, Hd, ⟨Hx, Hq, Ho, Hk, Hv⟩, Hout⟩
    isplitl [HR]; · iexact HR
    isplitl [Hd]; · iapply (owesAt_intro m c _ 0 (owed_succ m c)); iexact Hd
    isplitl [Hx]; · iexact Hx
    isplitl [Hq]; · iexact Hq
    isplitl [Ho]; · iexact Ho
    isplitl [Hk]; · iexact Hk
    isplitl [Hv]; · iexact Hv
    iexact Hout
  iintro ⟨HX, Hd, ⟨%d0, Hx⟩, ⟨%d1, Hq⟩, ⟨%d2, Ho⟩, ⟨%d3, Hk⟩, ⟨%d4, Hv⟩, ⟨%d5, Hout⟩⟩
  iapply (kernel_run m c ((dat0 m c).before 5 t0_0 d5) _ h)
  isplitl [HX]; · iexact HX
  isplitl [Hd]; · iapply (owesAt_elim m c _ (O₀ c) (owed_first m c)); iexact Hd
  isplitr [Hout]
  · unfold opPt
    isplitl [Hx]; · iexact Hx
    isplitl [Hq]; · iexact Hq
    isplitl [Ho]; · iexact Ho
    isplitl [Hk]; · iexact Hk
    iexact Hv
  iexact Hout

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem osem_scoped (k : Own) : (osem k).isScoped .tc = true := by
  have h : ∀ i : DmaSem sig, (SemLoc.dma i : SemLoc sig).isScoped .tc = true := by decide
  exact h _
theorem own_ge (k : Own) : 6 ≤ (dmaOf k).val := by
  rcases k with ⟨a, j⟩ | i
  · show 6 ≤ 6 + 32 * a.val + j.val
    omega
  · show 6 ≤ 134 + i.val
    omega
theorem stage_lt : ∀ (w : Fin 6) (s : Fin (spec0 w).nbuf), ((spec0 w).sem s).val < 6 := by decide
theorem ownFacts : Pipeline.OwnSemFacts spec0 osem where
  isScoped := osem_scoped
  inj := osem_inj
  disj k w s h := by
    have e : ((spec0 w).sem s).val = (dmaOf k).val := by first | exact congrArg Fin.val (SemLoc.dma.inj h) | exact congrArg Fin.val (SemLoc.dma.inj h).symm
    have h1 := stage_lt w s
    have h2 := own_ge k
    omega

theorem cut (c : Dev nD) (t : Fin (cfg0.N + 1)) (g : GSem nD τ sig) (i : Unit) (h : 0 < (dat0 m c).owed t g i) : i ∈ L g ∧ 0 < lv g i := by
  have e : (dat0 m c).owed t = if t.val = 0 then O₀ c else 0 := rfl
  rw [e] at h
  split at h
  · obtain ⟨j, rfl | rfl | rfl⟩ := O₀_cell h
    · exact ⟨by rw [L_tc]; exact Finset.mem_singleton_self _, by show 0 < lvOf _; rw [lv_recv2]; decide⟩
    · exact ⟨by rw [L_tc]; exact Finset.mem_singleton_self _, by show 0 < lvOf _; rw [lv_recv1]; decide⟩
    · exact ⟨by rw [L_tc]; exact Finset.mem_singleton_self _, by show 0 < lvOf _; rw [lv_bar]; decide⟩
  · exact absurd h (Nat.lt_irrefl 0)
theorem stage_lv (c : Dev nD) (w : Fin 6) (s : Fin (spec0 w).nbuf) : lv ((c : Thread nD τ), .dma ((spec0 w).sem s)) () ≤ 0 := by
  have h := stage_lt w s
  show (if 38 ≤ ((spec0 w).sem s).val ∧ ((spec0 w).sem s).val < 70 then 2 else if 102 ≤ ((spec0 w).sem s).val ∧ ((spec0 w).sem s).val < 134 then 3 else 0) ≤ 0
  rw [if_neg (by omega), if_neg (by omega)]

theorem share_eq (c : Dev nD) (w : Fin cfg0.W) : (dat0 m c).share w = fullShare := by unfold Dat.share; split <;> rfl

/-- The buffers of a device the region does not touch. -/
def away : Finset (DevRef τ sig) := Pipeline.ucRefs τ sig \ Pipeline.arrRefs (τ := τ) spec0

theorem v15_mem : (Proc.devRef .tc main_v15 : DevRef τ sig) ∈ Pipeline.arrRefs (τ := τ) spec0 :=
  Finset.mem_map_of_mem _ (Finset.mem_image.mpr ⟨5, Finset.mem_univ _, rfl⟩)

theorem away_eq (c : Dev nD) : ∀ b ∈ away \ ∅, V2 m (outs m) c b = V1 m c b := fun b hb => by
  rw [Finset.sdiff_empty] at hb
  have hne : b ≠ (Proc.devRef .tc main_v15 : DevRef τ sig) := by
    rintro rfl
    exact (Finset.mem_sdiff.mp hb).2 v15_mem
  exact Function.update_of_ne hne _ _

theorem v2_out (c : Dev nD) : V2 m (outs m) c main_v15 = outV (pvOf m) := (Function.update_self _ _ _).trans (outs_eq m 2 c)

theorem held_none (c : Dev nD) (V : Valuation τ sig (Elt F)) : (StableHlo.held (c : Thread nD τ) (∅ : Finset (DevRef τ sig)) V : sProp 𝕄) = BI.emp := by
  unfold StableHlo.held; exact BI.bigSep_empty

theorem owns_inv (c : Dev nD) (κ : GSem nD τ sig → ℕ) :
    iprop(records (pvOf m) κ ∗ bigSep Finset.univ fun k : Own => openTok ER (ownCell c k))
      ⊢ (bigSep Finset.univ fun k : Own => iprop(inv (pvOf m) κ (ownCell c k) ∗ openTok ER (ownCell c k)) : sProp 𝕄) :=
  bigSep_with_persistent fun k _ => by
    iintro ⟨#H, Ht⟩
    isplitr; · iapply (records_own (pvOf m) κ c k); iexact H
    iexact Ht

theorem open_own (c : Dev nD) (κ : GSem nD τ sig → ℕ) :
    iprop((bigSep Finset.univ fun k : Own => iprop(inv (pvOf m) κ (ownCell c k) ∗ openTok ER (ownCell c k))) ∗ bigSep Finset.univ fun k : Own => semVal (ownCell c k) 0)
      ⊢ (|={Set.univ}=> bigSep Finset.univ fun k : Own => iprop(atPos ER (ownCell c k) 0 ∅ 0 ∗ reached ER (ownCell c k) 0) : sProp 𝕄) :=
  cells_open ER (Rd (pvOf m)) Finset.univ (fun k : Own => ownCell c k) (fun k => κ (ownCell c k)) fun _ _ => Set.mem_univ _

theorem hopen (c : Dev nD) : iprop(Tk m c ∗ Pipeline.ownSems0 osem c ∗ levAts L lv) ⊢ (|={Set.univ}=> Xk m c : sProp 𝕄) := by
  unfold Tk Xk Pipeline.ownSems0
  iintro ⟨⟨%κ, #HR, HaB, Ho, Ht, Hc⟩, Hv, #Hl⟩
  imod (open_own m c κ) $$ [Ho Hv] with H
  · isplitl [Ho]
    · iapply (owns_inv m c κ)
      isplitr; · iexact HR
      iexact Ho
    iexact Hv
  imodintro
  ihave H := (show (bigSep Finset.univ fun k : Own => iprop(atPos ER (ownCell c k) 0 ∅ 0 ∗ reached ER (ownCell c k) 0))
    ⊢ (iprop((bigSep Finset.univ fun k : Own => atPos ER (ownCell c k) 0 ∅ 0) ∗ bigSep Finset.univ fun k : Own => reached ER (ownCell c k) 0) : sProp 𝕄)
    from Entails.of_eq (BI.bigSep_sep _ _ _)) $$ H
  icases H with ⟨Ha, #Hr⟩
  iexists κ
  unfold pers lin
  isplitr
  · isplitr; · iexact HR
    isplitr; · iexact Hr
    iexact Hl
  isplitl [HaB]; · iexact HaB
  isplitl [Ha]; · iexact Ha
  isplitl [Ht]; · iexact Ht
  iexact Hc

theorem hin (c : Dev nD) : iprop(Pipeline.scopedRest spec0 c ∗ (∃ r, prngReg c r) ∗ StableHlo.held (c : Thread nD τ) (∅ : Finset (DevRef τ sig)) (V1 m c) ∗ Xk m c)
    ⊢ (dat0 m c).Φ 0 := by
  rw [show (dat0 m c).Φ 0 = iprop(rest c ∗ Xk m c) from rfl]
  unfold rest
  iintro ⟨Hs, Hp, -, HX⟩
  isplitl [Hs Hp]
  · isplitl [Hs]; · iexact Hs
    iexact Hp
  iexact HX
theorem hout (c : Dev nD) : (dat0 m c).Φ (Fin.last cfg0.N)
    ⊢ iprop(Pipeline.scopedRest spec0 c ∗ (∃ r, prngReg c r) ∗ StableHlo.held (c : Thread nD τ) (∅ : Finset (DevRef τ sig)) (V2 m (outs m) c)
      ∗ Pipeline.ownSems0 osem c ∗ Yk c) := by
  rw [show (dat0 m c).Φ (Fin.last cfg0.N) = iprop(rest c ∗ Pipeline.ownSems0 osem c ∗ Yk c) from rfl, held_none]
  unfold rest
  iintro ⟨⟨Hs, Hp⟩, Ho, HY⟩
  isplitl [Hs]; · iexact Hs
  isplitl [Hp]; · iexact Hp
  isplitr; · iempintro
  isplitl [Ho]; · iexact Ho
  iexact HY

theorem arr_end (c : Dev nD) : ∀ w : Fin 6, (dat0 m c).arrAt w cfg0.N = V2 m (outs m) c (Proc.devRef .tc (Pipeline.arrRef spec0 w))
  | 0 => ((dat0 m c).arrAt_in 0 rfl _).trans (V2_of m (outs m) c main_arg0 (by decide)).symm
  | 1 => ((dat0 m c).arrAt_in 1 rfl _).trans (V2_of m (outs m) c main_arg1 (by decide)).symm
  | 2 => ((dat0 m c).arrAt_in 2 rfl _).trans (V2_of m (outs m) c main_arg4 (by decide)).symm
  | 3 => ((dat0 m c).arrAt_in 3 rfl _).trans (V2_of m (outs m) c main_v9 (by decide)).symm
  | 4 => ((dat0 m c).arrAt_in 4 rfl _).trans (V2_of m (outs m) c main_v14 (by decide)).symm
  | 5 => (arrAt0_end m c).trans (v2_out m c).symm
  | ⟨_ + 6, h⟩ => absurd h (Nat.not_lt.2 (Nat.le_add_left _ _))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ away (Finset.empty_subset _) kit rfl (fun c => (body0 m c).loose)
    (fun _ => 0) O₀ (fun c => (owed_first m c).trans (zero_add _).symm) (owed_last m) (fun _ => rfl) (share_eq m)
    (V1 m) (V2 m (outs m)) (away_eq m)
    (Tk m) Yk (Xk m) Yk (hopen m) (hin m) (hout m)
    (fun c => by iintro H; imodintro; iexact H)
    (fun _ => 0)
    ⟨fun c w s => by rw [L_tc]; exact Finset.mem_singleton_self _, fun c w s => stage_lv c w s, fun c t g i h => cut m c t g i h⟩
    (fun _ => iprop(emp))
    (fun _ _ => rfl) (fun c w => arr_end m c w)

theorem held_split (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) away V) :=
  StableHlo.held_sub_split (c : Thread nD τ) (by decide) V

/-- What a device holds beside its buffers before the region, and after it. -/
def E (i : Fin 2) (c : Dev nD) : sProp 𝕄 := if i = 0 then iprop((∃ r, prngReg c r) ∗ Tk m c ∗ due c (O₀ c)) else iprop(Yk c ∗ due c 0)
theorem E_zero (c : Dev nD) : E m 0 c = iprop((∃ r, prngReg c r) ∗ Tk m c ∗ due c (O₀ c)) := rfl
theorem E_one (c : Dev nD) : E m 1 c = iprop(Yk c ∗ due c 0) := rfl

theorem reg_pre (c : Dev nD) : iprop(StableHlo.held (c : Thread nD τ) (Pipeline.ucRefs τ sig) (V1 m c) ∗ E m 0 c) ⊢ (reg0 m).pre c := by
  show _ ⊢ iprop(StableHlo.held (c : Thread nD τ) (Pipeline.arrRefs (τ := τ) spec0) (V1 m c) ∗ (∃ r, prngReg c r)
    ∗ (StableHlo.held (c : Thread nD τ) away (V1 m c) ∗ emp) ∗ Tk m c ∗ ∃ Wd, owes (c : Thread nD τ) (0 + O₀ c) Wd)
  rw [held_split, zero_add, E_zero]
  unfold due
  iintro ⟨⟨Ha, Hw⟩, Hp, HT, HO⟩
  isplitl [Ha]; · iexact Ha
  isplitl [Hp]; · iexact Hp
  isplitl [Hw]
  · isplitl [Hw]; · iexact Hw
    iempintro
  isplitl [HT]; · iexact HT
  iexact HO
theorem reg_post (c : Dev nD) : (reg0 m).post c ⊢ iprop(StableHlo.held (c : Thread nD τ) (Pipeline.ucRefs τ sig) (V2 m (outs m) c) ∗ E m 1 c) := by
  show iprop(StableHlo.held (c : Thread nD τ) (Pipeline.arrRefs (τ := τ) spec0) (V2 m (outs m) c) ∗ (∃ r, prngReg c r)
    ∗ (StableHlo.held (c : Thread nD τ) away (V2 m (outs m) c) ∗ emp) ∗ Yk c ∗ ∃ Wd, owes (c : Thread nD τ) (0 : CellTallies nD τ sig Unit) Wd) ⊢ _
  rw [held_split, E_one]
  unfold due
  iintro ⟨Ha, -, ⟨Hw, -⟩, HY, HO⟩
  isplitl [Ha Hw]
  · isplitl [Ha]; · iexact Ha
    iexact Hw
  isplitl [HY]; · iexact HY
  iexact HO
end Cert.KernelIdeal.Mha

end
-- ==== Proof.Launch.lean ====
/-
  The launch: what each device is dealt, and the run of the whole program.
-/
module

public import proofs.«01_k».proof.Proof.Region

@[expose] public section

noncomputable section

namespace Cert.KernelIdeal.Mha

open Idealize.ShloMosaic Idealize.ShloMosaic.TcCoe Idealize.ShloMosaic.Rounds
open Idealize.SL Idealize.SL.RA Idealize.SL.BI Idealize.SL.BI.Laws Idealize.SL.ProofMode
open scoped Idealize.SL.BI
open Idealize.SL.BI.BIBase Idealize.SL.Sem
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the devices owe a semaphore between them -/

section Owed

variable {c d j : Dev nD}

theorem sum_tally (s : Finset (Dev nD)) (f : Dev nD → GSem nD τ sig) (n : ℕ) (g : GSem nD τ sig) :
    (∑ i ∈ s, (tallyAt (f i) () n : CellTallies nD τ sig Unit)) g () = ∑ i ∈ s, if g = f i then n else 0 := by
  rw [Finset.sum_apply, Finsupp.finset_sum_apply]
  refine Finset.sum_congr rfl fun i _ => ?_
  rw [tallyAt_apply]
  simp only [and_true]

theorem own_inj {k k' : Own} (h : ownCell c k = ownCell d k') : c = d ∧ k = k' :=
  ⟨congrArg (fun g : GSem nD τ sig => g.1.1) h, osem_inj (congrArg Prod.snd h)⟩
theorem bar_ne (k : Own) : barCell c ≠ ownCell d k := fun h => by cases congrArg Prod.snd h

theorem sum_none {s : Finset (Dev nD)} {f : Dev nD → GSem nD τ sig} {n : ℕ} {g : GSem nD τ sig} (h : ∀ i, g ≠ f i) :
    (∑ i ∈ s, if g = f i then n else 0) = 0 := Finset.sum_eq_zero fun i _ => if_neg (h i)

theorem sum_bar : (∑ i ∈ others d, if barCell c = barCell i then 1 else 0) = if c = d then 0 else 1 := by
  have e (i : Dev nD) : (barCell c = barCell i) ↔ c = i := ⟨fun h => barEmb.injective h, fun h => by rw [h]⟩
  simp only [e]
  rw [Finset.sum_ite_eq]
  by_cases h : c = d
  · rw [if_pos h, if_neg (by rw [h]; exact Finset.notMem_erase _ _)]
  · rw [if_neg h, if_pos (Finset.mem_erase.mpr ⟨h, Finset.mem_univ _⟩)]
theorem sum_own (a : Fin 4) (hj : j ≠ c) : (∑ i ∈ others d, if sCell a c j = sCell a i d then N else 0) = if d = j then N else 0 := by
  by_cases h : d = j
  · subst h
    have e (i : Dev nD) : (sCell a c d = sCell a i d) ↔ c = i := ⟨fun h => (own_inj h).1, fun h => by rw [h]⟩
    simp only [e]
    rw [Finset.sum_ite_eq, if_pos (Finset.mem_erase.mpr ⟨hj.symm, Finset.mem_univ _⟩), if_pos trivial]
  · rw [if_neg h]
    exact sum_none fun i e => h (congrArg Prod.snd (Sum.inl.inj (own_inj e).2)).symm
theorem sum_cross {a b : Fin 4} (hab : a ≠ b) : (∑ i ∈ others d, if sCell a c j = sCell b i d then N else 0) = 0 :=
  sum_none fun i e => hab (congrArg Prod.fst (Sum.inl.inj (own_inj e).2))

theorem O₀_apply (g : GSem nD τ sig) : O₀ d g () = (∑ i ∈ others d, if g = sCell 3 i d then N else 0)
    + (∑ i ∈ others d, if g = sCell 1 i d then N else 0) + ∑ i ∈ others d, if g = barCell i then 1 else 0 := by
  unfold O₀ owe1 owe2
  rw [Pi.add_apply, Finsupp.add_apply, Pi.add_apply, Finsupp.add_apply, sum_tally, sum_tally, sum_tally]

theorem owed_bar : O₀ d (barCell c) () = if c = d then 0 else 1 := by
  rw [O₀_apply, sum_none fun i => bar_ne _, sum_none fun i => bar_ne _, sum_bar, Nat.zero_add]
theorem owed_one (hj : j ≠ c) : O₀ d (sCell 1 c j) () = if d = j then N else 0 := by
  rw [O₀_apply, sum_cross (by decide), sum_own 1 hj, sum_none fun i e => bar_ne _ e.symm, Nat.zero_add, Nat.add_zero]
theorem owed_three (hj : j ≠ c) : O₀ d (sCell 3 c j) () = if d = j then N else 0 := by
  rw [O₀_apply, sum_own 3 hj, sum_cross (a := 3) (b := 1) (by decide), sum_none fun i e => bar_ne _ e.symm, Nat.add_zero]

theorem launch_bar : tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar]
  revert c
  exact (by decide : ∀ c : Fin 32, (∑ d : Fin 32, if c = d then 0 else 1) = 31)
theorem launch_own (a : Fin 4) (h : ∀ d, O₀ d (sCell a c j) () = if d = j then N else 0) :
    tallyOn (sCell a c j) (launchCredit (Pipeline.owing O₀) 0 (sCell a c j)) = (tallyAt (sCell a c j) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ j fun _ => N,
    if_pos (Finset.mem_univ _)]

end Owed

theorem split_at {I : Type} [Fintype I] [DecidableEq I] (i : I) (Φ : I → sProp 𝕄) : bigSep Finset.univ Φ = iprop(Φ i ∗ bigSep (Finset.univ.erase i) Φ) :=
  BI.bigSep_univ_at _ i
theorem sub {I : Type} [DecidableEq I] {s t : Finset I} (h : t ⊆ s) (Φ : I → sProp 𝕄) : (bigSep s Φ : sProp 𝕄) ⊢ bigSep t Φ := BI.bigSep_subset h

/-- What a device waits for is what the others owe it. -/
theorem creds_intro (c : Dev nD) : (Pipeline.launchCred O₀ c : sProp 𝕄) ⊢ creds c := by
  unfold Pipeline.launchCred creds
  have h1 (a : Fin 4) (h : ∀ (j d : Dev nD), j ≠ c → O₀ d (sCell a c j) () = if d = j then N else 0) :
      (bigSep (others c) fun j => cred (tallyOn (sCell a c j) (launchCredit (Pipeline.owing O₀) 0 (sCell a c j))) : sProp 𝕄)
        = bigSep (others c) fun j => cred (tallyAt (sCell a c j) () N) :=
    BI.bigSep_congr fun j hj => by rw [launch_own a fun d => h j d (Finset.ne_of_mem_erase hj)]
  rw [split_at (SemLoc.reg barS), launch_bar]
  iintro ⟨HB, H⟩
  ihave H := (sub (s := Finset.univ.erase (SemLoc.reg barS)) (t := Finset.univ.map ⟨osem, osem_inj⟩) (fun sm h => by
    obtain ⟨k, -, rfl⟩ := Finset.mem_map.mp h
    exact Finset.mem_erase.mpr ⟨(fun h => by cases h), Finset.mem_univ _⟩)
    (fun sm : SemLoc sig => (cred (tallyOn ((c : Thread nD τ), sm) (launchCredit (Pipeline.owing O₀) 0 ((c : Thread nD τ), sm))) : sProp 𝕄))) $$ H
  ihave H := (Entails.of_eq ((BI.bigSep_map (s := Finset.univ) ⟨osem, osem_inj⟩
    (Φ := fun sm : SemLoc sig => (cred (tallyOn ((c : Thread nD τ), sm) (launchCredit (Pipeline.owing O₀) 0 ((c : Thread nD τ), sm))) : sProp 𝕄))).trans
    (own_eq' c fun k : Own => (cred (tallyOn (ownCell c k) (launchCredit (Pipeline.owing O₀) 0 (ownCell c k))) : sProp 𝕄)))) $$ H
  icases H with ⟨⟨-, ⟨-, H1⟩, -, ⟨-, H3⟩⟩, -⟩
  isplitl [HB]; · iexact HB
  isplitl [H1]
  · iapply (Entails.of_eq (h1 1 fun j d hj => owed_one hj)) $$ H1
  iapply (Entails.of_eq (h1 3 fun j d hj => owed_three hj)) $$ H3

/-! ## The rights to pay, dealt to those who pay -/

def tokEmb : Dev nD × (Dev nD ⊕ Own) ↪ GSem nD τ sig × ℕ × Dev nD :=
  ⟨fun x => match x.2 with | .inl d => (barCell x.1, 0, d) | .inr k => (ownCell x.1 k, 0, 0), fun x y h => by
    rcases x with ⟨c, d | k⟩ <;> rcases y with ⟨c', d' | k'⟩
    · have h1 : c = c' := barEmb.injective (congrArg Prod.fst h)
      have h2 : d = d' := congrArg (fun t : GSem nD τ sig × ℕ × Dev nD => t.2.2) h
      rw [h1, h2]
    · exact absurd (congrArg Prod.fst h) (bar_ne _)
    · exact absurd (congrArg Prod.fst h).symm (bar_ne _)
    · have h1 : c = c' := (own_inj (congrArg Prod.fst h)).1
      have h2 : k = k' := (own_inj (congrArg Prod.fst h)).2
      rw [h1, h2]⟩
def allToks : Finset (GSem nD τ sig × ℕ × Dev nD) := Finset.univ.map tokEmb

theorem swap (Φ : Dev nD → Dev nD → sProp 𝕄) : (bigSep Finset.univ fun c => bigSep Finset.univ fun j => Φ c j)
    = bigSep Finset.univ fun c => bigSep Finset.univ fun j => Φ j c := by
  rw [← BI.bigSep_univ_prod (fun x : Dev nD × Dev nD => Φ x.1 x.2), ← BI.bigSep_univ_prod (fun x : Dev nD × Dev nD => Φ x.2 x.1)]
  exact BI.bigSep_univ_equiv (Equiv.prodComm (Dev nD) (Dev nD)) (fun x : Dev nD × Dev nD => Φ x.1 x.2)

theorem all_eq : bigSep allToks (fun x => (dutyTok ER x.1 x.2.1 x.2.2 : sProp 𝕄))
    = bigSep Finset.univ fun c : Dev nD => iprop((bigSep Finset.univ fun d : Dev nD => dutyTok ER (barCell c) 0 d)
      ∗ bigSep Finset.univ fun k : Own => dutyTok ER (ownCell c k) 0 0) := by
  unfold allToks
  rw [BI.bigSep_map, BI.bigSep_univ_prod]
  refine BI.bigSep_congr fun c _ => ?_
  exact BI.bigSep_univ_sum fun k : Dev nD ⊕ Own => (dutyTok ER (tokEmb (c, k)).1 (tokEmb (c, k)).2.1 (tokEmb (c, k)).2.2 : sProp 𝕄)

theorem sep_all {I : Type} [Fintype I] {Φ Ψ : I → sProp 𝕄} : (bigSep Finset.univ fun i => iprop(Φ i ∗ Ψ i) : sProp 𝕄)
    ⊢ iprop(bigSep Finset.univ Φ ∗ bigSep Finset.univ Ψ) := Entails.of_eq (BI.bigSep_sep _ _ _)

theorem toks_intro : bigSep allToks (fun x => (dutyTok ER x.1 x.2.1 x.2.2 : sProp 𝕄)) ⊢ bigSep Finset.univ fun c : Dev nD => toks c := by
  rw [all_eq]
  unfold toks
  iintro H
  ihave H := sep_all $$ H
  icases H with ⟨HB, H⟩
  ihave H := (Entails.of_eq (BI.bigSep_congr fun c _ => own_eq fun k : Own => (dutyTok ER (ownCell c k) 0 0 : sProp 𝕄))) $$ H
  ihave H := sep_all $$ H
  icases H with ⟨H, Hc⟩
  ihave Hc := sep_all $$ Hc
  icases Hc with ⟨Hc0, Hc1⟩
  ihave H := sep_all $$ H
  icases H with ⟨H0, H⟩
  ihave H := sep_all $$ H
  icases H with ⟨H1, H⟩
  ihave H := sep_all $$ H
  icases H with ⟨H2, H3⟩
  ihave HB := (Entails.of_eq (swap fun c d => (dutyTok ER (barCell c) 0 d : sProp 𝕄))) $$ HB
  ihave H1 := (Entails.of_eq (swap fun c d => (dutyTok ER (sCell 1 c d) 0 0 : sProp 𝕄))) $$ H1
  ihave H3 := (Entails.of_eq (swap fun c d => (dutyTok ER (sCell 3 c d) 0 0 : sProp 𝕄))) $$ H3
  iapply bigSep_two; isplitl [HB]; · iexact HB
  iapply bigSep_two; isplitl [H0]; · iexact H0
  iapply bigSep_two; isplitl [H1]; · iexact H1
  iapply bigSep_two; isplitl [H2]; · iexact H2
  iapply bigSep_two; isplitl [H3]; · iexact H3
  iapply bigSep_two; isplitl [Hc0]; · iexact Hc0
  iexact Hc1

/-! ## The launch -/

theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact bar_ne x.2 h.symm

def u₀ : UU :=
  (initOf (Pipeline.cells (Pipeline.pin (pcfgs (F := F)) adm) cellOf_inj) (Pipeline.launchToks (Pipeline.pin (pcfgs (F := F)) adm) cellOf_inj),
    launchOf barCells ownCells allToks)

/-- A resource given whole to one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [split_at c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells ownCells allToks)))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V2 m (outs m) c) ∗ Yk c)

/-- A device's share of the launch beside the protocol's. -/
def bundle (c : Dev nD) : sProp 𝕄 :=
  iprop(StableHlo.held (c : Thread nD τ) (Pipeline.ucRefs τ sig) (V0 m c) ∗ creds c ∗ due c (O₀ c) ∗ ∃ r, prngReg c r)
def linear (c : Dev nD) : sProp 𝕄 :=
  iprop(atPos ER (barCell c) 0 ∅ 0 ∗ (bigSep Finset.univ fun k : Own => openTok ER (ownCell c k)) ∗ toks c)

theorem T₀_intro (κ : GSem nD τ sig → ℕ) (c : Dev nD) : iprop(records (pvOf m) κ ∗ (linear c ∗ bundle m c)) ⊢ T₀ m c := by
  unfold bundle linear T₀
  rw [E_zero]
  unfold Tk
  iintro ⟨#HR, ⟨Ha, Ho, Ht⟩, Hh, Hc, HO, Hp⟩
  isplitl [Hh]; · iexact Hh
  isplitl [Hp]; · iexact Hp
  isplitr [HO]
  · iexists κ
    isplitr; · iexact HR
    isplitl [Ha]; · iexact Ha
    isplitl [Ho]; · iexact Ho
    isplitl [Ht]; · iexact Ht
    iexact Hc
  iexact HO

variable (ρ : Dev nD → PrngReg)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c)
      from Pipeline.unscopedBufs_held (Ix := Unit) (Name := ℕ) (U := UU) (Lvl := ℕ) c (V0 m c), unscopedSems0_eq]
    unfold bundle due
    iintro ⟨Hh, Hus, HO, Hcr, Hp, HG⟩
    isplitr [Hus HG]
    · isplitl [Hh]; · iexact Hh
      isplitl [Hcr]; · iapply (creds_intro (F := F) c); iexact Hcr
      isplitl [HO]; · iexists ∅; iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Own => (openTok ER (ownCell c k) : sProp 𝕄)) :=
    Entails.of_eq (by rw [BI.bigSep_map, BI.bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := sep_all $$ H'; icases H2 with ⟨HB, H3⟩
  ihave H4 := sep_all $$ H3; icases H4 with ⟨Hv, HG⟩
  ihave Hu := (show bigSep Finset.univ (G (F := F)) ⊢ BI.own (ER (launchOf barCells ownCells allToks)) from
    Entails.of_eq (bigSep_onDev (F := F) 0 (BI.own (ER (launchOf barCells ownCells allToks))))) $$ HG
  imod (Rounds.fund_launch ER (Rd (pvOf m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (pvOf m) κ) (Φ := fun c => iprop(linear c ∗ bundle m c)) fun c _ => T₀_intro m κ c)
  isplitr
  · unfold records
    isplitr; · iexact Hinv
    iexact Hr
  iapply bigSep_two
  isplitr [HB]
  · unfold linear
    iapply bigSep_two; isplitl [Hat]; · iapply hat $$ Hat
    iapply bigSep_two; isplitl [Hopen]; · iapply hopen $$ Hopen
    iapply (toks_intro (F := F)) $$ Htok
  · iexact HB

theorem unscoped_eq : ∀ sm : SemLoc sig, sm.isScoped .tc = false → sm = .reg barS := by decide

theorem uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

set_option backward.isDefEq.respectTransparency.types false in
/-- The run: the arguments unchanged, the result on every device, every semaphore at zero. -/
theorem run_main : θ_run defs (onTc (τ := τ) (main (F := F))) ⟨m, fun _ => 0, ρ⟩
    (fun r => ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ ∀ c : Dev nD, r.2.mem ((c.tc : Thread nD τ).loc main_v15) = outV (pvOf m)) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Pipeline.Seg.run_eq_chain,
        show (segs m 𝒱₀ L lv (E m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, reg_pre m c, (reg_post m c).trans (by
      show iprop(StableHlo.held (c : Thread nD τ) (Pipeline.ucRefs τ sig) (V2 m (outs m) c) ∗ E m 1 c)
        ⊢ iprop(Tₙ m c ∗ ∃ W, owes (c : Thread nD τ) (0 : CellTallies nD τ sig Unit) W)
      rw [E_one]; unfold due
      iintro ⟨Hh, Hb, HO⟩
      isplitr [HO]
      · isplitl [Hh]; · iexact Hh
        iexact Hb
      iexact HO)⟩)
    (hinit := init m ρ)
    (QY := fun c s => (∀ b ∈ Pipeline.ucRefs τ sig, s.mem ((c : Thread nD τ).1, b) = V2 m (outs m) c b) ∧ s.sem (barCell c) = 0)
    (hfin := fun c s' => by
      dsimp only [Tₙ]; unfold Yk StableHlo.held
      iintro ⟨⟨Hh, Hb0⟩, HSI⟩
      icombine HSI Hb0 gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨⟨fun c => ⟨
        ((h c).1 _ (uc main_arg0 (by decide))).trans (V2_main_arg0 m (outs m) c),
        ((h c).1 _ (uc main_arg1 (by decide))).trans (V2_main_arg1 m (outs m) c),
        ((h c).1 _ (uc main_arg2 (by decide))).trans (V2_main_arg2 m (outs m) c),
        ((h c).1 _ (uc main_arg3 (by decide))).trans (V2_main_arg3 m (outs m) c),
        ((h c).1 _ (uc main_arg4 (by decide))).trans (V2_main_arg4 m (outs m) c)⟩,
        fun c => ((h c).1 _ (uc main_v15 (by decide))).trans (v2_out m c)⟩,
      sem_eq_zero hs fun c sm hsm => by
        obtain rfl := unscoped_eq sm hsm
        exact (h c).2⟩)
end Cert.KernelIdeal.Mha

end
-- ==== Proof.Softmax.lean ====
/-
  One head of softmax attention over the extended reals, and the kernel's payloads as sums.
-/
module

public import proofs.«01_k».proof.Proof.Heads
public import Idealize.ShloMosaic.PureOps.Ideal
public import Idealize.ShloMosaic.Lib.Pointwise

@[expose] public section

set_option maxRecDepth 16384

noncomputable section

namespace Cert.KernelIdeal.Mha

open Idealize.ShloMosaic Cert.KernelIdeal.Gen

/-! ## One head -/

/-- A block of 128 rows of 64 numbers. -/
abbrev Blk := Fin 128 → Fin 64 → EReal

/-- The scaled score of query row `i` against key row `j`. -/
def score (q k : Blk) (i j : Fin 128) : EReal := (∑ e, q i e * k j e) * Ideal.ofBits FTy.f32 0x3E000000#32
/-- Its exponential, the row's maximum taken off first. -/
def weight (q k : Blk) (i j : Fin 128) : EReal :=
  Ideal.exp (score q k i j - Finset.fold max (Ideal.ofBits FTy.f32 0xFF800000#32) (fun j => score q k i j) Finset.univ)
/-- The attention of one head. -/
def softHead (q k v : Blk) (i : Fin 128) (e : Fin 64) : EReal :=
  Ideal.div (∑ j, weight q k i j * v j e) (∑ j, weight q k i j)

/-! ## The kernel's payloads -/

theorem head_apply (q : FVec Ideal S256x512 .f32) (n : Fin 16) (k v : Vec Ideal S1x128x1x64 .bf16) (i : Fin 128) (e : Fin 64) :
    headOf q (offH n) (slicesH n) k v (ix2 i e)
      = softHead (fun i e => q (ix2 ⟨offH n 0 + i.val, lt_of_lt_of_le (Nat.add_lt_add_left i.isLt _) (inbH n 0)⟩
          ⟨offH n 1 + e.val, lt_of_lt_of_le (Nat.add_lt_add_left e.isLt _) (inbH n 1)⟩))
        (fun j e => k (ix4 0 j 0 e)) (fun j e => v (ix4 0 j 0 e)) i e := by
  unfold softHead weight score
  pointwise [headOf]

theorem q_apply (x : Vec Ideal S2x128x512 .bf16) (w : Vec Ideal S512x512 .bf16) (b : Fin 2) (i : Fin 128) (e : Fin 512) {h} :
    k0_pay1 x w (ix2 ⟨128 * b.val + i.val, h⟩ e) = ∑ t : Fin 512, x (ix3 b i t) * w (ix2 t e) := by
  pointwise [k0_pay1]

theorem part_apply (a : Vec Ideal S256x512 .bf16) (w : Vec Ideal S512x512 .bf16) (r : Fin 256) (d : Fin 512) :
    k0_pay52 a w (ix2 r d) = ∑ t : Fin 512, a (ix2 r t) * w (ix2 t d) := by
  pointwise [k0_pay52]

theorem sum_apply (p : Vec Ideal S32x8x512 .f32) (r : Fin 8) (d : Fin 512) : k0_pay53 p (ix2 r d) = ∑ c : Fin 32, p (ix3 c r d) := by
  pointwise [k0_pay53]

end Cert.KernelIdeal.Mha

end
-- ==== Proof.Reference.lean ====
/-
  The reference's result, index by index.
-/
module

public import proofs.«01_k».proof.Proof.Softmax
public import proofs.«01_k».proof.Proof.Gen.ReferenceIdeal.Run

@[expose] public section

set_option maxRecDepth 16384

noncomputable section

namespace Cert.ReferenceIdeal.Mha

open Idealize.ShloMosaic Cert.ReferenceIdeal Cert.ReferenceIdeal.Gen
open Cert.KernelIdeal.Mha (Blk score weight softHead)

variable (x : Vec Ideal S2x128x512 .bf16) (wq : Vec Ideal S512x16384 .bf16) (k v : Vec Ideal S2x128x256x64 .bf16) (wo : Vec Ideal S16384x512 .bf16)

/-- The queries, the scores, their exponentials, the attention, the result. -/
def queries : FVec Ideal S2x128x256x64 .f32 :=
  shapeCast _ (Host.dotGeneral dot_S2x128x512_S512x16384_S2x128x16384_2_0_01_1_n_n none (extf .f32 x bitsLt_bf16_f32) (extf .f32 wq bitsLt_bf16_f32))
    shapeCasts_S2x128x16384_S2x128x256x64
def scores : FVec Ideal S2x256x128x128 .f32 :=
  mulf (Host.dotGeneral dot_S2x128x256x64_S2x128x256x64_S2x256x128x128_3_3_1_1_02_02 none (queries x wq) (extf .f32 k bitsLt_bf16_f32))
    (broadcastInDim S2x256x128x128 ![] bcast_S_S2x256x128x128 (constant S_ .f32 0x3E000000#32))
def weights : FVec Ideal S2x256x128x128 .f32 :=
  Host.exp (subf (scores x wq k) (broadcastInDim S2x256x128x128 ![0, 1, 2, 3] bcast_S2x256x128x1_S2x256x128x128_0_1_2_3
    (broadcastInDim S2x256x128x1 ![0, 1, 2] bcast_S2x256x128_S2x256x128x1_0_1_2
      (Host.reduce FloatOps.maximumf (scores x wq k) (constant S_ .f32 0xFF800000#32) reducesTo_S2x256x128x128_S2x256x128_d3 h_S_))))
def heads : FVec Ideal S2x128x256x64 .f32 :=
  Host.divf (transpose S2x128x256x64 [0, 3, 1, 2] (Host.dotGeneral dot_S2x128x256x64_S2x256x128x128_S2x256x64x128_1_3_3_2_02_01 none
      (extf .f32 v bitsLt_bf16_f32) (weights x wq k)) transposes_S2x256x64x128_S2x128x256x64_0_3_1_2)
    (broadcastInDim S2x128x256x64 ![0, 1, 2, 3] bcast_S2x128x256x1_S2x128x256x64_0_1_2_3 (transpose S2x128x256x1 [0, 2, 1, 3]
      (broadcastInDim S2x256x128x1 ![0, 1, 2] bcast_S2x256x128_S2x256x128x1_0_1_2
        (Host.reduceAdd (weights x wq k) (constant S_ .f32 0x00000000#32) reducesTo_S2x256x128x128_S2x256x128_d3 h_S_))
      transposes_S2x256x128x1_S2x128x256x1_0_2_1_3))
def result : FVec Ideal S2x128x512 .f32 :=
  Host.dotGeneral dot_S2x128x16384_S16384x512_S2x128x512_2_0_01_1_n_n none
    (shapeCast _ (heads x wq k v) shapeCasts_S2x128x256x64_S2x128x16384) (extf .f32 wo bitsLt_bf16_f32)

/-- The queries of head `h` of batch `b`, its keys or values. -/
def qBlk (b : Fin 2) (h : Fin 256) : Blk := fun i e => ∑ t : Fin 512, x (ix3 b i t) * wq (ix2 t ⟨h.val * 64 + e.val, by omega⟩)
def kvBlk (b : Fin 2) (h : Fin 256) : Blk := fun j e => k (ix4 b j h e)

theorem queries_apply (b : Fin 2) (i : Fin 128) (h : Fin 256) (e : Fin 64) : queries x wq (ix4 b i h e) = qBlk x wq b h i e := by
  unfold qBlk
  pointwise [queries]

theorem scores_apply (b : Fin 2) (h : Fin 256) (i j : Fin 128) :
    scores x wq k (ix4 b h i j) = score (qBlk x wq b h) (kvBlk k b h) i j := by
  unfold score kvBlk
  pointwise [scores]
  simp only [queries_apply]

theorem weights_apply (b : Fin 2) (h : Fin 256) (i j : Fin 128) :
    weights x wq k (ix4 b h i j) = weight (qBlk x wq b h) (kvBlk k b h) i j := by
  unfold weight
  pointwise [weights]
  simp only [scores_apply]

theorem heads_apply (b : Fin 2) (h : Fin 256) (i : Fin 128) (e : Fin 64) :
    heads x wq k v (ix4 b i h e) = softHead (qBlk x wq b h) (kvBlk k b h) (kvBlk v b h) i e := by
  unfold softHead
  pointwise [heads]
  simp only [weights_apply]
  exact congrArg (Ideal.div · _) (Finset.sum_congr rfl fun j _ => mul_comm _ _)

theorem result_apply (b : Fin 2) (i : Fin 128) (d : Fin 512) :
    result x wq k v wo (ix3 b i d) = ∑ r : Fin 16384, softHead (qBlk x wq b ⟨r.val / 64, by omega⟩) (kvBlk k b ⟨r.val / 64, by omega⟩)
      (kvBlk v b ⟨r.val / 64, by omega⟩) i ⟨r.val % 64, Nat.mod_lt _ (by decide)⟩ * wo (ix2 r d) := by
  pointwise [result]
  simp only [heads_apply]

open Idealize.ShloMosaic.TcCoe Idealize.SL.Sem in
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Mha

end
-- ==== Proof.Value.lean ====
/-
  What the devices compute together is what the reference computes.
-/
module

public import proofs.«01_k».proof.Proof.Launch
public import proofs.«01_k».proof.Proof.Reference
public import Idealize.ShloMosaic.Lib.DynamicIndex
public import Idealize.ShloMosaic.Lib.Layout

@[expose] public section

set_option maxRecDepth 16384

noncomputable section

namespace Cert.KernelIdeal.Mha

open Idealize.ShloMosaic Idealize.ShloMosaic.TcCoe Idealize.ShloMosaic.StableHlo Idealize.SL.Sem Cert.KernelIdeal.Gen

/-! ## The heads a device takes -/

section Slices

variable {F : FTy → Type} [FloatOps F] (m : (ℓ : Loc nD τ sig) → Buf (Elt F) ℓ) (c : Dev nD)

/-- The first head of device `c`, as the program forms it. -/
def firstHead (c : Dev nD) : BitVec 32 :=
  have p : BitVec 32 := IntOp.muli (IntOp.remui .host (IntOp.divui .host (Dev.word c) 1#32) 32#32) 8#32
  Scalar.select (IntOp.cmpi .slt p 0#32) (IntOp.addi p 256#32) p
theorem firstHead_eq : ∀ c : Dev nD, (firstHead c).toInt = (8 * c.val : ℕ) := by decide

def sliceOf (x : Vec F S2x128x256x64 .bf16) : Vec F S2x128x8x64 .bf16 :=
  Host.dynamicSlice S2x128x8x64 x (fun k => ((![0#32, 0#32, firstHead c, 0#32] : Fin 4 → BitVec 32) k).toInt) sliceFits_S2x128x256x64_S2x128x8x64

theorem slice_apply (x : Vec F S2x128x256x64 .bf16) (b : Fin 2) (j : Fin 128) (h : Fin 8) (e : Fin 64) :
    sliceOf c x (ix4 b j h e) = x (ix4 b j ⟨8 * c.val + h.val, by have := lt32 c; omega⟩ e) := by
  have hc := lt32 c
  have ho : S2x128x256x64.Slices ![0, 0, 8 * c.val, 0] S2x128x8x64 := ⟨rfl, fun a => match a with
    | ⟨0, _⟩ => show 0 + 2 ≤ 2 by decide
    | ⟨1, _⟩ => show 0 + 128 ≤ 128 by decide
    | ⟨2, _⟩ => show 8 * c.val + 8 ≤ 256 by omega
    | ⟨3, _⟩ => show 0 + 64 ≤ 64 by decide⟩
  unfold sliceOf
  rw [Host.dynamicSlice_eq_extractStridedSlice _ _ _ ![0, 0, 8 * c.val, 0] _ ho (fun a => match a with
    | ⟨0, _⟩ => rfl
    | ⟨1, _⟩ => rfl
    | ⟨2, _⟩ => firstHead_eq c
    | ⟨3, _⟩ => rfl)]
  refine congrArg x (funext fun a => match a with
    | ⟨0, _⟩ => Fin.ext (Nat.zero_add _)
    | ⟨1, _⟩ => Fin.ext (Nat.zero_add _)
    | ⟨2, _⟩ => rfl
    | ⟨3, _⟩ => Fin.ext (Nat.zero_add _))

theorem keys_eq : V1 m c main_v9 = sliceOf c (m ((c : Thread nD τ).loc main_arg2)) := by
  show StableHlo.after (hostOps0 c) (V0 m c) main_v9 = _
  after_results
  unfold sliceOf
  refine congrArg (fun s => Host.dynamicSlice S2x128x8x64 (m ((c : Thread nD τ).loc main_arg2)) s sliceFits_S2x128x256x64_S2x128x8x64) (funext fun k => ?_)
  refine congrArg BitVec.toInt ?_
  match k with
  | 0 => rfl
  | 1 => rfl
  | 2 =>
    dsimp only [Matrix.cons_val, cast_eq]
    refine congrFun (eq_of_heq ((cast_heq _ _).trans (heq_of_eq ?_)) : _ = fun _ => firstHead c) (Shape.Idx.first h_S_)
    repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)
      | (rw [unaryIndexed_result_ne]; rotate_left; decide))
    rfl
  | 3 => rfl
theorem values_eq : V1 m c main_v14 = sliceOf c (m ((c : Thread nD τ).loc main_arg3)) := by
  show StableHlo.after (hostOps0 c) (V0 m c) main_v14 = _
  after_results
  unfold sliceOf
  refine congrArg (fun s => Host.dynamicSlice S2x128x8x64 (m ((c : Thread nD τ).loc main_arg3)) s sliceFits_S2x128x256x64_S2x128x8x64) (funext fun k => ?_)
  refine congrArg BitVec.toInt ?_
  match k with
  | 0 => rfl
  | 1 => rfl
  | 2 =>
    dsimp only [Matrix.cons_val, cast_eq]
    refine congrFun (eq_of_heq ((cast_heq _ _).trans (heq_of_eq ?_)) : _ = fun _ => firstHead c) (Shape.Idx.first h_S_)
    repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)
      | (rw [unaryIndexed_result_ne]; rotate_left; decide))
    rfl
  | 3 => rfl

theorem x_eq : V1 m c main_arg0 = m ((c : Thread nD τ).loc main_arg0) := V1_of m c main_arg0 (by decide)
theorem wq_eq : V1 m c main_arg1 = m ((c : Thread nD τ).loc main_arg1) := V1_of m c main_arg1 (by decide)
theorem wo_eq : V1 m c main_arg4 = m ((c : Thread nD τ).loc main_arg4) := V1_of m c main_arg4 (by decide)

end Slices

/-! ## The attention of a device -/

section Attention

variable (q : FVec Ideal S256x512 .f32) (K V : Vec Ideal S2x128x8x64 .bf16)

theorem kblk_apply (n : Fin 16) (j : Fin 128) (e : Fin 64) :
    kblk K n (ix4 0 j 0 e) = K (ix4 ⟨n.val / 8, by omega⟩ j ⟨n.val % 8, Nat.mod_lt _ (by decide)⟩ e) := by
  refine congrArg K (funext fun a => match a with
    | ⟨0, _⟩ => Fin.ext (Nat.add_zero _)
    | ⟨1, _⟩ => Fin.ext (show 0 + 1 * j.val = j.val by omega)
    | ⟨2, _⟩ => Fin.ext (Nat.add_zero _)
    | ⟨3, _⟩ => Fin.ext (show 0 + 1 * e.val = e.val by omega))

theorem attn_apply (b : Fin 2) (i : Fin 128) (t : Fin 512) :
    attnV q K V (ix2 ⟨128 * b.val + i.val, by omega⟩ t)
      = softHead (fun i e => q (ix2 ⟨128 * b.val + i.val, by omega⟩ ⟨64 * (t.val / 64) + e.val, by omega⟩))
          (fun j e => K (ix4 b j ⟨t.val / 64, by omega⟩ e)) (fun j e => V (ix4 b j ⟨t.val / 64, by omega⟩ e)) i
          ⟨t.val % 64, Nat.mod_lt _ (by decide)⟩ := by
  have hn : blkOf (ix2 ⟨128 * b.val + i.val, by omega⟩ t) = ⟨8 * b.val + t.val / 64, by omega⟩ :=
    Fin.ext (show 8 * ((128 * b.val + i.val) / 128) + t.val / 64 = _ by simp only; omega)
  have hi : inBlk (ix2 ⟨128 * b.val + i.val, by omega⟩ t) = ix2 i ⟨t.val % 64, Nat.mod_lt _ (by decide)⟩ := funext fun a => match a with
    | ⟨0, _⟩ => Fin.ext (show (128 * b.val + i.val) % 128 = i.val by omega)
    | ⟨1, _⟩ => rfl
  show headV q K V (blkOf _) (inBlk _) = _
  rw [hn, hi]
  refine (head_apply _ _ _ _ _ _).trans ?_
  simp only [kblk_apply]
  have hb : (8 * b.val + t.val / 64) / 8 = b.val := by omega
  have hh : (8 * b.val + t.val / 64) % 8 = t.val / 64 := by omega
  have e1 : (⟨(8 * b.val + t.val / 64) / 8, by omega⟩ : Fin 2) = b := Fin.ext hb
  have e2 : (⟨(8 * b.val + t.val / 64) % 8, Nat.mod_lt _ (by decide)⟩ : Fin 8) = ⟨t.val / 64, by omega⟩ := Fin.ext hh
  rw [e1, e2]
  congr 1
  funext i e
  refine congrArg q (funext fun a => match a with
    | ⟨0, _⟩ => Fin.ext (show 128 * ((8 * b.val + t.val / 64) / 8) + i.val = 128 * b.val + i.val by rw [hb])
    | ⟨1, _⟩ => Fin.ext (show 64 * ((8 * b.val + t.val / 64) % 8) + e.val = 64 * (t.val / 64) + e.val by rw [hh]))

end Attention

/-! ## The result -/

section Result

open Cert.ReferenceIdeal.Mha

theorem out_apply (pv : Dev nD → Vec Ideal S256x512 .f32) (b : Fin 2) (i : Fin 128) (d : Fin 512) :
    outV pv (ix3 b i d) = ∑ c : Fin 32, pv c (ix2 ⟨128 * b.val + i.val, by omega⟩ d) := by
  refine (sum_apply _ _ _).trans (Finset.sum_congr rfl fun c _ => ?_)
  refine congrArg (pv c) (funext fun a => match a with
    | ⟨0, _⟩ => Fin.ext (show 8 * (16 * b.val + i.val / 8) + i.val % 8 = 128 * b.val + i.val by omega)
    | ⟨1, _⟩ => rfl)

variable (m : (ℓ : Loc nD τ sig) → Buf (Elt Ideal) ℓ)
variable (x : Vec Ideal S2x128x512 .bf16) (wq : Vec Ideal ⟨2, ![512, 16384]⟩ .bf16) (k v : Vec Ideal S2x128x256x64 .bf16)
  (wo : Vec Ideal ⟨2, ![16384, 512]⟩ .bf16)

/-- One device's part of one entry of the result. -/
theorem part_eq (c : Dev nD) (hx : m ((c : Thread nD τ).loc main_arg0) = x)
    (hq : m ((c : Thread nD τ).loc main_arg1) = Layout.block ⟨2, ![512, 512]⟩ ⟨2, ![512, 16384]⟩ 1 32 c wq)
    (hk : m ((c : Thread nD τ).loc main_arg2) = k) (hv : m ((c : Thread nD τ).loc main_arg3) = v)
    (ho : m ((c : Thread nD τ).loc main_arg4) = Layout.block ⟨2, ![512, 512]⟩ ⟨2, ![16384, 512]⟩ 0 32 c wo)
    (b : Fin 2) (i : Fin 128) (d : Fin 512) :
    pvOf m c (ix2 ⟨128 * b.val + i.val, by omega⟩ d) = ∑ t : Fin 512,
      softHead (qBlk x wq b ⟨8 * c.val + t.val / 64, by have := lt32 c; omega⟩)
        (kvBlk k b ⟨8 * c.val + t.val / 64, by have := lt32 c; omega⟩) (kvBlk v b ⟨8 * c.val + t.val / 64, by have := lt32 c; omega⟩) i
        ⟨t.val % 64, Nat.mod_lt _ (by decide)⟩ * wo (ix2 ⟨512 * c.val + t.val, by have := lt32 c; omega⟩ d) := by
  have hc := lt32 c
  refine (part_apply _ _ _ _).trans (Finset.sum_congr rfl fun t _ => ?_)
  refine congr (congrArg (· * ·) ((attn_apply _ _ _ b i t).trans ?_)) ?_
  · have hK : (opnds m c).k = sliceOf c k := (keys_eq m c).trans (congrArg (sliceOf c) hk)
    have hV : (opnds m c).v = sliceOf c v := (values_eq m c).trans (congrArg (sliceOf c) hv)
    have hX : (opnds m c).x = x := (x_eq m c).trans hx
    have hQ : (opnds m c).wq = Layout.block ⟨2, ![512, 512]⟩ ⟨2, ![512, 16384]⟩ 1 32 c wq := (wq_eq m c).trans hq
    rw [hK, hV]
    have e1 : (fun (i : Fin 128) (e : Fin 64) => (opnds m c).q (ix2 ⟨128 * b.val + i.val, by omega⟩ ⟨64 * (t.val / 64) + e.val, by omega⟩))
        = qBlk x wq b ⟨8 * c.val + t.val / 64, by omega⟩ := by
      funext i e
      refine (q_apply _ _ b i _).trans (Finset.sum_congr rfl fun s _ => ?_)
      rw [hX, hQ]
      refine congrArg (fun z => x (ix3 b i s) * wq z) (funext fun a => match a with
        | ⟨0, _⟩ => rfl
        | ⟨1, _⟩ => Fin.ext (show c.val * 512 + (64 * (t.val / 64) + e.val) = (8 * c.val + t.val / 64) * 64 + e.val by omega))
    have e2 : ∀ y : Vec Ideal S2x128x256x64 .bf16, (fun (j : Fin 128) (e : Fin 64) => sliceOf c y (ix4 b j ⟨t.val / 64, by omega⟩ e))
        = kvBlk y b ⟨8 * c.val + t.val / 64, by omega⟩ := fun y => funext fun j => funext fun e => slice_apply c y b j _ e
    rw [e1, e2, e2]
  · have hO : (opnds m c).wo = Layout.block ⟨2, ![512, 512]⟩ ⟨2, ![16384, 512]⟩ 0 32 c wo := (wo_eq m c).trans ho
    rw [hO]
    refine congrArg wo (funext fun a => match a with
      | ⟨0, _⟩ => Fin.ext (show c.val * 512 + t.val = 512 * c.val + t.val by omega)
      | ⟨1, _⟩ => rfl)

/-- A sum over all rows is the sum over the devices of the sums over their rows. -/
theorem sum_rows (f : Fin 16384 → EReal) : ∑ r, f r = ∑ c : Fin 32, ∑ t : Fin 512, f ⟨512 * c.val + t.val, by omega⟩ := by
  rw [← Fintype.sum_prod_type' (f := fun (c : Fin 32) (t : Fin 512) => f ⟨512 * c.val + t.val, by omega⟩)]
  refine (Equiv.sum_comp (finProdFinEquiv (m := 32) (n := 512)) f).symm.trans (Finset.sum_congr rfl fun y _ => ?_)
  refine congrArg f (Fin.ext ?_)
  show y.2.val + 512 * y.1.val = 512 * y.1.val + y.2.val
  omega

/-- What the devices leave is what the reference leaves. -/
theorem out_eq (hx : ∀ c : Dev nD, m ((c : Thread nD τ).loc main_arg0) = x)
    (hq : ∀ c : Dev nD, m ((c : Thread nD τ).loc main_arg1) = Layout.block ⟨2, ![512, 512]⟩ ⟨2, ![512, 16384]⟩ 1 32 c wq)
    (hk : ∀ c : Dev nD, m ((c : Thread nD τ).loc main_arg2) = k) (hv : ∀ c : Dev nD, m ((c : Thread nD τ).loc main_arg3) = v)
    (ho : ∀ c : Dev nD, m ((c : Thread nD τ).loc main_arg4) = Layout.block ⟨2, ![512, 512]⟩ ⟨2, ![16384, 512]⟩ 0 32 c wo) :
    outV (pvOf m) = result x wq k v wo := by
  funext z
  obtain ⟨b, i, d, rfl⟩ : ∃ (b : Fin 2) (i : Fin 128) (d : Fin 512), z = ix3 b i d :=
    ⟨z 0, z 1, z 2, funext fun a => match a with | ⟨0, _⟩ => rfl | ⟨1, _⟩ => rfl | ⟨2, _⟩ => rfl⟩
  refine (out_apply _ b i d).trans (Eq.trans ?_ (result_apply x wq k v wo b i d).symm)
  rw [sum_rows]
  refine Finset.sum_congr rfl fun c _ => (part_eq m x wq k v wo c (hx c) (hq c) (hk c) (hv c) (ho c) b i d).trans
    (Finset.sum_congr rfl fun t _ => ?_)
  have e1 : (512 * c.val + t.val) / 64 = 8 * c.val + t.val / 64 := by omega
  have e2 : (512 * c.val + t.val) % 64 = t.val % 64 := by omega
  simp only [e1, e2]

end Result

end Cert.KernelIdeal.Mha

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_kernelIdeal : Cert.quiescent_KernelIdeal := fun m ρ _ =>
  (θ_run Cert.KernelIdeal.defs _ _).mono (fun _ h => ⟨h.1.1, h.2⟩) (Cert.KernelIdeal.Mha.run_main (F := Ideal) m ρ)

/-- The program as written has the same text: its body table is the idealized one's, row by row. -/
theorem bodies_same : Cert.Kernel.defs₀ (F := Bits) = Cert.KernelIdeal.defs₀ (F := Bits) :=
  congrArg Defs.onTc (funext fun ℓ => funext fun a => by
    match ℓ, a with
    | 0, (t, s) => rfl
    | ⟨_ + 1, h⟩, _ => exact absurd h (Nat.not_lt.2 (Nat.le_add_left _ _)))
theorem defs_same : Cert.Kernel.defs (F := Bits) = Cert.KernelIdeal.defs (F := Bits) :=
  congrArg (Pipeline.defs Cert.KernelIdeal.pcfgs) bodies_same

theorem frame_kernel : Cert.quiescent_Kernel := fun m ρ _ => by
  rw [defs_same]
  exact (θ_run Cert.KernelIdeal.defs _ _).mono (fun _ h => ⟨h.1.1, h.2⟩) (Cert.KernelIdeal.Mha.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Idealize.ShloMosaic.TcCoe in
theorem algebraic : Cert.algebraic_KernelIdeal_ReferenceIdeal := fun m g m' g' _ hin => by
  have e := Cert.KernelIdeal.Mha.out_eq m _ _ _ _ _ (fun c => (hin c).1) (fun c => (hin c).2.1) (fun c => (hin c).2.2.1)
    (fun c => (hin c).2.2.2.1) (fun c => (hin c).2.2.2.2)
  refine ⟨_, (θ_run Cert.KernelIdeal.defs _ _).mono (fun _ h c => ⟨(h.1.2 c).trans e, h.1.1 c⟩)
    (Cert.KernelIdeal.Mha.run_main (F := Ideal) m g), ?_⟩
  exact (θ_run Cert.ReferenceIdeal.defs _ _).mono (fun _ h => h 0) (Cert.ReferenceIdeal.Mha.run_result m' g')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
